-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x16384 : Shape := ⟨2, ![768, 16384]⟩
abbrev S2x512x8x64 : Shape := ⟨4, ![2, 512, 8, 64]⟩
abbrev S16384x768 : Shape := ⟨2, ![16384, 768]⟩
abbrev S_ : Shape := ⟨0, ![]⟩

class Facts : Prop where
  bcast_S_S2x512x768 : S_.BroadcastsInDim S2x512x768 (![] : Fin 0 → Fin S2x512x768.rank)
  bcast_S_S768x16384 : S_.BroadcastsInDim S768x16384 (![] : Fin 0 → Fin S768x16384.rank)
  bcast_S_S2x512x8x64 : S_.BroadcastsInDim S2x512x8x64 (![] : Fin 0 → Fin S2x512x8x64.rank)

variable [Facts]

def fn {F : FTy → Type} [FloatOps F] (main_arg0 : FVec F S2x512x768 .f32) (main_arg1 : FVec F S768x16384 .f32) (main_arg2 : FVec F S2x512x8x64 .f32) (main_arg3 : FVec F S2x512x8x64 .f32) (main_arg4 : FVec F S16384x768 .f32) : IVec S2x512x768 1 × IVec S768x16384 1 × IVec S2x512x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x16384 .f32 := Host.absf main_arg1
  let main_cst_0 : FVec F S_ .f32 := constant S_ .f32 0x7F800000#32
  let main_v4 : FVec F S768x16384 .f32 := broadcastInDim S768x16384 ![] bcast_S_S768x16384 main_cst_0
  let main_v5 : IVec S768x16384 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_finite_ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S_ : Shape := ⟨0, ![]⟩

class Facts : Prop where
  bcast_S_S2x512x768 : S_.BroadcastsInDim S2x512x768 (![] : Fin 0 → Fin S2x512x768.rank)
  bcast_S_S768x16384 : S_.BroadcastsInDim S768x16384 (![] : Fin 0 → Fin S768x16384.rank)
  bcast_S_S2x512x256x64 : S_.BroadcastsInDim S2x512x256x64 (![] : Fin 0 → Fin S2x512x256x64.rank)

variable [Facts]

def fn {F : FTy → Type} [FloatOps F] (main_arg0 : FVec F S2x512x768 .f32) (main_arg1 : FVec F S768x16384 .f32) (main_arg2 : FVec F S2x512x256x64 .f32) (main_arg3 : FVec F S2x512x256x64 .f32) (main_arg4 : FVec F S16384x768 .f32) : IVec S2x512x768 1 × IVec S768x16384 1 × IVec S2x512x256x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x16384 .f32 := Host.absf main_arg1
  let main_cst_0 : FVec F S_ .f32 := constant S_ .f32 0x7F800000#32
  let main_v4 : FVec F S768x16384 .f32 := broadcastInDim S768x16384 ![] bcast_S_S768x16384 main_cst_0
  let main_v5 : IVec S768x16384 1 := cmpf .olt main_v3 main_v4
  let main_v6 : FVec F S2x512x256x64 .f32 := Host.absf main_arg2
  let main_cst_1 : FVec F S_ .f32 := constant S_ .f32 0x7F800000#32
  let main_v7 : FVec F S2x512x256x64 .f32 := broadcastInDim S2x512x256x64 ![] bcast_S_S2x512x256x64 main_cst_1
  let main_v8 : IVec S2x512x256x64 1 := cmpf .olt main_v6 main_v7
  (main_v2, main_v5, main_v8)
-- ==== Kernel.lean ====
abbrev S2x512x768 : Shape := ⟨3, ![2, 512, 768]⟩
abbrev S768x16384 : Shape := ⟨2, ![768, 16384]⟩
abbrev S2x512x8x64 : Shape := ⟨4, ![2, 512, 8, 64]⟩
abbrev S16384x768 : Shape := ⟨2, ![16384, 768]⟩
abbrev S_ : Shape := ⟨0, ![]⟩
abbrev S768x512 : Shape := ⟨2, ![768, 512]⟩
abbrev S512x768 : Shape := ⟨2, ![512, 768]⟩
abbrev S1024x768 : Shape := ⟨2, ![1024, 768]⟩
abbrev S512x512 : Shape := ⟨2, ![512, 512]⟩
abbrev S15x32x768 : Shape := ⟨3, ![15, 32, 768]⟩
abbrev S15 : Shape := ⟨1, ![15]⟩
abbrev S16 : Shape := ⟨1, ![16]⟩
abbrev S1x512x768 : Shape := ⟨3, ![1, 512, 768]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S1 : Shape := ⟨1, ![1]⟩
abbrev S1x32x768 : Shape := ⟨3, ![1, 32, 768]⟩
abbrev S32x768 : Shape := ⟨2, ![32, 768]⟩

abbrev nBuf : Space → Nat
  | .hbm => 36
  | .vmem => 12
  | .smem => 0
  | _ => 0

abbrev bufTy : (tb : Table) → Fin (tcTables nBuf tb) → BufTy
  | .hbm, ⟨0, _⟩ => ⟨S2x512x768, .f32⟩
  | .hbm, ⟨1, _⟩ => ⟨S768x16384, .f32⟩
  | .hbm, ⟨2, _⟩ => ⟨S2x512x8x64, .f32⟩
  | .hbm, ⟨3, _⟩ => ⟨S2x512x8x64, .f32⟩
  | .hbm, ⟨4, _⟩ => ⟨S16384x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .f32⟩
  | .hbm, ⟨20, _⟩ => ⟨S768x512, .bf16⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S512x768, .f32⟩
  | .hbm, ⟨30, _⟩ => ⟨S512x768, .bf16⟩
  | .hbm, ⟨31, _⟩ => ⟨S2x512x768, .bf16⟩
  | .hbm, ⟨32, _⟩ => ⟨S2x512x8x64, .bf16⟩
  | .hbm, ⟨33, _⟩ => ⟨S2x512x8x64, .bf16⟩
  | .hbm, ⟨34, _⟩ => ⟨S1024x768, .f32⟩
  | .hbm, ⟨35, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S1024x768, .f32⟩
  | .local _ .vmem, ⟨6, _⟩ => ⟨S1024x768, .bf16⟩
  | .local _ .vmem, ⟨7, _⟩ => ⟨S512x512, .bf16⟩
  | .local _ .vmem, ⟨8, _⟩ => ⟨S512x768, .bf16⟩
  | .local _ .vmem, ⟨9, _⟩ => ⟨S15x32x768, .bf16⟩
  | .local _ .vmem, ⟨10, _⟩ => ⟨S512x768, .bf16⟩
  | .local _ .vmem, ⟨11, _⟩ => ⟨S512x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_c_5 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_10 : BitVec 32 := 1#32
  let v28 : BitVec 32 := Scalar.muli v6 c1_i32_10
  let v29 : BitVec 32 := Scalar.addi c0_i32_11 v28
  v29.toNat
def k0_dev2 (d0 : Dev nD) : Nat :=
  let c0_i32_16 : BitVec 32 := 0#32
  let c2_i32_13 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c1_i32_12 : BitVec 32 := 1#32
  let v30 : BitVec 32 := Scalar.addi v23 c1_i32_12
  let c16_i32 : BitVec 32 := 16#32
  let v31 : BitVec 32 := Scalar.remsi v30 c16_i32
  let v32 : BitVec 32 := Scalar.muli c2_i32_13 v31
  let c2_i32 : BitVec 32 := 2#32
  let v3 : BitVec 32 := Scalar.remsi v2 c2_i32
  let v33 : BitVec 32 := Scalar.addi v32 v3
  let c1_i32_15 : BitVec 32 := 1#32
  let v34 : BitVec 32 := Scalar.muli v33 c1_i32_15
  let v35 : BitVec 32 := Scalar.addi c0_i32_16 v34
  v35.toNat
def k0_dev3 (d0 : Dev nD) : Nat :=
  let c0_i32_22 : BitVec 32 := 0#32
  let c2_i32_19 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c2_i32_17 : BitVec 32 := 2#32
  let v36 : BitVec 32 := Scalar.addi v23 c2_i32_17
  let c16_i32_18 : BitVec 32 := 16#32
  let v37 : BitVec 32 := Scalar.remsi v36 c16_i32_18
  let v38 : BitVec 32 := Scalar.muli c2_i32_19 v37
  let c2_i32 : BitVec 32 := 2#32
  let v3 : BitVec 32 := Scalar.remsi v2 c2_i32
  let v39 : BitVec 32 := Scalar.addi v38 v3
  let c1_i32_21 : BitVec 32 := 1#32
  let v40 : BitVec 32 := Scalar.muli v39 c1_i32_21
  let v41 : BitVec 32 := Scalar.addi c0_i32_22 v40
  v41.toNat
def k0_dev4 (d0 : Dev nD) : Nat :=
  let c0_i32_27 : BitVec 32 := 0#32
  let c2_i32_24 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c3_i32 : BitVec 32 := 3#32
  let v42 : BitVec 32 := Scalar.addi v23 c3_i32
  let c16_i32_23 : BitVec 32 := 16#32
  let v43 : BitVec 32 := Scalar.remsi v42 c16_i32_23
  let v44 : BitVec 32 := Scalar.muli c2_i32_24 v43
  let c2_i32 : BitVec 32 := 2#32
  let v3 : BitVec 32 := Scalar.remsi v2 c2_i32
  let v45 : BitVec 32 := Scalar.addi v44 v3
  let c1_i32_26 : BitVec 32 := 1#32
  let v46 : BitVec 32 := Scalar.muli v45 c1_i32_26
  let v47 : BitVec 32 := Scalar.addi c0_i32_27 v46
  v47.toNat
def k0_dev5 (d0 : Dev nD) : Nat :=
  let c0_i32_32 : BitVec 32 := 0#32
  let c2_i32_29 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c4_i32 : BitVec 32 := 4#32
  let v48 : BitVec 32 := Scalar.addi v23 c4_i32
  let c16_i32_28 : BitVec 32 := 16#32
  let v49 : BitVec 32 := Scalar.remsi v48 c16_i32_28
  let v50 : BitVec 32 := Scalar.muli c2_i32_29 v49
  let c2_i32 : BitVec 32 := 2#32
  let v3 : BitVec 32 := Scalar.remsi v2 c2_i32
  let v51 : BitVec 32 := Scalar.addi v50 v3
  let c1_i32_31 : BitVec 32 := 1#32
  let v52 : BitVec 32 := Scalar.muli v51 c1_i32_31
  let v53 : BitVec 32 := Scalar.addi c0_i32_32 v52
  v53.toNat
def k0_dev6 (d0 : Dev nD) : Nat :=
  let c0_i32_37 : BitVec 32 := 0#32
  let c2_i32_34 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c5_i32 : BitVec 32 := 5#32
  let v54 : BitVec 32 := Scalar.addi v23 c5_i32
  let c16_i32_33 : BitVec 32 := 16#32
  let v55 : BitVec 32 := Scalar.remsi v54 c16_i32_33
  let v56 : BitVec 32 := Scalar.muli c2_i32_34 v55
  let c2_i32 : BitVec 32 := 2#32
  let v3 : BitVec 32 := Scalar.remsi v2 c2_i32
  let v57 : BitVec 32 := Scalar.addi v56 v3
  let c1_i32_36 : BitVec 32 := 1#32
  let v58 : BitVec 32 := Scalar.muli v57 c1_i32_36
  let v59 : BitVec 32 := Scalar.addi c0_i32_37 v58
  v59.toNat
def k0_dev7 (d0 : Dev nD) : Nat :=
  let c0_i32_42 : BitVec 32 := 0#32
  let c2_i32_39 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c6_i32 : BitVec 32 := 6#32
  let v60 : BitVec 32 := Scalar.addi v23 c6_i32
  let c16_i32_38 : BitVec 32 := 16#32
  let v61 : BitVec 32 := Scalar.remsi v60 c16_i32_38
  let v62 : BitVec 32 := Scalar.muli c2_i32_39 v61
  let c2_i32 : BitVec 32 := 2#32
  let v3 : BitVec 32 := Scalar.remsi v2 c2_i32
  let v63 : BitVec 32 := Scalar.addi v62 v3
  let c1_i32_41 : BitVec 32 := 1#32
  let v64 : BitVec 32 := Scalar.muli v63 c1_i32_41
  let v65 : BitVec 32 := Scalar.addi c0_i32_42 v64
  v65.toNat
def k0_dev8 (d0 : Dev nD) : Nat :=
  let c0_i32_47 : BitVec 32 := 0#32
  let c2_i32_44 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c7_i32 : BitVec 32 := 7#32
  let v66 : BitVec 32 := Scalar.addi v23 c7_i32
  let c16_i32_43 : BitVec 32 := 16#32
  let v67 : BitVec 32 := Scalar.remsi v66 c16_i32_43
  let v68 : BitVec 32 := Scalar.muli c2_i32_44 v67
  let c2_i32 : BitVec 32 := 2#32
  let v3 : BitVec 32 := Scalar.remsi v2 c2_i32
  let v69 : BitVec 32 := Scalar.addi v68 v3
  let c1_i32_46 : BitVec 32 := 1#32
  let v70 : BitVec 32 := Scalar.muli v69 c1_i32_46
  let v71 : BitVec 32 := Scalar.addi c0_i32_47 v70
  v71.toNat
def k0_dev9 (d0 : Dev nD) : Nat :=
  let c0_i32_52 : BitVec 32 := 0#32
  let c2_i32_49 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c8_i32 : BitVec 32 := 8#32
  let v72 : BitVec 32 := Scalar.addi v23 c8_i32
  let c16_i32_48 : BitVec 32 := 16#32
  let v73 : BitVec 32 := Scalar.remsi v72 c16_i32_48
  let v74 : BitVec 32 := Scalar.muli c2_i32_49 v73
  let c2_i32 : BitVec 32 := 2#32
  let v3 : BitVec 32 := Scalar.remsi v2 c2_i32
  let v75 : BitVec 32 := Scalar.addi v74 v3
  let c1_i32_51 : BitVec 32 := 1#32
  let v76 : BitVec 32 := Scalar.muli v75 c1_i32_51
  let v77 : BitVec 32 := Scalar.addi c0_i32_52 v76
  v77.toNat
def k0_dev10 (d0 : Dev nD) : Nat :=
  let c0_i32_57 : BitVec 32 := 0#32
  let c2_i32_54 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c9_i32 : BitVec 32 := 9#32
  let v78 : BitVec 32 := Scalar.addi v23 c9_i32
  let c16_i32_53 : BitVec 32 := 16#32
  let v79 : BitVec 32 := Scalar.remsi v78 c16_i32_53
  let v80 : BitVec 32 := Scalar.muli c2_i32_54 v79
  let c2_i32 : BitVec 32 := 2#32
  let v3 : BitVec 32 := Scalar.remsi v2 c2_i32
  let v81 : BitVec 32 := Scalar.addi v80 v3
  let c1_i32_56 : BitVec 32 := 1#32
  let v82 : BitVec 32 := Scalar.muli v81 c1_i32_56
  let v83 : BitVec 32 := Scalar.addi c0_i32_57 v82
  v83.toNat
def k0_dev11 (d0 : Dev nD) : Nat :=
  let c0_i32_62 : BitVec 32 := 0#32
  let c2_i32_59 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c10_i32 : BitVec 32 := 10#32
  let v84 : BitVec 32 := Scalar.addi v23 c10_i32
  let c16_i32_58 : BitVec 32 := 16#32
  let v85 : BitVec 32 := Scalar.remsi v84 c16_i32_58
  let v86 : BitVec 32 := Scalar.muli c2_i32_59 v85
  let c2_i32 : BitVec 32 := 2#32
  let v3 : BitVec 32 := Scalar.remsi v2 c2_i32
  let v87 : BitVec 32 := Scalar.addi v86 v3
  let c1_i32_61 : BitVec 32 := 1#32
  let v88 : BitVec 32 := Scalar.muli v87 c1_i32_61
  let v89 : BitVec 32 := Scalar.addi c0_i32_62 v88
  v89.toNat
def k0_dev12 (d0 : Dev nD) : Nat :=
  let c0_i32_67 : BitVec 32 := 0#32
  let c2_i32_64 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c11_i32 : BitVec 32 := 11#32
  let v90 : BitVec 32 := Scalar.addi v23 c11_i32
  let c16_i32_63 : BitVec 32 := 16#32
  let v91 : BitVec 32 := Scalar.remsi v90 c16_i32_63
  let v92 : BitVec 32 := Scalar.muli c2_i32_64 v91
  let c2_i32 : BitVec 32 := 2#32
  let v3 : BitVec 32 := Scalar.remsi v2 c2_i32
  let v93 : BitVec 32 := Scalar.addi v92 v3
  let c1_i32_66 : BitVec 32 := 1#32
  let v94 : BitVec 32 := Scalar.muli v93 c1_i32_66
  let v95 : BitVec 32 := Scalar.addi c0_i32_67 v94
  v95.toNat
def k0_dev13 (d0 : Dev nD) : Nat :=
  let c0_i32_72 : BitVec 32 := 0#32
  let c2_i32_69 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c12_i32 : BitVec 32 := 12#32
  let v96 : BitVec 32 := Scalar.addi v23 c12_i32
  let c16_i32_68 : BitVec 32 := 16#32
  let v97 : BitVec 32 := Scalar.remsi v96 c16_i32_68
  let v98 : BitVec 32 := Scalar.muli c2_i32_69 v97
  let c2_i32 : BitVec 32 := 2#32
  let v3 : BitVec 32 := Scalar.remsi v2 c2_i32
  let v99 : BitVec 32 := Scalar.addi v98 v3
  let c1_i32_71 : BitVec 32 := 1#32
  let v100 : BitVec 32 := Scalar.muli v99 c1_i32_71
  let v101 : BitVec 32 := Scalar.addi c0_i32_72 v100
  v101.toNat
def k0_dev14 (d0 : Dev nD) : Nat :=
  let c0_i32_77 : BitVec 32 := 0#32
  let c2_i32_74 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c13_i32 : BitVec 32 := 13#32
  let v102 : BitVec 32 := Scalar.addi v23 c13_i32
  let c16_i32_73 : BitVec 32 := 16#32
  let v103 : BitVec 32 := Scalar.remsi v102 c16_i32_73
  let v104 : BitVec 32 := Scalar.muli c2_i32_74 v103
  let c2_i32 : BitVec 32 := 2#32
  let v3 : BitVec 32 := Scalar.remsi v2 c2_i32
  let v105 : BitVec 32 := Scalar.addi v104 v3
  let c1_i32_76 : BitVec 32 := 1#32
  let v106 : BitVec 32 := Scalar.muli v105 c1_i32_76
  let v107 : BitVec 32 := Scalar.addi c0_i32_77 v106
  v107.toNat
def k0_dev15 (d0 : Dev nD) : Nat :=
  let c0_i32_82 : BitVec 32 := 0#32
  let c2_i32_79 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c14_i32 : BitVec 32 := 14#32
  let v108 : BitVec 32 := Scalar.addi v23 c14_i32
  let c16_i32_78 : BitVec 32 := 16#32
  let v109 : BitVec 32 := Scalar.remsi v108 c16_i32_78
  let v110 : BitVec 32 := Scalar.muli c2_i32_79 v109
  let c2_i32 : BitVec 32 := 2#32
  let v3 : BitVec 32 := Scalar.remsi v2 c2_i32
  let v111 : BitVec 32 := Scalar.addi v110 v3
  let c1_i32_81 : BitVec 32 := 1#32
  let v112 : BitVec 32 := Scalar.muli v111 c1_i32_81
  let v113 : BitVec 32 := Scalar.addi c0_i32_82 v112
  v113.toNat
def k0_dev16 (d0 : Dev nD) : Nat :=
  let c0_i32_87 : BitVec 32 := 0#32
  let c2_i32_84 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c15_i32 : BitVec 32 := 15#32
  let v114 : BitVec 32 := Scalar.addi v23 c15_i32
  let c16_i32_83 : BitVec 32 := 16#32
  let v115 : BitVec 32 := Scalar.remsi v114 c16_i32_83
  let v116 : BitVec 32 := Scalar.muli c2_i32_84 v115
  let c2_i32 : BitVec 32 := 2#32
  let v3 : BitVec 32 := Scalar.remsi v2 c2_i32
  let v117 : BitVec 32 := Scalar.addi v116 v3
  let c1_i32_86 : BitVec 32 := 1#32
  let v118 : BitVec 32 := Scalar.muli v117 c1_i32_86
  let v119 : BitVec 32 := Scalar.addi c0_i32_87 v118
  v119.toNat
def k0_off1 (d0 : Dev nD) : Fin 3 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v174 : Index := Scalar.indexCast v173
  let c0 : Index := 0#32
  let c0_105 : Index := 0#32
  ![v174.toNat, 0, 0]
def k0_off2 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v182 : Index := Scalar.indexCast v173
  let c0_108 : Index := 0#32
  let c0_109 : Index := 0#32
  let c0_110 : Index := 0#32
  ![v182.toNat, 0, 0, 0]
def k0_off3 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v205 : Index := Scalar.indexCast v173
  let c0_121 : Index := 0#32
  let c1 : Index := 1#32
  let c0_122 : Index := 0#32
  ![v205.toNat, 0, 1, 0]
def k0_off4 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v228 : Index := Scalar.indexCast v173
  let c0_132 : Index := 0#32
  let c2 : Index := 2#32
  let c0_133 : Index := 0#32
  ![v228.toNat, 0, 2, 0]
def k0_off5 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v251 : Index := Scalar.indexCast v173
  let c0_143 : Index := 0#32
  let c3 : Index := 3#32
  let c0_144 : Index := 0#32
  ![v251.toNat, 0, 3, 0]
def k0_off6 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v274 : Index := Scalar.indexCast v173
  let c0_154 : Index := 0#32
  let c4 : Index := 4#32
  let c0_155 : Index := 0#32
  ![v274.toNat, 0, 4, 0]
def k0_off7 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v297 : Index := Scalar.indexCast v173
  let c0_165 : Index := 0#32
  let c5 : Index := 5#32
  let c0_166 : Index := 0#32
  ![v297.toNat, 0, 5, 0]
def k0_off8 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v320 : Index := Scalar.indexCast v173
  let c0_176 : Index := 0#32
  let c6 : Index := 6#32
  let c0_177 : Index := 0#32
  ![v320.toNat, 0, 6, 0]
def k0_off9 (d0 : Dev nD) : Fin 4 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let v343 : Index := Scalar.indexCast v173
  let c0_187 : Index := 0#32
  let c7 : Index := 7#32
  let c0_188 : Index := 0#32
  ![v343.toNat, 0, 7, 0]
def k0_off10 (d0 : Dev nD) : Fin 2 → Nat :=
  let c1_i32_104 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v173 : BitVec 32 := Scalar.subi c1_i32_104 v3
  let c512_i32_203 : BitVec 32 := 512#32
  let v370 : BitVec 32 := Scalar.muli v173 c512_i32_203
  let v371 : Index := Scalar.indexCast v370
  let c0_204 : Index := 0#32
  ![v371.toNat, 0]
def k0_off11 (d0 : Dev nD) : Fin 2 → Nat :=
  let c1_i32_89 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v120 : BitVec 32 := Scalar.subi c1_i32_89 v3
  let c512_i32_90 : BitVec 32 := 512#32
  let v121 : BitVec 32 := Scalar.muli v120 c512_i32_90
  let c0_i32_207 : BitVec 32 := 0#32
  ![v121.toNat, 0]
def k0_dev17 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_205 : BitVec 32 := 1#32
  let v375 : BitVec 32 := Scalar.muli v6 c1_i32_205
  let v376 : BitVec 32 := Scalar.addi c0_i32_206 v375
  v376.toNat
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v378 : Index := Scalar.indexCast v3
  let c0_208 : Index := 0#32
  let c0_209 : Index := 0#32
  ![v378.toNat, 0, 0]
def k0_off13 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v386 : Index := Scalar.indexCast v3
  let c0_213 : Index := 0#32
  let c0_214 : Index := 0#32
  let c0_215 : Index := 0#32
  ![v386.toNat, 0, 0, 0]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v409 : Index := Scalar.indexCast v3
  let c0_226 : Index := 0#32
  let c1_227 : Index := 1#32
  let c0_228 : Index := 0#32
  ![v409.toNat, 0, 1, 0]
def k0_off15 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v432 : Index := Scalar.indexCast v3
  let c0_239 : Index := 0#32
  let c2_240 : Index := 2#32
  let c0_241 : Index := 0#32
  ![v432.toNat, 0, 2, 0]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v455 : Index := Scalar.indexCast v3
  let c0_252 : Index := 0#32
  let c3_253 : Index := 3#32
  let c0_254 : Index := 0#32
  ![v455.toNat, 0, 3, 0]
def k0_off17 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v478 : Index := Scalar.indexCast v3
  let c0_265 : Index := 0#32
  let c4_266 : Index := 4#32
  let c0_267 : Index := 0#32
  ![v478.toNat, 0, 4, 0]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v501 : Index := Scalar.indexCast v3
  let c0_278 : Index := 0#32
  let c5_279 : Index := 5#32
  let c0_280 : Index := 0#32
  ![v501.toNat, 0, 5, 0]
def k0_off19 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v524 : Index := Scalar.indexCast v3
  let c0_291 : Index := 0#32
  let c6_292 : Index := 6#32
  let c0_293 : Index := 0#32
  ![v524.toNat, 0, 6, 0]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let v547 : Index := Scalar.indexCast v3
  let c0_304 : Index := 0#32
  let c7_305 : Index := 7#32
  let c0_306 : Index := 0#32
  ![v547.toNat, 0, 7, 0]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c512_i32_322 : BitVec 32 := 512#32
  let v574 : BitVec 32 := Scalar.muli v3 c512_i32_322
  let v575 : Index := Scalar.indexCast v574
  let c0_323 : Index := 0#32
  ![v575.toNat, 0]
def k0_off22 (d0 : Dev nD) (c1_i32_331 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c512_i32 : BitVec 32 := 512#32
  let v24 : BitVec 32 := Scalar.muli v3 c512_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let v593 : BitVec 32 := Scalar.addi v23 c1_i32_331
  let c16_i32_332 : BitVec 32 := 16#32
  let v594 : BitVec 32 := Scalar.remsi v593 c16_i32_332
  let c32_i32_333 : BitVec 32 := 32#32
  let v595 : BitVec 32 := Scalar.muli v594 c32_i32_333
  let v596 : BitVec 32 := Scalar.addi v24 v595
  let c0_i32_342 : BitVec 32 := 0#32
  ![v596.toNat, 0]
def k0_dev18 (d0 : Dev nD) : Nat :=
  let c0_i32_339 : BitVec 32 := 0#32
  let c2_i32_334 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c1_i32_331 : BitVec 32 := 1#32
  let v593 : BitVec 32 := Scalar.addi v23 c1_i32_331
  let c16_i32_332 : BitVec 32 := 16#32
  let v594 : BitVec 32 := Scalar.remsi v593 c16_i32_332
  let v597 : BitVec 32 := Scalar.muli c2_i32_334 v594
  let c2_i32 : BitVec 32 := 2#32
  let v3 : BitVec 32 := Scalar.remsi v2 c2_i32
  let v598 : BitVec 32 := Scalar.addi v597 v3
  let c1_i32_338 : BitVec 32 := 1#32
  let v599 : BitVec 32 := Scalar.muli v598 c1_i32_338
  let v600 : BitVec 32 := Scalar.addi c0_i32_339 v599
  v600.toNat
def k0_dev19 (d0 : Dev nD) : Nat :=
  let c0_i32_351 : BitVec 32 := 0#32
  let c2_i32_346 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c2_i32_343 : BitVec 32 := 2#32
  let v608 : BitVec 32 := Scalar.addi v23 c2_i32_343
  let c16_i32_344 : BitVec 32 := 16#32
  let v609 : BitVec 32 := Scalar.remsi v608 c16_i32_344
  let v612 : BitVec 32 := Scalar.muli c2_i32_346 v609
  let c2_i32 : BitVec 32 := 2#32
  let v3 : BitVec 32 := Scalar.remsi v2 c2_i32
  let v613 : BitVec 32 := Scalar.addi v612 v3
  let c1_i32_350 : BitVec 32 := 1#32
  let v614 : BitVec 32 := Scalar.muli v613 c1_i32_350
  let v615 : BitVec 32 := Scalar.addi c0_i32_351 v614
  v615.toNat
def k0_dev20 (d0 : Dev nD) : Nat :=
  let c0_i32_363 : BitVec 32 := 0#32
  let c2_i32_358 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c3_i32_355 : BitVec 32 := 3#32
  let v623 : BitVec 32 := Scalar.addi v23 c3_i32_355
  let c16_i32_356 : BitVec 32 := 16#32
  let v624 : BitVec 32 := Scalar.remsi v623 c16_i32_356
  let v627 : BitVec 32 := Scalar.muli c2_i32_358 v624
  let c2_i32 : BitVec 32 := 2#32
  let v3 : BitVec 32 := Scalar.remsi v2 c2_i32
  let v628 : BitVec 32 := Scalar.addi v627 v3
  let c1_i32_362 : BitVec 32 := 1#32
  let v629 : BitVec 32 := Scalar.muli v628 c1_i32_362
  let v630 : BitVec 32 := Scalar.addi c0_i32_363 v629
  v630.toNat
def k0_dev21 (d0 : Dev nD) : Nat :=
  let c0_i32_375 : BitVec 32 := 0#32
  let c2_i32_370 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c4_i32_367 : BitVec 32 := 4#32
  let v638 : BitVec 32 := Scalar.addi v23 c4_i32_367
  let c16_i32_368 : BitVec 32 := 16#32
  let v639 : BitVec 32 := Scalar.remsi v638 c16_i32_368
  let v642 : BitVec 32 := Scalar.muli c2_i32_370 v639
  let c2_i32 : BitVec 32 := 2#32
  let v3 : BitVec 32 := Scalar.remsi v2 c2_i32
  let v643 : BitVec 32 := Scalar.addi v642 v3
  let c1_i32_374 : BitVec 32 := 1#32
  let v644 : BitVec 32 := Scalar.muli v643 c1_i32_374
  let v645 : BitVec 32 := Scalar.addi c0_i32_375 v644
  v645.toNat
def k0_dev22 (d0 : Dev nD) : Nat :=
  let c0_i32_387 : BitVec 32 := 0#32
  let c2_i32_382 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c5_i32_379 : BitVec 32 := 5#32
  let v653 : BitVec 32 := Scalar.addi v23 c5_i32_379
  let c16_i32_380 : BitVec 32 := 16#32
  let v654 : BitVec 32 := Scalar.remsi v653 c16_i32_380
  let v657 : BitVec 32 := Scalar.muli c2_i32_382 v654
  let c2_i32 : BitVec 32 := 2#32
  let v3 : BitVec 32 := Scalar.remsi v2 c2_i32
  let v658 : BitVec 32 := Scalar.addi v657 v3
  let c1_i32_386 : BitVec 32 := 1#32
  let v659 : BitVec 32 := Scalar.muli v658 c1_i32_386
  let v660 : BitVec 32 := Scalar.addi c0_i32_387 v659
  v660.toNat
def k0_dev23 (d0 : Dev nD) : Nat :=
  let c0_i32_399 : BitVec 32 := 0#32
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c6_i32_391 : BitVec 32 := 6#32
  let v668 : BitVec 32 := Scalar.addi v23 c6_i32_391
  let c16_i32_392 : BitVec 32 := 16#32
  let v669 : BitVec 32 := Scalar.remsi v668 c16_i32_392
  let v672 : BitVec 32 := Scalar.muli c2_i32_394 v669
  let c2_i32 : BitVec 32 := 2#32
  let v3 : BitVec 32 := Scalar.remsi v2 c2_i32
  let v673 : BitVec 32 := Scalar.addi v672 v3
  let c1_i32_398 : BitVec 32 := 1#32
  let v674 : BitVec 32 := Scalar.muli v673 c1_i32_398
  let v675 : BitVec 32 := Scalar.addi c0_i32_399 v674
  v675.toNat
def k0_dev24 (d0 : Dev nD) : Nat :=
  let c0_i32_411 : BitVec 32 := 0#32
  let c2_i32_406 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c7_i32_403 : BitVec 32 := 7#32
  let v683 : BitVec 32 := Scalar.addi v23 c7_i32_403
  let c16_i32_404 : BitVec 32 := 16#32
  let v684 : BitVec 32 := Scalar.remsi v683 c16_i32_404
  let v687 : BitVec 32 := Scalar.muli c2_i32_406 v684
  let c2_i32 : BitVec 32 := 2#32
  let v3 : BitVec 32 := Scalar.remsi v2 c2_i32
  let v688 : BitVec 32 := Scalar.addi v687 v3
  let c1_i32_410 : BitVec 32 := 1#32
  let v689 : BitVec 32 := Scalar.muli v688 c1_i32_410
  let v690 : BitVec 32 := Scalar.addi c0_i32_411 v689
  v690.toNat
def k0_dev25 (d0 : Dev nD) : Nat :=
  let c0_i32_423 : BitVec 32 := 0#32
  let c2_i32_418 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c8_i32_415 : BitVec 32 := 8#32
  let v698 : BitVec 32 := Scalar.addi v23 c8_i32_415
  let c16_i32_416 : BitVec 32 := 16#32
  let v699 : BitVec 32 := Scalar.remsi v698 c16_i32_416
  let v702 : BitVec 32 := Scalar.muli c2_i32_418 v699
  let c2_i32 : BitVec 32 := 2#32
  let v3 : BitVec 32 := Scalar.remsi v2 c2_i32
  let v703 : BitVec 32 := Scalar.addi v702 v3
  let c1_i32_422 : BitVec 32 := 1#32
  let v704 : BitVec 32 := Scalar.muli v703 c1_i32_422
  let v705 : BitVec 32 := Scalar.addi c0_i32_423 v704
  v705.toNat
def k0_dev26 (d0 : Dev nD) : Nat :=
  let c0_i32_435 : BitVec 32 := 0#32
  let c2_i32_430 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c9_i32_427 : BitVec 32 := 9#32
  let v713 : BitVec 32 := Scalar.addi v23 c9_i32_427
  let c16_i32_428 : BitVec 32 := 16#32
  let v714 : BitVec 32 := Scalar.remsi v713 c16_i32_428
  let v717 : BitVec 32 := Scalar.muli c2_i32_430 v714
  let c2_i32 : BitVec 32 := 2#32
  let v3 : BitVec 32 := Scalar.remsi v2 c2_i32
  let v718 : BitVec 32 := Scalar.addi v717 v3
  let c1_i32_434 : BitVec 32 := 1#32
  let v719 : BitVec 32 := Scalar.muli v718 c1_i32_434
  let v720 : BitVec 32 := Scalar.addi c0_i32_435 v719
  v720.toNat
def k0_dev27 (d0 : Dev nD) : Nat :=
  let c0_i32_447 : BitVec 32 := 0#32
  let c2_i32_442 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c10_i32_439 : BitVec 32 := 10#32
  let v728 : BitVec 32 := Scalar.addi v23 c10_i32_439
  let c16_i32_440 : BitVec 32 := 16#32
  let v729 : BitVec 32 := Scalar.remsi v728 c16_i32_440
  let v732 : BitVec 32 := Scalar.muli c2_i32_442 v729
  let c2_i32 : BitVec 32 := 2#32
  let v3 : BitVec 32 := Scalar.remsi v2 c2_i32
  let v733 : BitVec 32 := Scalar.addi v732 v3
  let c1_i32_446 : BitVec 32 := 1#32
  let v734 : BitVec 32 := Scalar.muli v733 c1_i32_446
  let v735 : BitVec 32 := Scalar.addi c0_i32_447 v734
  v735.toNat
def k0_dev28 (d0 : Dev nD) : Nat :=
  let c0_i32_459 : BitVec 32 := 0#32
  let c2_i32_454 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c11_i32_451 : BitVec 32 := 11#32
  let v743 : BitVec 32 := Scalar.addi v23 c11_i32_451
  let c16_i32_452 : BitVec 32 := 16#32
  let v744 : BitVec 32 := Scalar.remsi v743 c16_i32_452
  let v747 : BitVec 32 := Scalar.muli c2_i32_454 v744
  let c2_i32 : BitVec 32 := 2#32
  let v3 : BitVec 32 := Scalar.remsi v2 c2_i32
  let v748 : BitVec 32 := Scalar.addi v747 v3
  let c1_i32_458 : BitVec 32 := 1#32
  let v749 : BitVec 32 := Scalar.muli v748 c1_i32_458
  let v750 : BitVec 32 := Scalar.addi c0_i32_459 v749
  v750.toNat
def k0_dev29 (d0 : Dev nD) : Nat :=
  let c0_i32_471 : BitVec 32 := 0#32
  let c2_i32_466 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c12_i32_463 : BitVec 32 := 12#32
  let v758 : BitVec 32 := Scalar.addi v23 c12_i32_463
  let c16_i32_464 : BitVec 32 := 16#32
  let v759 : BitVec 32 := Scalar.remsi v758 c16_i32_464
  let v762 : BitVec 32 := Scalar.muli c2_i32_466 v759
  let c2_i32 : BitVec 32 := 2#32
  let v3 : BitVec 32 := Scalar.remsi v2 c2_i32
  let v763 : BitVec 32 := Scalar.addi v762 v3
  let c1_i32_470 : BitVec 32 := 1#32
  let v764 : BitVec 32 := Scalar.muli v763 c1_i32_470
  let v765 : BitVec 32 := Scalar.addi c0_i32_471 v764
  v765.toNat
def k0_dev30 (d0 : Dev nD) : Nat :=
  let c0_i32_483 : BitVec 32 := 0#32
  let c2_i32_478 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c13_i32_475 : BitVec 32 := 13#32
  let v773 : BitVec 32 := Scalar.addi v23 c13_i32_475
  let c16_i32_476 : BitVec 32 := 16#32
  let v774 : BitVec 32 := Scalar.remsi v773 c16_i32_476
  let v777 : BitVec 32 := Scalar.muli c2_i32_478 v774
  let c2_i32 : BitVec 32 := 2#32
  let v3 : BitVec 32 := Scalar.remsi v2 c2_i32
  let v778 : BitVec 32 := Scalar.addi v777 v3
  let c1_i32_482 : BitVec 32 := 1#32
  let v779 : BitVec 32 := Scalar.muli v778 c1_i32_482
  let v780 : BitVec 32 := Scalar.addi c0_i32_483 v779
  v780.toNat
def k0_dev31 (d0 : Dev nD) : Nat :=
  let c0_i32_495 : BitVec 32 := 0#32
  let c2_i32_490 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c14_i32_487 : BitVec 32 := 14#32
  let v788 : BitVec 32 := Scalar.addi v23 c14_i32_487
  let c16_i32_488 : BitVec 32 := 16#32
  let v789 : BitVec 32 := Scalar.remsi v788 c16_i32_488
  let v792 : BitVec 32 := Scalar.muli c2_i32_490 v789
  let c2_i32 : BitVec 32 := 2#32
  let v3 : BitVec 32 := Scalar.remsi v2 c2_i32
  let v793 : BitVec 32 := Scalar.addi v792 v3
  let c1_i32_494 : BitVec 32 := 1#32
  let v794 : BitVec 32 := Scalar.muli v793 c1_i32_494
  let v795 : BitVec 32 := Scalar.addi c0_i32_495 v794
  v795.toNat
def k0_dev32 (d0 : Dev nD) : Nat :=
  let c0_i32_507 : BitVec 32 := 0#32
  let c2_i32_502 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c15_i32_499 : BitVec 32 := 15#32
  let v803 : BitVec 32 := Scalar.addi v23 c15_i32_499
  let c16_i32_500 : BitVec 32 := 16#32
  let v804 : BitVec 32 := Scalar.remsi v803 c16_i32_500
  let v807 : BitVec 32 := Scalar.muli c2_i32_502 v804
  let c2_i32 : BitVec 32 := 2#32
  let v3 : BitVec 32 := Scalar.remsi v2 c2_i32
  let v808 : BitVec 32 := Scalar.addi v807 v3
  let c1_i32_506 : BitVec 32 := 1#32
  let v809 : BitVec 32 := Scalar.muli v808 c1_i32_506
  let v810 : BitVec 32 := Scalar.addi c0_i32_507 v809
  v810.toNat
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.remsi v2 c2_i32
  let c512_i32 : BitVec 32 := 512#32
  let v24 : BitVec 32 := Scalar.muli v3 c512_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c32_i32_8 : BitVec 32 := 32#32
  let v25 : BitVec 32 := Scalar.muli v23 c32_i32_8
  let v26 : BitVec 32 := Scalar.addi v24 v25
  let v923 : Index := Scalar.indexCast v26
  let c0_631 : Index := 0#32
  ![v923.toNat, 0]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c32_i32_670 : BitVec 32 := 32#32
  let v987 : BitVec 32 := Scalar.muli v23 c32_i32_670
  let v988 : Index := Scalar.indexCast v987
  let c0_671 : Index := 0#32
  ![v988.toNat, 0]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c32_i32_675 : BitVec 32 := 32#32
  let v995 : BitVec 32 := Scalar.muli v23 c32_i32_675
  let c0_i32_681 : BitVec 32 := 0#32
  ![v995.toNat, 0]
def k0_dev33 (d0 : Dev nD) : Nat :=
  let c0_i32_680 : BitVec 32 := 0#32
  let c2_i32_676 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c1_i32_672 : BitVec 32 := 1#32
  let v992 : BitVec 32 := Scalar.addi v23 c1_i32_672
  let c16_i32_673 : BitVec 32 := 16#32
  let v993 : BitVec 32 := Scalar.remsi v992 c16_i32_673
  let v996 : BitVec 32 := Scalar.muli c2_i32_676 v993
  let c2_i32 : BitVec 32 := 2#32
  let v3 : BitVec 32 := Scalar.remsi v2 c2_i32
  let v997 : BitVec 32 := Scalar.addi v996 v3
  let c1_i32_679 : BitVec 32 := 1#32
  let v998 : BitVec 32 := Scalar.muli v997 c1_i32_679
  let v999 : BitVec 32 := Scalar.addi c0_i32_680 v998
  v999.toNat
def k0_dev34 (d0 : Dev nD) : Nat :=
  let c0_i32_691 : BitVec 32 := 0#32
  let c2_i32_687 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c2_i32_683 : BitVec 32 := 2#32
  let v1006 : BitVec 32 := Scalar.addi v23 c2_i32_683
  let c16_i32_684 : BitVec 32 := 16#32
  let v1007 : BitVec 32 := Scalar.remsi v1006 c16_i32_684
  let v1010 : BitVec 32 := Scalar.muli c2_i32_687 v1007
  let c2_i32 : BitVec 32 := 2#32
  let v3 : BitVec 32 := Scalar.remsi v2 c2_i32
  let v1011 : BitVec 32 := Scalar.addi v1010 v3
  let c1_i32_690 : BitVec 32 := 1#32
  let v1012 : BitVec 32 := Scalar.muli v1011 c1_i32_690
  let v1013 : BitVec 32 := Scalar.addi c0_i32_691 v1012
  v1013.toNat
def k0_dev35 (d0 : Dev nD) : Nat :=
  let c0_i32_702 : BitVec 32 := 0#32
  let c2_i32_698 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c3_i32_694 : BitVec 32 := 3#32
  let v1020 : BitVec 32 := Scalar.addi v23 c3_i32_694
  let c16_i32_695 : BitVec 32 := 16#32
  let v1021 : BitVec 32 := Scalar.remsi v1020 c16_i32_695
  let v1024 : BitVec 32 := Scalar.muli c2_i32_698 v1021
  let c2_i32 : BitVec 32 := 2#32
  let v3 : BitVec 32 := Scalar.remsi v2 c2_i32
  let v1025 : BitVec 32 := Scalar.addi v1024 v3
  let c1_i32_701 : BitVec 32 := 1#32
  let v1026 : BitVec 32 := Scalar.muli v1025 c1_i32_701
  let v1027 : BitVec 32 := Scalar.addi c0_i32_702 v1026
  v1027.toNat
def k0_dev36 (d0 : Dev nD) : Nat :=
  let c0_i32_713 : BitVec 32 := 0#32
  let c2_i32_709 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c4_i32_705 : BitVec 32 := 4#32
  let v1034 : BitVec 32 := Scalar.addi v23 c4_i32_705
  let c16_i32_706 : BitVec 32 := 16#32
  let v1035 : BitVec 32 := Scalar.remsi v1034 c16_i32_706
  let v1038 : BitVec 32 := Scalar.muli c2_i32_709 v1035
  let c2_i32 : BitVec 32 := 2#32
  let v3 : BitVec 32 := Scalar.remsi v2 c2_i32
  let v1039 : BitVec 32 := Scalar.addi v1038 v3
  let c1_i32_712 : BitVec 32 := 1#32
  let v1040 : BitVec 32 := Scalar.muli v1039 c1_i32_712
  let v1041 : BitVec 32 := Scalar.addi c0_i32_713 v1040
  v1041.toNat
def k0_dev37 (d0 : Dev nD) : Nat :=
  let c0_i32_724 : BitVec 32 := 0#32
  let c2_i32_720 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c5_i32_716 : BitVec 32 := 5#32
  let v1048 : BitVec 32 := Scalar.addi v23 c5_i32_716
  let c16_i32_717 : BitVec 32 := 16#32
  let v1049 : BitVec 32 := Scalar.remsi v1048 c16_i32_717
  let v1052 : BitVec 32 := Scalar.muli c2_i32_720 v1049
  let c2_i32 : BitVec 32 := 2#32
  let v3 : BitVec 32 := Scalar.remsi v2 c2_i32
  let v1053 : BitVec 32 := Scalar.addi v1052 v3
  let c1_i32_723 : BitVec 32 := 1#32
  let v1054 : BitVec 32 := Scalar.muli v1053 c1_i32_723
  let v1055 : BitVec 32 := Scalar.addi c0_i32_724 v1054
  v1055.toNat
def k0_dev38 (d0 : Dev nD) : Nat :=
  let c0_i32_735 : BitVec 32 := 0#32
  let c2_i32_731 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c6_i32_727 : BitVec 32 := 6#32
  let v1062 : BitVec 32 := Scalar.addi v23 c6_i32_727
  let c16_i32_728 : BitVec 32 := 16#32
  let v1063 : BitVec 32 := Scalar.remsi v1062 c16_i32_728
  let v1066 : BitVec 32 := Scalar.muli c2_i32_731 v1063
  let c2_i32 : BitVec 32 := 2#32
  let v3 : BitVec 32 := Scalar.remsi v2 c2_i32
  let v1067 : BitVec 32 := Scalar.addi v1066 v3
  let c1_i32_734 : BitVec 32 := 1#32
  let v1068 : BitVec 32 := Scalar.muli v1067 c1_i32_734
  let v1069 : BitVec 32 := Scalar.addi c0_i32_735 v1068
  v1069.toNat
def k0_dev39 (d0 : Dev nD) : Nat :=
  let c0_i32_746 : BitVec 32 := 0#32
  let c2_i32_742 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c7_i32_738 : BitVec 32 := 7#32
  let v1076 : BitVec 32 := Scalar.addi v23 c7_i32_738
  let c16_i32_739 : BitVec 32 := 16#32
  let v1077 : BitVec 32 := Scalar.remsi v1076 c16_i32_739
  let v1080 : BitVec 32 := Scalar.muli c2_i32_742 v1077
  let c2_i32 : BitVec 32 := 2#32
  let v3 : BitVec 32 := Scalar.remsi v2 c2_i32
  let v1081 : BitVec 32 := Scalar.addi v1080 v3
  let c1_i32_745 : BitVec 32 := 1#32
  let v1082 : BitVec 32 := Scalar.muli v1081 c1_i32_745
  let v1083 : BitVec 32 := Scalar.addi c0_i32_746 v1082
  v1083.toNat
def k0_dev40 (d0 : Dev nD) : Nat :=
  let c0_i32_757 : BitVec 32 := 0#32
  let c2_i32_753 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c8_i32_749 : BitVec 32 := 8#32
  let v1090 : BitVec 32 := Scalar.addi v23 c8_i32_749
  let c16_i32_750 : BitVec 32 := 16#32
  let v1091 : BitVec 32 := Scalar.remsi v1090 c16_i32_750
  let v1094 : BitVec 32 := Scalar.muli c2_i32_753 v1091
  let c2_i32 : BitVec 32 := 2#32
  let v3 : BitVec 32 := Scalar.remsi v2 c2_i32
  let v1095 : BitVec 32 := Scalar.addi v1094 v3
  let c1_i32_756 : BitVec 32 := 1#32
  let v1096 : BitVec 32 := Scalar.muli v1095 c1_i32_756
  let v1097 : BitVec 32 := Scalar.addi c0_i32_757 v1096
  v1097.toNat
def k0_dev41 (d0 : Dev nD) : Nat :=
  let c0_i32_768 : BitVec 32 := 0#32
  let c2_i32_764 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c9_i32_760 : BitVec 32 := 9#32
  let v1104 : BitVec 32 := Scalar.addi v23 c9_i32_760
  let c16_i32_761 : BitVec 32 := 16#32
  let v1105 : BitVec 32 := Scalar.remsi v1104 c16_i32_761
  let v1108 : BitVec 32 := Scalar.muli c2_i32_764 v1105
  let c2_i32 : BitVec 32 := 2#32
  let v3 : BitVec 32 := Scalar.remsi v2 c2_i32
  let v1109 : BitVec 32 := Scalar.addi v1108 v3
  let c1_i32_767 : BitVec 32 := 1#32
  let v1110 : BitVec 32 := Scalar.muli v1109 c1_i32_767
  let v1111 : BitVec 32 := Scalar.addi c0_i32_768 v1110
  v1111.toNat
def k0_dev42 (d0 : Dev nD) : Nat :=
  let c0_i32_779 : BitVec 32 := 0#32
  let c2_i32_775 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c10_i32_771 : BitVec 32 := 10#32
  let v1118 : BitVec 32 := Scalar.addi v23 c10_i32_771
  let c16_i32_772 : BitVec 32 := 16#32
  let v1119 : BitVec 32 := Scalar.remsi v1118 c16_i32_772
  let v1122 : BitVec 32 := Scalar.muli c2_i32_775 v1119
  let c2_i32 : BitVec 32 := 2#32
  let v3 : BitVec 32 := Scalar.remsi v2 c2_i32
  let v1123 : BitVec 32 := Scalar.addi v1122 v3
  let c1_i32_778 : BitVec 32 := 1#32
  let v1124 : BitVec 32 := Scalar.muli v1123 c1_i32_778
  let v1125 : BitVec 32 := Scalar.addi c0_i32_779 v1124
  v1125.toNat
def k0_dev43 (d0 : Dev nD) : Nat :=
  let c0_i32_790 : BitVec 32 := 0#32
  let c2_i32_786 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c11_i32_782 : BitVec 32 := 11#32
  let v1132 : BitVec 32 := Scalar.addi v23 c11_i32_782
  let c16_i32_783 : BitVec 32 := 16#32
  let v1133 : BitVec 32 := Scalar.remsi v1132 c16_i32_783
  let v1136 : BitVec 32 := Scalar.muli c2_i32_786 v1133
  let c2_i32 : BitVec 32 := 2#32
  let v3 : BitVec 32 := Scalar.remsi v2 c2_i32
  let v1137 : BitVec 32 := Scalar.addi v1136 v3
  let c1_i32_789 : BitVec 32 := 1#32
  let v1138 : BitVec 32 := Scalar.muli v1137 c1_i32_789
  let v1139 : BitVec 32 := Scalar.addi c0_i32_790 v1138
  v1139.toNat
def k0_dev44 (d0 : Dev nD) : Nat :=
  let c0_i32_801 : BitVec 32 := 0#32
  let c2_i32_797 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c12_i32_793 : BitVec 32 := 12#32
  let v1146 : BitVec 32 := Scalar.addi v23 c12_i32_793
  let c16_i32_794 : BitVec 32 := 16#32
  let v1147 : BitVec 32 := Scalar.remsi v1146 c16_i32_794
  let v1150 : BitVec 32 := Scalar.muli c2_i32_797 v1147
  let c2_i32 : BitVec 32 := 2#32
  let v3 : BitVec 32 := Scalar.remsi v2 c2_i32
  let v1151 : BitVec 32 := Scalar.addi v1150 v3
  let c1_i32_800 : BitVec 32 := 1#32
  let v1152 : BitVec 32 := Scalar.muli v1151 c1_i32_800
  let v1153 : BitVec 32 := Scalar.addi c0_i32_801 v1152
  v1153.toNat
def k0_dev45 (d0 : Dev nD) : Nat :=
  let c0_i32_812 : BitVec 32 := 0#32
  let c2_i32_808 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c13_i32_804 : BitVec 32 := 13#32
  let v1160 : BitVec 32 := Scalar.addi v23 c13_i32_804
  let c16_i32_805 : BitVec 32 := 16#32
  let v1161 : BitVec 32 := Scalar.remsi v1160 c16_i32_805
  let v1164 : BitVec 32 := Scalar.muli c2_i32_808 v1161
  let c2_i32 : BitVec 32 := 2#32
  let v3 : BitVec 32 := Scalar.remsi v2 c2_i32
  let v1165 : BitVec 32 := Scalar.addi v1164 v3
  let c1_i32_811 : BitVec 32 := 1#32
  let v1166 : BitVec 32 := Scalar.muli v1165 c1_i32_811
  let v1167 : BitVec 32 := Scalar.addi c0_i32_812 v1166
  v1167.toNat
def k0_dev46 (d0 : Dev nD) : Nat :=
  let c0_i32_823 : BitVec 32 := 0#32
  let c2_i32_819 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c14_i32_815 : BitVec 32 := 14#32
  let v1174 : BitVec 32 := Scalar.addi v23 c14_i32_815
  let c16_i32_816 : BitVec 32 := 16#32
  let v1175 : BitVec 32 := Scalar.remsi v1174 c16_i32_816
  let v1178 : BitVec 32 := Scalar.muli c2_i32_819 v1175
  let c2_i32 : BitVec 32 := 2#32
  let v3 : BitVec 32 := Scalar.remsi v2 c2_i32
  let v1179 : BitVec 32 := Scalar.addi v1178 v3
  let c1_i32_822 : BitVec 32 := 1#32
  let v1180 : BitVec 32 := Scalar.muli v1179 c1_i32_822
  let v1181 : BitVec 32 := Scalar.addi c0_i32_823 v1180
  v1181.toNat
def k0_dev47 (d0 : Dev nD) : Nat :=
  let c0_i32_834 : BitVec 32 := 0#32
  let c2_i32_830 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let c15_i32_826 : BitVec 32 := 15#32
  let v1188 : BitVec 32 := Scalar.addi v23 c15_i32_826
  let c16_i32_827 : BitVec 32 := 16#32
  let v1189 : BitVec 32 := Scalar.remsi v1188 c16_i32_827
  let v1192 : BitVec 32 := Scalar.muli c2_i32_830 v1189
  let c2_i32 : BitVec 32 := 2#32
  let v3 : BitVec 32 := Scalar.remsi v2 c2_i32
  let v1193 : BitVec 32 := Scalar.addi v1192 v3
  let c1_i32_833 : BitVec 32 := 1#32
  let v1194 : BitVec 32 := Scalar.muli v1193 c1_i32_833
  let v1195 : BitVec 32 := Scalar.addi c0_i32_834 v1194
  v1195.toNat
def k0_off26 (d0 : Dev nD) (c0_i32_837 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v8 : BitVec 1 := Scalar.cmpi .sgt v2 c0_i32
  let v9 : BitVec 32 := Scalar.extui v8
  let c0_i32_3 : BitVec 32 := 0#32
  let v10 : BitVec 1 := Scalar.cmpi .slt v2 c0_i32_3
  let v11 : BitVec 32 := Scalar.extui v10
  let v12 : BitVec 32 := Scalar.subi v9 v11
  let c2_i32_2 : BitVec 32 := 2#32
  let c0_i32_4 : BitVec 32 := 0#32
  let v13 : BitVec 1 := Scalar.cmpi .sgt c2_i32_2 c0_i32_4
  let v14 : BitVec 32 := Scalar.extui v13
  let c0_i32_5 : BitVec 32 := 0#32
  let v15 : BitVec 1 := Scalar.cmpi .slt c2_i32_2 c0_i32_5
  let v16 : BitVec 32 := Scalar.extui v15
  let v17 : BitVec 32 := Scalar.subi v14 v16
  let v18 : BitVec 1 := Scalar.cmpi .ne v12 v17
  let v19 : BitVec 32 := Scalar.remsi v2 c2_i32_2
  let c0_i32_6 : BitVec 32 := 0#32
  let v20 : BitVec 1 := Scalar.cmpi .ne v19 c0_i32_6
  let v21 : BitVec 1 := Scalar.andi v18 v20
  let v7 : BitVec 32 := Scalar.divsi v2 c2_i32_2
  let c1_i32_7 : BitVec 32 := 1#32
  let v22 : BitVec 32 := Scalar.subi v7 c1_i32_7
  let v23 : BitVec 32 := Scalar.select v21 v22 v7
  let v1202 : BitVec 32 := Scalar.subi v23 c0_i32_837
  let c16_i32_838 : BitVec 32 := 16#32
  let v1203 : BitVec 32 := Scalar.addi v1202 c16_i32_838
  let c16_i32_839 : BitVec 32 := 16#32
  let v1204 : BitVec 32 := Scalar.remsi v1203 c16_i32_839
  let c32_i32_840 : BitVec 32 := 32#32
  let v1205 : BitVec 32 := Scalar.muli v1204 c32_i32_840
  let c0_i32_905 : BitVec 32 := 0#32
  ![v1205.toNat, 0]
def k0_dev48 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_903 : BitVec 32 := 1#32
  let v1266 : BitVec 32 := Scalar.muli v6 c1_i32_903
  let v1267 : BitVec 32 := Scalar.addi c0_i32_904 v1266
  v1267.toNat
def k0_dev49 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_915 : BitVec 32 := 1#32
  let v1280 : BitVec 32 := Scalar.muli v6 c1_i32_915
  let v1281 : BitVec 32 := Scalar.addi c0_i32_916 v1280
  v1281.toNat
def k0_dev50 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_927 : BitVec 32 := 1#32
  let v1294 : BitVec 32 := Scalar.muli v6 c1_i32_927
  let v1295 : BitVec 32 := Scalar.addi c0_i32_928 v1294
  v1295.toNat
def k0_dev51 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_939 : BitVec 32 := 1#32
  let v1308 : BitVec 32 := Scalar.muli v6 c1_i32_939
  let v1309 : BitVec 32 := Scalar.addi c0_i32_940 v1308
  v1309.toNat
def k0_dev52 (d0 : Dev nD) : Nat :=
  let c0_i32_952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_951 : BitVec 32 := 1#32
  let v1322 : BitVec 32 := Scalar.muli v6 c1_i32_951
  let v1323 : BitVec 32 := Scalar.addi c0_i32_952 v1322
  v1323.toNat
def k0_dev53 (d0 : Dev nD) : Nat :=
  let c0_i32_964 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_963 : BitVec 32 := 1#32
  let v1336 : BitVec 32 := Scalar.muli v6 c1_i32_963
  let v1337 : BitVec 32 := Scalar.addi c0_i32_964 v1336
  v1337.toNat
def k0_dev54 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_975 : BitVec 32 := 1#32
  let v1350 : BitVec 32 := Scalar.muli v6 c1_i32_975
  let v1351 : BitVec 32 := Scalar.addi c0_i32_976 v1350
  v1351.toNat
def k0_dev55 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_987 : BitVec 32 := 1#32
  let v1364 : BitVec 32 := Scalar.muli v6 c1_i32_987
  let v1365 : BitVec 32 := Scalar.addi c0_i32_988 v1364
  v1365.toNat
def k0_dev56 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_999 : BitVec 32 := 1#32
  let v1378 : BitVec 32 := Scalar.muli v6 c1_i32_999
  let v1379 : BitVec 32 := Scalar.addi c0_i32_1000 v1378
  v1379.toNat
def k0_dev57 (d0 : Dev nD) : Nat :=
  let c0_i32_1012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_1011 : BitVec 32 := 1#32
  let v1392 : BitVec 32 := Scalar.muli v6 c1_i32_1011
  let v1393 : BitVec 32 := Scalar.addi c0_i32_1012 v1392
  v1393.toNat
def k0_dev58 (d0 : Dev nD) : Nat :=
  let c0_i32_1024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_1023 : BitVec 32 := 1#32
  let v1406 : BitVec 32 := Scalar.muli v6 c1_i32_1023
  let v1407 : BitVec 32 := Scalar.addi c0_i32_1024 v1406
  v1407.toNat
def k0_dev59 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_1035 : BitVec 32 := 1#32
  let v1420 : BitVec 32 := Scalar.muli v6 c1_i32_1035
  let v1421 : BitVec 32 := Scalar.addi c0_i32_1036 v1420
  v1421.toNat
def k0_dev60 (d0 : Dev nD) : Nat :=
  let c0_i32_1048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_1047 : BitVec 32 := 1#32
  let v1434 : BitVec 32 := Scalar.muli v6 c1_i32_1047
  let v1435 : BitVec 32 := Scalar.addi c0_i32_1048 v1434
  v1435.toNat
def k0_dev61 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_1059 : BitVec 32 := 1#32
  let v1448 : BitVec 32 := Scalar.muli v6 c1_i32_1059
  let v1449 : BitVec 32 := Scalar.addi c0_i32_1060 v1448
  v1449.toNat
def k0_dev62 (d0 : Dev nD) : Nat :=
  let c0_i32_1072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_1071 : BitVec 32 := 1#32
  let v1462 : BitVec 32 := Scalar.muli v6 c1_i32_1071
  let v1463 : BitVec 32 := Scalar.addi c0_i32_1072 v1462
  v1463.toNat
def k0_dev63 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c2_i32_1 : BitVec 32 := 2#32
  let c2_i32 : BitVec 32 := 2#32
  let v3 : BitVec 32 := Scalar.remsi v2 c2_i32
  let v5 : BitVec 32 := Scalar.muli c2_i32_1 v3
  let v6 : BitVec 32 := Scalar.subi v4 v5
  let c1_i32_1083 : BitVec 32 := 1#32
  let v1476 : BitVec 32 := Scalar.muli v6 c1_i32_1083
  let v1477 : BitVec 32 := Scalar.addi c0_i32_1084 v1476
  v1477.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x16384, .f32⟩
  | .hbm, ⟨2, _⟩ => ⟨S2x512x256x64, .f32⟩
  | .hbm, ⟨3, _⟩ => ⟨S2x512x256x64, .f32⟩
  | .hbm, ⟨4, _⟩ => ⟨S16384x768, .f32⟩
  | .hbm, ⟨5, _⟩ => ⟨S2x512x16384, .f32⟩
  | .hbm, ⟨6, _⟩ => ⟨S2x512x256x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S2x256x512x512, .f32⟩
  | .hbm, ⟨51, _⟩ => ⟨S_, .f32⟩
  | .hbm, ⟨52, _⟩ => ⟨S2x256x512x512, .f32⟩
  | .hbm, ⟨53, _⟩ => ⟨S2x256x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S2x256x512x512, .i1⟩
  | .hbm, ⟨58, _⟩ => ⟨S2x256x512x512, .f32⟩
  | .hbm, ⟨59, _⟩ => ⟨S2x256x512x512, .f32⟩
  | .hbm, ⟨60, _⟩ => ⟨S_, .f32⟩
  | .hbm, ⟨61, _⟩ => ⟨S2x256x512, .f32⟩
  | .hbm, ⟨62, _⟩ => ⟨S2x256x512x1, .f32⟩
  | .hbm, ⟨63, _⟩ => ⟨S2x256x512x512, .f32⟩
  | .hbm, ⟨64, _⟩ => ⟨S2x256x512x512, .f32⟩
  | .hbm, ⟨65, _⟩ => ⟨S2x256x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x256x512, .f32⟩
  | .hbm, ⟨71, _⟩ => ⟨S2x256x512x1, .f32⟩
  | .hbm, ⟨72, _⟩ => ⟨S_, .f32⟩
  | .hbm, ⟨73, _⟩ => ⟨S_, .f32⟩
  | .hbm, ⟨74, _⟩ => ⟨S2x256x512x1, .i1⟩
  | .hbm, ⟨75, _⟩ => ⟨S2x256x512x1, .f32⟩
  | .hbm, ⟨76, _⟩ => ⟨S2x256x512x1, .f32⟩
  | .hbm, ⟨77, _⟩ => ⟨S2x256x512x512, .f32⟩
  | .hbm, ⟨78, _⟩ => ⟨S2x256x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x256x512x512, .i1⟩
  | .hbm, ⟨83, _⟩ => ⟨S2x256x512x512, .f32⟩
  | .hbm, ⟨84, _⟩ => ⟨S2x256x512x512, .f32⟩
  | .hbm, ⟨85, _⟩ => ⟨S2x256x64x512, .f32⟩
  | .hbm, ⟨86, _⟩ => ⟨S2x512x256x64, .f32⟩
  | .hbm, ⟨87, _⟩ => ⟨S2x512x16384, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Geo.lean ====
/-
The devices, the rows of the buffers and the values of the kernel.

Device `c` has a parity `c % 2` and a group `c / 2`.  Its partner has the other parity and the same group; the sixteen
devices of one parity sum up one batch.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.Value
public import Idealize.ShloMosaic.Lib.Rounds
public import Idealize.ShloMosaic.Lib.StableHlo
public import Idealize.ShloMosaic.Lib.Tactic
public import Idealize.ShloMosaic.Lib.Pipeline.RegionTalk
public import Idealize.ShloMosaic.Lib.Pointwise.Index

@[expose] public section

noncomputable section

namespace Cert.KI

open Idealize.ShloMosaic Idealize.ShloMosaic.TcCoe
open Cert.KernelIdeal Cert.KernelIdeal.Gen

variable {F : FTy → Type} [FloatOps F]

/-! ## Devices -/

/-- The parity of a device: the batch it finishes first-hand. -/
def par (c : Dev nD) : Fin 2 := ⟨c.val % 2, Nat.mod_lt _ (by decide)⟩
/-- The group of a device. -/
def grp (c : Dev nD) : ℕ := c.val / 2
theorem grp_lt (c : Dev nD) : grp c < 16 := by have := c.isLt; unfold grp; change c.val < 32 at this; omega
/-- The partner: same group, other parity. -/
def pr (c : Dev nD) : Dev nD := ⟨2 * (c.val / 2) + (1 - c.val % 2), by have := c.isLt; change c.val < 32 at this; show _ < 32; omega⟩
/-- The device `e` groups on, same parity. -/
def nb (c : Dev nD) (e : ℕ) : Dev nD := ⟨2 * ((c.val / 2 + e) % 16) + c.val % 2, by show _ < 32; omega⟩
/-- The device of group `g` with the parity of `c`. -/
def mate (c : Dev nD) (g : ℕ) : Dev nD := ⟨2 * (g % 16) + c.val % 2, by show _ < 32; omega⟩

theorem pr_pr (c : Dev nD) : pr (pr c) = c := by revert c; decide
theorem par_pr (c : Dev nD) : par (pr c) = 1 - par c := by revert c; decide
theorem par_pr' (c : Dev nD) : 1 - par (pr c) = par c := by revert c; decide
theorem grp_pr (c : Dev nD) : grp (pr c) = grp c := by revert c; decide
theorem par_nb (c : Dev nD) (e : ℕ) : par (nb c e) = par c := by apply Fin.ext; show (2 * _ + c.val % 2) % 2 = c.val % 2; omega
theorem grp_nb (c : Dev nD) (e : ℕ) : grp (nb c e) = (grp c + e) % 16 := by
  show (2 * _ + c.val % 2) / 2 = (c.val / 2 + e) % 16; omega
theorem nb_nb (c : Dev nD) (a b : ℕ) (h : a + b = 16) : nb (nb c a) b = c := by
  have := grp_lt c; unfold grp at this
  apply Fin.ext; show 2 * (((2 * ((c.val / 2 + a) % 16) + c.val % 2) / 2 + b) % 16) + (2 * ((c.val / 2 + a) % 16) + c.val % 2) % 2 = c.val; omega
theorem mate_nb (c : Dev nD) (e g : ℕ) : mate (nb c e) g = mate c g := by
  apply Fin.ext; show 2 * (g % 16) + (2 * _ + c.val % 2) % 2 = 2 * (g % 16) + c.val % 2; omega
theorem mate_grp (c : Dev nD) : mate c (grp c) = c := by revert c; decide

/-! ## Rows -/

/-- Rows `lo … lo + n - 1` along the first axis. -/
def band (s : Shape) (h : 0 < s.rank) (lo n : ℕ) : Finset s.Idx :=
  Finset.univ.filter fun i => lo ≤ (i ⟨0, h⟩).val ∧ (i ⟨0, h⟩).val < lo + n

abbrev bandA (lo n : ℕ) : Finset S1024x768.Idx := band S1024x768 (by decide) lo n
abbrev bandG (lo n : ℕ) : Finset S512x768.Idx := band S512x768 (by decide) lo n
abbrev bandR (lo n : ℕ) : Finset S15x32x768.Idx := band S15x32x768 (by decide) lo n

theorem mem_band {s : Shape} {h : 0 < s.rank} {lo n : ℕ} {i : s.Idx} :
    i ∈ band s h lo n ↔ lo ≤ (i ⟨0, h⟩).val ∧ (i ⟨0, h⟩).val < lo + n := by
  unfold band; rw [Finset.mem_filter]; exact ⟨fun h => h.2, fun h => ⟨Finset.mem_univ _, h⟩⟩

theorem band_disjoint {s : Shape} {h : 0 < s.rank} {lo n lo' n' : ℕ} (hd : lo + n ≤ lo' ∨ lo' + n' ≤ lo) :
    Disjoint (band s h lo n) (band s h lo' n') := by
  rw [Finset.disjoint_left]; intro i hi hi'
  rw [mem_band] at hi hi'; omega

/-- The elements a block of whole rows of a matrix covers. -/
theorem rect_rowsA (o : Fin 2 → ℕ) (n lo : ℕ) (sz : Fin 2 → ℕ) (hsz : sz = ![n, 768]) (ho : o = ![lo, 0])
    (hi : ∀ a, o a + sz a ≤ S1024x768.size a) : (Rect.unit (s := S1024x768) o sz hi).set = bandA lo n := by
  subst hsz; subst ho
  ext i; rw [Rect.mem_set_unit, mem_band]
  constructor
  · intro h; exact h 0
  · intro h a
    have h1 := (i 1).isLt
    match a with
    | 0 => exact h
    | 1 => exact ⟨Nat.zero_le _, by show (i 1).val < 0 + 768; simpa using h1⟩
theorem rect_rowsG (o : Fin 2 → ℕ) (n lo : ℕ) (sz : Fin 2 → ℕ) (hsz : sz = ![n, 768]) (ho : o = ![lo, 0])
    (hi : ∀ a, o a + sz a ≤ S512x768.size a) : (Rect.unit (s := S512x768) o sz hi).set = bandG lo n := by
  subst hsz; subst ho
  ext i; rw [Rect.mem_set_unit, mem_band]
  constructor
  · intro h; exact h 0
  · intro h a
    have h1 := (i 1).isLt
    match a with
    | 0 => exact h
    | 1 => exact ⟨Nat.zero_le _, by show (i 1).val < 0 + 768; simpa using h1⟩
theorem rect_rowsR (o : Fin 3 → ℕ) (k : ℕ) (ho : o = ![k, 0, 0])
    (hi : ∀ a, o a + S1x32x768.size a ≤ S15x32x768.size a) : (Rect.unit (s := S15x32x768) o S1x32x768.size hi).set = bandR k 1 := by
  subst ho
  ext i; rw [Rect.mem_set_unit, mem_band]
  constructor
  · intro h; exact h 0
  · intro h a
    have h1 := (i 1).isLt
    have h2 := (i 2).isLt
    match a with
    | 0 => exact h
    | 1 => exact ⟨Nat.zero_le _, by show (i 1).val < 0 + 32; simpa using h1⟩
    | 2 => exact ⟨Nat.zero_le _, by show (i 2).val < 0 + 768; simpa using h2⟩

/-! ## Values -/

/-- The blocks a device's pipelined operands hold. -/
structure Inp (F : FTy → Type) where
  x : Vec F S2x512x768 .bf16
  wq : Vec F S768x512 .bf16
  k : Vec F S2x512x8x64 .bf16
  v : Vec F S2x512x8x64 .bf16
  wo : Vec F S512x768 .bf16

/-- The block-causal mask, as the kernel computes it. -/
def maskV : IVec S512x512 1 :=
  k0_pay4 k0_pay1 (iota .tc S512x512 32 [1] iota_S512x512_d1_w32) 64#32 k0_pay2 k0_pay3 (Scalar.extui (Scalar.cmpi .sgt 64#32 0#32)) 0#32

theorem inbX (b : Fin 2) : ∀ a, (![b.val, 0, 0] : Fin 3 → ℕ) a + S1x512x768.size a ≤ S2x512x768.size a := by revert b; decide
theorem inbK (b : Fin 2) (h : ℕ) : ∀ a, (![b.val, 0, h % 8, 0] : Fin 4 → ℕ) a + S1x512x1x64.size a ≤ S2x512x8x64.size a := by
  have hb := b.isLt
  have hh : h % 8 < 8 := Nat.mod_lt _ (by decide)
  intro a
  match a with
  | 0 => show b.val + 1 ≤ 2; omega
  | 1 => show 0 + 512 ≤ 512; omega
  | 2 => show h % 8 + 1 ≤ 8; omega
  | 3 => show 0 + 64 ≤ 64; omega
theorem slicesQ (h : ℕ) : S512x512.Slices ![0, 64 * (h % 8)] S512x64 :=
  (by decide : ∀ n : Fin 8, S512x512.Slices ![0, 64 * n.val] S512x64) ⟨h % 8, Nat.mod_lt _ (by decide)⟩

/-- Batch `b` of the activations. -/
def xAt (i : Inp F) (b : Fin 2) : Vec F S1x512x768 .bf16 :=
  (Memref.whole cc0_stg0_0).view.readAt (Elt F) (Rect.unit (s := S2x512x768) ![b.val, 0, 0] S1x512x768.size (inbX b)).toLoadRect i.x
/-- Head `h` of batch `b` of the keys. -/
def kAt (i : Inp F) (b : Fin 2) (h : ℕ) : Vec F S1x512x1x64 .bf16 :=
  (Memref.whole cc0_stg2_0).view.readAt (Elt F) (Rect.unit (s := S2x512x8x64) ![b.val, 0, h % 8, 0] S1x512x1x64.size (inbK b h)).toLoadRect i.k
/-- Head `h` of batch `b` of the values. -/
def vAt (i : Inp F) (b : Fin 2) (h : ℕ) : Vec F S1x512x1x64 .bf16 :=
  (Memref.whole cc0_stg3_0).view.readAt (Elt F) (Rect.unit (s := S2x512x8x64) ![b.val, 0, h % 8, 0] S1x512x1x64.size (inbK b h)).toLoadRect i.v
/-- The queries of batch `b`, the eight heads side by side. -/
def qAt (i : Inp F) (b : Fin 2) : FVec F S512x512 .bf16 := k0_pay5 (xAt i b) i.wq
/-- What head `h` of batch `b` attends to. -/
def hd (i : Inp F) (b : Fin 2) (h : ℕ) : FVec F S512x64 .bf16 :=
  k0_pay14 maskV (extractStridedSlice S512x64 ![0, 64 * (h % 8)] (qAt i b) (slicesQ h)) (kAt i b h) (vAt i b h)

theorem inbC (h : ℕ) : ∀ a, (![0, 64 * (h % 8)] : Fin 2 → ℕ) a + S512x64.size a ≤ S512x512.size a := by
  have hh : h % 8 < 8 := Nat.mod_lt _ (by decide)
  intro a
  match a with
  | 0 => show 0 + 512 ≤ 512; omega
  | 1 => show 64 * (h % 8) + 64 ≤ 512; omega

/-- The context buffer with head `h` stored at its columns. -/
def wr (h : ℕ) (f : (cc0_scratch1 : Ref sig .tc).ty.Contents (Elt F)) (w : FVec F S512x64 .bf16) : (cc0_scratch1 : Ref sig .tc).ty.Contents (Elt F) :=
  ((Memref.whole cc0_scratch1).access (Rect.unit (s := S512x512) ![0, 64 * (h % 8)] S512x64.size (inbC h))).write (Elt F) f w Finset.univ
/-- The context buffer with the first `n` heads of batch `b` stored. -/
def ctxN (i : Inp F) (b : Fin 2) (f : (cc0_scratch1 : Ref sig .tc).ty.Contents (Elt F)) : ℕ → (cc0_scratch1 : Ref sig .tc).ty.Contents (Elt F)
  | 0 => f
  | n + 1 => wr n (ctxN i b f n) (hd i b n)
/-- The eight heads side by side. -/
def cat (i : Inp F) (b : Fin 2) : Vec F S512x512 .bf16 :=
  fun j => hd i b ((j 1).val / 64) (ix2 (j 0) ⟨(j 1).val % 64, Nat.mod_lt _ (by decide)⟩)

theorem wr_apply (h : ℕ) (hh : h < 8) (f : (cc0_scratch1 : Ref sig .tc).ty.Contents (Elt F)) (w : FVec F S512x64 .bf16) (j : S512x512.Idx) :
    wr h f w j = if (j 1).val / 64 = h then w (ix2 (j 0) ⟨(j 1).val % 64, Nat.mod_lt _ (by decide)⟩) else f j := by
  unfold wr
  have h8 : h % 8 = h := Nat.mod_eq_of_lt hh
  by_cases hj : (j 1).val / 64 = h
  · rw [if_pos hj]
    have e : ((Memref.whole cc0_scratch1).access (Rect.unit (s := S512x512) ![0, 64 * (h % 8)] S512x64.size (inbC h))).emb
        (ix2 (j 0) ⟨(j 1).val % 64, Nat.mod_lt _ (by decide)⟩) = j := by
      funext a
      match a with
      | 0 => exact Fin.ext (by show 0 + 1 * (j 0).val = (j 0).val; omega)
      | 1 => exact Fin.ext (by show 64 * (h % 8) + 1 * ((j 1).val % 64) = (j 1).val; omega)
    conv_lhs => rw [← e]
    exact View.write_emb_of_mem _ _ (Finset.mem_univ _)
  · rw [if_neg hj]
    refine View.write_of_not_mem _ _ _ ?_
    rw [View.setOn_univ]
    show j ∉ ((View.whole cc0_scratch1).slice (Rect.unit (s := S512x512) ![0, 64 * (h % 8)] S512x64.size (inbC h))).set
    rw [View.set_slice_whole, Rect.mem_set_unit]
    intro hm
    have := hm 1
    change 64 * (h % 8) ≤ (j 1).val ∧ (j 1).val < 64 * (h % 8) + 64 at this
    omega

/-- With all eight heads stored nothing is left of what the buffer held. -/
theorem ctxN_eight (i : Inp F) (b : Fin 2) (f : (cc0_scratch1 : Ref sig .tc).ty.Contents (Elt F)) : ctxN i b f 8 = cat i b := by
  funext j
  have h1 : (j 1).val < 512 := (j 1).isLt
  have hj : (j 1).val / 64 < 8 := by omega
  have key : ∀ n, n ≤ 8 → (j 1).val / 64 < n → ctxN i b f n j = cat i b j := by
    intro n
    induction n with
    | zero => intro _ h; omega
    | succ n ih =>
      intro hn h
      show wr n (ctxN i b f n) (hd i b n) j = _
      rw [wr_apply n (by omega)]
      by_cases hq : (j 1).val / 64 = n
      · rw [if_pos hq]; subst hq; rfl
      · rw [if_neg hq]; exact ih (by omega) (by omega)
  exact key 8 (le_refl _) hj

/-- A device's share of the output projection of batch `b`. -/
def P (i : Inp F) (b : Fin 2) : FVec F S512x768 .bf16 := k0_pay23 (cat i b) i.wo

variable (I : Dev nD → Inp F)

/-- The sum of a group's two shares of the batch of `c`. -/
def M (c : Dev nD) : FVec F S512x768 .bf16 := k0_pay44 (P (I c) (par c)) (P (I (pr c)) (par c))

/-- Row block `g` of `M`. -/
def Mrow (c : Dev nD) (g : ℕ) : FVec F S32x768 .bf16 := fun j => M I c (ix2 ⟨(32 * g + (j 0).val) % 512, Nat.mod_lt _ (by decide)⟩ (j 1))

/-- What slot `k` of the receive buffer of `c` holds after the reduce-scatter: the row block of `c` in the group `k + 1` back. -/
def rsAll (c : Dev nD) : (cc0_scratch3 : Ref sig .tc).ty.Contents (Elt F) :=
  fun i => Mrow I (nb c (15 - (i 0).val)) (grp c) (ix2 (i 1) (i 2))

/-- Slot `k` as a one-slot vector. -/
def slotV (c : Dev nD) (k : ℕ) : Vec F S1x32x768 .bf16 := fun i => Mrow I (nb c (15 - k)) (grp c) (ix2 (i 1) (i 2))

/-- The sum over the sixteen groups of the row block of `c`. -/
def T (c : Dev nD) : FVec F S32x768 .bf16 :=
  k0_pay48 (k0_pay46 (k0_pay45 (Mrow I c (grp c)) (slotV I c 0) (slotV I c 1)) (slotV I c 2) (slotV I c 3) (slotV I c 4) (slotV I c 5) (slotV I c 6)
      (slotV I c 7) (slotV I c 8) (slotV I c 9))
    (k0_pay47 (slotV I c 10)) (slotV I c 11) (slotV I c 12) (slotV I c 13) (slotV I c 14)

/-- The finished batch of the parity of `c`. -/
def ghAll (c : Dev nD) : Vec F S512x768 .bf16 :=
  fun i => T I (mate c ((i 0).val / 32)) (ix2 ⟨(i 0).val % 32, Nat.mod_lt _ (by decide)⟩ (i 1))

/-- The kernel's result: the batch of its own parity and the batch of the other one. -/
def outAll (c : Dev nD) : Vec F S1024x768 .f32 :=
  fun i => if (i 0).val / 512 = (par c).val
    then k0_pay49 (ghAll I c) (ix2 ⟨(i 0).val % 512, Nat.mod_lt _ (by decide)⟩ (i 1))
    else k0_pay50 (ghAll I (pr c)) (ix2 ⟨(i 0).val % 512, Nat.mod_lt _ (by decide)⟩ (i 1))

theorem ghAll_nb (c : Dev nD) (e : ℕ) : ghAll I (nb c e) = ghAll I c := by
  funext i; unfold ghAll; rw [mate_nb]

/-- A half batch laid out on both halves of the accumulator. -/
def lift (v : Vec F S512x768 .bf16) : (cc0_scratch0 : Ref sig .tc).ty.Contents (Elt F) :=
  fun i => v (ix2 ⟨(i 0).val % 512, Nat.mod_lt _ (by decide)⟩ (i 1))

end Cert.KI

end
-- ==== Proof.Sched.lean ====
/-
The protocol: which cell a signal or a copy pays, what is handed over with it, what a device owes and in which order.

Every cell is used for one round.  The barrier cell of a device takes sixteen units, one from its partner and one from each
of the fifteen others of its parity; each unit carries the sender's buffers that this device will write to.
-/
module

public import proofs.«01_k».proof.Proof.Geo
public import Idealize.ShloMosaic.Lib.Transfers

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Cert.KernelIdeal Cert.KernelIdeal.Gen

variable {F : FTy → Type} [FloatOps F]

abbrev UU : Type := UR sig nD τ × URounds (GSem nD τ sig) ℕ

local notation "𝕄" => MT nD τ sig Unit (Elt F) ℕ UU ℕ

abbrev EP : Emb (UR sig nD τ) (MT nD τ sig Unit (Elt F) ℕ UU ℕ) := embL
abbrev ER : Emb (URounds (GSem nD τ sig) ℕ) (MT nD τ sig Unit (Elt F) ℕ UU ℕ) := embR

/-! ## Cells -/

abbrev barS : Sem sig := sig.barrier 0 rfl
/-- DMA semaphore number `n`. -/
def dS (n : ℕ) : DmaSem sig := ⟨n % 100, Nat.mod_lt _ (by decide)⟩
theorem dS_val {n : ℕ} (h : n < 100) : (dS n).val = n := Nat.mod_eq_of_lt h
theorem eq_dS (s : DmaSem sig) {n : ℕ} (h : s.val = n) : s = dS n := by
  apply Fin.ext; have := s.isLt; change s.val < 100 at this; show s.val = n % 100; omega

abbrev barCell (c : Dev nD) : GSem nD τ sig := ((c : Thread nD τ), .reg barS)
abbrev dCell (c : Dev nD) (n : ℕ) : GSem nD τ sig := ((c : Thread nD τ), .dma (dS n))

theorem barS_all (s : Sem sig) : s = barS := by revert s; decide

abbrev aM : Memref sig .tc .vmem S1024x768 .bf16 := Memref.whole cc0_scratch0
abbrev cM : Memref sig .tc .vmem S512x512 .bf16 := Memref.whole cc0_scratch1
abbrev pM : Memref sig .tc .vmem S512x768 .bf16 := Memref.whole cc0_scratch2
abbrev rM : Memref sig .tc .vmem S15x32x768 .bf16 := Memref.whole cc0_scratch3
abbrev gM : Memref sig .tc .vmem S512x768 .bf16 := Memref.whole cc0_scratch4
abbrev oM : Memref sig .tc .vmem S512x768 .bf16 := Memref.whole cc0_scratch5

/-- What a copy of a half batch credits, and what a copy of a row block credits. -/
def NA : ℕ := pM.view.dmaCredit
def NB : ℕ := (pM.slice (Rect.unit (s := S512x768) ![0, 0] S32x768.size (by decide)) (fun _ => rfl)).view.dmaCredit

theorem NA_pos : 0 < NA := View.dmaCredit_pos pM.view (by decide)
theorem NB_pos : 0 < NB := View.dmaCredit_pos (pM.slice (Rect.unit (s := S512x768) ![0, 0] S32x768.size (by decide)) (fun _ => rfl)).view (by decide)

/-! ## Payloads -/

section Pay

variable (I : Dev nD → Inp F)

/-- Elements `S` of a buffer of device `c`, at share `q` and contents `f`. -/
abbrev aP (c : Dev nD) (S : Finset S1024x768.Idx) (f : (cc0_scratch0 : Ref sig .tc).ty.Contents (Elt F)) : sProp 𝕄 :=
  aM.view.loc (c : Thread nD τ) ↦[S]{fullShare} f
abbrev pP (c : Dev nD) (f : (cc0_scratch2 : Ref sig .tc).ty.Contents (Elt F)) : sProp 𝕄 :=
  pM.view.loc (c : Thread nD τ) ↦{fullShare} f
abbrev rP (c : Dev nD) (S : Finset S15x32x768.Idx) (f : (cc0_scratch3 : Ref sig .tc).ty.Contents (Elt F)) : sProp 𝕄 :=
  rM.view.loc (c : Thread nD τ) ↦[S]{fullShare} f
abbrev gP (c : Dev nD) (S : Finset S512x768.Idx) (q : PosShare TreeShare) (f : (cc0_scratch4 : Ref sig .tc).ty.Contents (Elt F)) : sProp 𝕄 :=
  gM.view.loc (c : Thread nD τ) ↦[S]{q} f
abbrev oP (c : Dev nD) (S : Finset S512x768.Idx) (f : (cc0_scratch5 : Ref sig .tc).ty.Contents (Elt F)) : sProp 𝕄 :=
  oM.view.loc (c : Thread nD τ) ↦[S]{fullShare} f

/-- The unit of the partner: the partner's exchange buffer and its buffer for the other batch. -/
def barPay0 (c : Dev nD) : sProp 𝕄 :=
  iprop((∃ f, pP (pr c) f) ∗ (∃ f, oP (pr c) Finset.univ f) ∗ reached ER (dCell (pr c) 7) 0
    ∗ bigSep (Finset.range 16) fun k => reached ER (dCell (pr c) (84 + k)) 0)
/-- The unit of the device `k + 1` groups on: its slot `k` and the row block of this device in its gather buffer. -/
def barPayN (c : Dev nD) (k : ℕ) : sProp 𝕄 :=
  iprop((∃ f, rP (nb c (k + 1)) (bandR k 1) f) ∗ (∃ f, gP (nb c (k + 1)) (bandG (32 * grp c) 32) fullShare f)
    ∗ reached ER (dCell (nb c (k + 1)) (23 + k)) 0 ∗ reached ER (dCell (nb c (k + 1)) (53 + k)) 0)
def barPay (c : Dev nD) (d : ℕ) : sProp 𝕄 := if d = 0 then barPay0 c else barPayN c (15 - d)

/-- What the copy that raises DMA semaphore `n` of device `c` leaves. -/
def dmaPay (c : Dev nD) (n : ℕ) : sProp 𝕄 :=
  if n = 6 then aP c (bandA (512 * (1 - par c).val) 512) (lift (P (I c) (1 - par c)))
  else if n = 7 then pP c (P (I (pr c)) (par c))
  else if n < 23 then aP c (bandA (512 * (par c).val + 32 * ((grp c + (n - 8) + 1) % 16)) 32) (lift (M I c))
  else if n < 38 then rP c (bandR (n - 23) 1) (rsAll I c)
  else if n < 53 then gP c (bandG (32 * grp c) 32) (shareTokN fullShare (n - 38)) (ghAll I c)
  else if n < 68 then gP c (bandG (32 * ((grp c + 15 - (n - 53)) % 16)) 32) fullShare (ghAll I c)
  else if n < 84 then gP c (bandG (32 * ((grp c + 16 - (n - 68)) % 16)) 32) (shareTokN fullShare 15) (ghAll I c)
  else oP c (bandG (32 * ((grp c + 16 - (n - 84)) % 16)) 32) (ghAll I (pr c))

/-- One round on every barrier cell and every cell of the kernel's own semaphores. -/
def Rd : Rounds.Schedule (GSem nD τ sig) ℕ 𝕄 where
  duties g r := if r = 0 then (match g.2 with | .reg _ => Finset.range 16 | .dma _ => {0}) else ∅
  unitless _ := False
  amount g _ _ := match g.2 with | .reg _ => 1 | .dma s => if s.val < 8 then NA else NB
  payload g _ d := match g.2 with | .reg _ => barPay g.1.1 d | .dma s => dmaPay I g.1.1 s.val
  amount_pos g _ _ _ := by
    rcases g with ⟨t, s | s⟩
    · exact Nat.one_pos
    · show 0 < if s.val < 8 then NA else NB
      split
      · exact NA_pos
      · exact NB_pos

set_option synthInstance.maxHeartbeats 400000 in
instance Rd_storable (g : GSem nD τ sig) (r : ℕ) (d : ℕ) : BI.Storable (upEmb : UEmb _ 𝕄) ((Rd I).payload g r d) := by
  rcases g with ⟨t, s | s⟩
  · show BI.Storable upEmb (barPay t.1 d)
    unfold barPay barPay0 barPayN
    split <;> infer_instance
  · show BI.Storable upEmb (dmaPay I t.1 s.val)
    unfold dmaPay
    (repeat' split) <;> infer_instance

variable (c : Dev nD) (n : ℕ)

theorem duties_bar : (Rd I).duties (barCell c) 0 = Finset.range 16 := rfl
theorem duties_dma : (Rd I).duties (dCell c n) 0 = {0} := rfl
theorem duties_later (g : GSem nD τ sig) : ∀ r, 1 ≤ r → (Rd I).duties g r = ∅ := fun r hr => if_neg (by omega)
theorem amount_bar (d : ℕ) : (Rd I).amount (barCell c) 0 d = 1 := rfl
theorem amount_A (d : ℕ) (h : n < 8) : (Rd I).amount (dCell c n) 0 d = NA := by
  show (if (dS n).val < 8 then NA else NB) = NA; rw [dS_val (by omega), if_pos h]
theorem amount_B (d : ℕ) (h : 8 ≤ n) (h' : n < 100) : (Rd I).amount (dCell c n) 0 d = NB := by
  show (if (dS n).val < 8 then NA else NB) = NB; rw [dS_val h', if_neg (by omega)]
theorem expect_bar : (Rd I).expect (barCell c) 0 = 16 := by
  unfold Schedule.expect Schedule.amountOf; rw [duties_bar]
  simp only [amount_bar, Finset.sum_const, Finset.card_range, smul_eq_mul]
theorem expect_A (h : n < 8) : (Rd I).expect (dCell c n) 0 = NA := by
  unfold Schedule.expect Schedule.amountOf; rw [duties_dma, Finset.sum_singleton, amount_A I c n 0 h]
theorem expect_B (h : 8 ≤ n) (h' : n < 100) : (Rd I).expect (dCell c n) 0 = NB := by
  unfold Schedule.expect Schedule.amountOf; rw [duties_dma, Finset.sum_singleton, amount_B I c n 0 h h']
theorem payload_bar (d : ℕ) : (Rd I).payload (barCell c) 0 d = barPay c d := rfl
theorem payload_dma (d : ℕ) (h : n < 100) : (Rd I).payload (dCell c n) 0 d = dmaPay I c n := by
  show dmaPay I c (dS n).val = _; rw [dS_val h]
theorem rest_bar : bigSep ((Rd I).duties (barCell c) 0 \ ∅) (fun d => (Rd I).payload (barCell c) 0 d) = bigSep (Finset.range 16) (fun d => barPay (F := F) c d) := by
  rw [Finset.sdiff_empty, duties_bar]; rfl
theorem rest_dma (h : n < 100) : bigSep ((Rd I).duties (dCell c n) 0 \ ∅) (fun d => (Rd I).payload (dCell c n) 0 d) = dmaPay I c n := by
  rw [Finset.sdiff_empty, duties_dma, bigSep_singleton, payload_dma I c n 0 h]

end Pay

/-! ## What is owed -/

/-- The cells device `c` owes to, in the order it pays them. -/
def dueCell (c : Dev nD) (i : ℕ) : GSem nD τ sig :=
  if i = 0 then barCell (pr c) else if i < 16 then barCell (nb c i) else if i = 16 then dCell (pr c) 7
  else if i < 32 then dCell (nb c (i - 16)) (i + 6) else if i < 47 then dCell (nb c (i - 31)) (i + 21) else dCell (pr c) (i + 37)
def dueAmt (i : ℕ) : ℕ := if i < 16 then 1 else if i = 16 then NA else NB
/-- What is left to pay from the `n`th on. -/
def due (c : Dev nD) (n : ℕ) : CellTallies nD τ sig Unit := ∑ i ∈ Finset.Ico n 63, tallyAt (dueCell c i) () (dueAmt i)

theorem due_step (c : Dev nD) (n : ℕ) (h : n < 63) : due c n = due c (n + 1) + tallyAt (dueCell c n) () (dueAmt n) := by
  have e : Finset.Ico n 63 = insert n (Finset.Ico (n + 1) 63) := by
    ext i; rw [Finset.mem_insert, Finset.mem_Ico, Finset.mem_Ico]; omega
  unfold due; rw [e, Finset.sum_insert (by rw [Finset.mem_Ico]; omega), add_comm]
theorem due_last (c : Dev nD) : due c 63 = 0 := by unfold due; rw [Finset.Ico_self, Finset.sum_empty]

theorem due_bar0 (c : Dev nD) : due c 0 = due c 1 + tallyAt (barCell (pr c)) () 1 := due_step c 0 (by decide)
theorem due_bar (c : Dev nD) (i : ℕ) (h : 1 ≤ i) (h' : i < 16) : due c i = due c (i + 1) + tallyAt (barCell (nb c i)) () 1 := by
  rw [due_step c i (by omega)]; unfold dueCell dueAmt; rw [if_neg (by omega), if_pos h', if_pos h']
theorem due_s1 (c : Dev nD) : due c 16 = due c 17 + tallyAt (dCell (pr c) 7) () NA := by
  rw [due_step c 16 (by omega)]; rfl
theorem due_rs (c : Dev nD) (k : ℕ) (h : k < 15) : due c (17 + k) = due c (17 + k + 1) + tallyAt (dCell (nb c (k + 1)) (23 + k)) () NB := by
  rw [due_step c _ (by omega)]; unfold dueCell dueAmt
  rw [if_neg (by omega), if_neg (by omega), if_neg (by omega), if_pos (by omega), if_neg (by omega), if_neg (by omega)]
  rw [show 17 + k - 16 = k + 1 by omega, show 17 + k + 6 = 23 + k by omega]
theorem due_ag (c : Dev nD) (k : ℕ) (h : k < 15) : due c (32 + k) = due c (32 + k + 1) + tallyAt (dCell (nb c (k + 1)) (53 + k)) () NB := by
  rw [due_step c _ (by omega)]; unfold dueCell dueAmt
  rw [if_neg (by omega), if_neg (by omega), if_neg (by omega), if_neg (by omega), if_pos (by omega), if_neg (by omega), if_neg (by omega)]
  rw [show 32 + k - 31 = k + 1 by omega, show 32 + k + 21 = 53 + k by omega]
theorem due_f (c : Dev nD) (k : ℕ) (h : k < 16) : due c (47 + k) = due c (47 + k + 1) + tallyAt (dCell (pr c) (84 + k)) () NB := by
  rw [due_step c _ (by omega)]; unfold dueCell dueAmt
  rw [if_neg (by omega), if_neg (by omega), if_neg (by omega), if_neg (by omega), if_neg (by omega), if_neg (by omega), if_neg (by omega)]
  rw [show 47 + k + 37 = 84 + k by omega]

def L (g : GSem nD τ sig) : Finset Unit := if g.1.2 = .tc then {()} else ∅
/-- The barrier before the pair exchange, that before the reduce-scatter, that before the gather, that before the forward. -/
def lvS (s : SemLoc sig) : ℕ :=
  match s with
  | .reg _ => 1
  | .dma s => if s.val = 7 then 2 else if 23 ≤ s.val ∧ s.val < 38 then 3 else if 53 ≤ s.val ∧ s.val < 68 then 4 else if 84 ≤ s.val then 5 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem dueCell_L (c : Dev nD) (i : ℕ) : () ∈ L (dueCell c i) := by
  unfold dueCell; (repeat' split) <;> (rw [L_tc]; exact Finset.mem_singleton_self _)
theorem dueCell_lv (c : Dev nD) (i : ℕ) (h : i < 63) :
    lv (dueCell c i) () = if i < 16 then 1 else if i = 16 then 2 else if i < 32 then 3 else if i < 47 then 4 else 5 := by
  have key : ∀ i : Fin 63, ∀ a b : Dev nD, lvS (if i.val = 0 then (SemLoc.reg barS : SemLoc sig) else if i.val < 16 then .reg barS else if i.val = 16 then .dma (dS 7)
      else if i.val < 32 then .dma (dS (i.val + 6)) else if i.val < 47 then .dma (dS (i.val + 21)) else .dma (dS (i.val + 37)))
      = if i.val < 16 then 1 else if i.val = 16 then 2 else if i.val < 32 then 3 else if i.val < 47 then 4 else 5 := fun i _ _ =>
    (by decide : ∀ i : Fin 63, lvS (if i.val = 0 then (SemLoc.reg barS : SemLoc sig) else if i.val < 16 then .reg barS else if i.val = 16 then .dma (dS 7)
      else if i.val < 32 then .dma (dS (i.val + 6)) else if i.val < 47 then .dma (dS (i.val + 21)) else .dma (dS (i.val + 37)))
      = if i.val < 16 then 1 else if i.val = 16 then 2 else if i.val < 32 then 3 else if i.val < 47 then 4 else 5) i
  rw [← key ⟨i, h⟩ c c]
  unfold lv dueCell
  congr 1
  (repeat' split) <;> rfl

/-- What is owed is at cells a device pays later. -/
theorem due_pos (c : Dev nD) (n : ℕ) (g : GSem nD τ sig) (u : Unit) (hg : 0 < due c n g u) : ∃ i, n ≤ i ∧ i < 63 ∧ g = dueCell c i := by
  unfold due at hg
  rw [Finset.sum_apply, Finsupp.finset_sum_apply] at hg
  obtain ⟨i, hi, hne⟩ := Finset.exists_ne_zero_of_sum_ne_zero (Nat.pos_iff_ne_zero.mp hg)
  rw [tallyAt_apply] at hne
  by_cases h : g = dueCell c i ∧ u = ()
  · rw [Finset.mem_Ico] at hi; exact ⟨i, hi.1, hi.2, h.1⟩
  · rw [if_neg h] at hne; exact absurd rfl hne

theorem mayWait (c : Dev nD) (n cut : ℕ) (sm : SemLoc sig) (hs : lvS sm ≤ cut)
    (hc : ∀ i, n ≤ i → i < 63 → cut < if i < 16 then 1 else if i = 16 then 2 else if i < 32 then 3 else if i < 47 then 4 else 5) :
    (levAts L lv : sProp 𝕄) ⊢ MayWait (c : Thread nD τ) sm () (due c n) :=
  MayOwe.of_cut (L := L) (lev := lv) cut (fun p hp => by rw [Finset.mem_singleton.mp hp, L_tc]; exact Finset.mem_singleton_self _)
    (fun g u hg => by obtain ⟨i, _, _, rfl⟩ := due_pos c n g u hg; exact dueCell_L c i)
    (fun p hp => by rw [Finset.mem_singleton.mp hp]; exact hs)
    (fun g u hg => by obtain ⟨i, h1, h2, rfl⟩ := due_pos c n g u hg; rw [dueCell_lv c i h2]; exact hc i h1 h2)

end Cert.KI

end
-- ==== Proof.Moves.lean ====
/-
One step of the kernel at a time: a signal, a copy to another device, a wait.
-/
module

public import proofs.«01_k».proof.Proof.Sched

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Cert.KernelIdeal Cert.KernelIdeal.Gen

variable {F : FTy → Type} [FloatOps F]

local notation "𝕄" => MT nD τ sig Unit (Elt F) ℕ UU ℕ

abbrev 𝒱₀ : Variants := Variants.none

/-- Running a piece of the kernel on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (I : Dev nD → Inp F) (K : GSem nD τ sig → ℕ)

/-- The cells' invariants, all devices'. -/
def invs : sProp 𝕄 :=
  iprop((bigSep Finset.univ fun c : Dev nD => cellInv ER (Rd I) (K (barCell c)) (barCell c))
    ∗ bigSep Finset.univ fun x : Dev nD × Fin 94 => cellInv ER (Rd I) (K (dCell x.1 (6 + x.2.val))) (dCell x.1 (6 + x.2.val)))
/-- What every step may use: the invariants and the levels. -/
def Gam : sProp 𝕄 := iprop(invs I K ∗ levAts L lv)
instance invs_persistent : BI.Persistent (invs I K) := by unfold invs; infer_instance
instance Gam_persistent : BI.Persistent (Gam I K) := by unfold Gam; infer_instance

variable {I K}

theorem inv_bar (c : Dev nD) : invs I K ⊢ cellInv ER (Rd I) (K (barCell c)) (barCell c) := by
  unfold invs
  exact sep_elim_left.trans (bigSep_elim (Finset.mem_univ c) (Φ := fun c : Dev nD => cellInv ER (Rd I) (K (barCell c)) (barCell c)))
theorem inv_dma (c : Dev nD) (n : ℕ) (h : 6 ≤ n) (h' : n < 100) : invs I K ⊢ cellInv ER (Rd I) (K (dCell c n)) (dCell c n) := by
  obtain ⟨m, rfl⟩ : ∃ m, n = 6 + m := ⟨n - 6, by omega⟩
  unfold invs
  exact sep_elim_right.trans (bigSep_elim (Finset.mem_univ ((c, ⟨m, by omega⟩) : Dev nD × Fin 94))
    (Φ := fun x : Dev nD × Fin 94 => cellInv ER (Rd I) (K (dCell x.1 (6 + x.2.val))) (dCell x.1 (6 + x.2.val))))

/-- What the device still owes, from the `n`th payment on. -/
def ow (c : Dev nD) (n : ℕ) : sProp 𝕄 := iprop(∃ W, owes (c : Thread nD τ) (due c n) W)
/-- The right to copy: the own completion's token and the landing's. -/
def sT (c : Dev nD) (n : ℕ) (c' : Dev nD) (n' : ℕ) : sProp 𝕄 :=
  iprop(dutyTok ER (dCell c n) 0 0 ∗ reached ER (dCell c n) 0 ∗ dutyTok ER (dCell c' n') 0 0 ∗ reached ER (dCell c' n') 0)
/-- The right to wait, and what is left of it afterwards. -/
def wT (c : Dev nD) (n N : ℕ) : sProp 𝕄 := iprop(cred (tallyAt (dCell c n) () N) ∗ atPos ER (dCell c n) 0 ∅ 0)
abbrev dn (c : Dev nD) (n : ℕ) : sProp 𝕄 := atPos ER (dCell c n) (0 + 1) ∅ 0

section Steps

variable {α : Type} {c : Dev nD} {Q : α → sProp (MT nD τ sig Unit (Elt F) ℕ UU ℕ)} {R : sProp (MT nD τ sig Unit (Elt F) ℕ UU ℕ)}

theorem done {S : sProp 𝕄} {r : α} (h : S ⊢ Q r) : S ⊢ wpc c (pure r) Q := h.trans fupd_intro
theorem bind_step {β : Type} {S : sProp 𝕄} {p : Prog (TpuEff nD τ sig (Elt F) Λ₀ .tc) β} {k : β → Prog (TpuEff nD τ sig (Elt F) Λ₀ .tc) α}
    (h : S ⊢ wpc c p (fun a => wpc c (k a) Q)) : S ⊢ wpc c (p >>= k) Q := by
  unfold wpc; rw [wp_bind]; exact h

/-- A signal to the barrier cell of device `n` with duty `d`. -/
theorem signal_step (n : Dev nD) (s : Sem sig) (i d : ℕ) (hd : d < 16) (hO : due c i = due c (i + 1) + tallyAt (barCell n) () 1)
    {k : PUnit → Prog (TpuEff nD τ sig (Elt F) Λ₀ .tc) α}
    (h : iprop(Gam I K ∗ ow c (i + 1) ∗ R) ⊢ wpc c (k ⟨⟩) Q) :
    iprop(Gam I K ∗ ow c i ∗ (dutyTok ER (barCell n) 0 d ∗ reached ER (barCell n) 0 ∗ barPay n d) ∗ R) ⊢ wpc c (semSignalWord n s 1#32 >>= k) Q := by
  obtain rfl := barS_all s
  unfold Gam ow at *
  iintro ⟨⟨#Hinv, #Hlev⟩, ⟨%W, HO⟩, ⟨Ht, #Hr, Hp⟩, HR⟩
  iapply (Rounds.wp_signal 𝒱₀ ER (Rd I) (c : Thread nD τ) none (dst := (n : Thread nD τ)) (sem := barS) (r := 0) (d := d) (κ := K (barCell n))
      (by rw [duties_bar]; exact Finset.mem_range.mpr hd) (amount_bar I n d) () (due c (i + 1)) hO) $$ [HO Ht Hp]
  · isplitr; · iapply (inv_bar n); iexact Hinv
    isplitl [HO]; · iexact HO
    isplitl [Ht]; · iexact Ht
    isplitl [Hp]; · rw [payload_bar]; iexact Hp
    iexact Hr
  iintro HO
  iapply h
  isplitr
  · isplitr; · iexact Hinv
    iexact Hlev
  isplitl [HO]; · iexists W; iexact HO
  iexact HR

/-- The wait for the sixteen units. -/
theorem barwait_step (s : Sem sig) {k : PUnit → Prog (TpuEff nD τ sig (Elt F) Λ₀ .tc) α}
    (h : iprop(Gam I K ∗ ow c 16 ∗ (atPos ER (barCell c) (0 + 1) ∅ 0 ∗ bigSep (Finset.range 16) (fun d => barPay c d)) ∗ R) ⊢ wpc c (k ⟨⟩) Q) :
    iprop(Gam I K ∗ ow c 16 ∗ (cred (tallyAt (barCell c) () 16) ∗ atPos ER (barCell c) 0 ∅ 0) ∗ R) ⊢ wpc c (semWaitWord s 16#32 >>= k) Q := by
  obtain rfl := barS_all s
  unfold Gam ow at *
  iintro ⟨⟨#Hinv, #Hlev⟩, ⟨%W, HO⟩, ⟨Hc, Hat⟩, HR⟩
  iapply (Rounds.wp_wait_rest_token 𝒱₀ ER (Rd I) (c : Thread nD τ) none (κ := K (barCell c))
      (wpE_semWait_eq 𝒱₀ (c : Thread nD τ) none Set.univ) (Set.mem_univ _) () (O := due c 16) (W := W) (R := 0) (m := 0) (T := ∅)
      ((Nat.zero_add 16).trans (expect_bar I c).symm)) $$ [Hc HO Hat]
  · isplitr; · iapply (inv_bar c); iexact Hinv
    isplitl [Hc]; · iexact Hc
    isplitl [HO]; · iexact HO
    isplitr
    · iapply (mayWait (F := F) c 16 1 (.reg barS) (by decide) (fun i h1 h2 => by (repeat' split) <;> omega)); iexact Hlev
    iexact Hat
  iintro ⟨HO, Hat, -, Hpay⟩
  ihave Hp := (Entails.of_eq (rest_bar I c)) $$ Hpay
  iapply h
  isplitr
  · isplitr; · iexact Hinv
    iexact Hlev
  isplitl [HO]; · iexists _; iexact HO
  isplitl [Hat Hp]
  · isplitl [Hat]; · iexact Hat
    iexact Hp
  iexact HR

/-- A copy to device `c'`, from completion semaphore `n` to landing semaphore `n'`. -/
theorem send_step (n n' i N : ℕ) (c' : Dev nD) (hn : 6 ≤ n ∧ n < 100) (hn' : 6 ≤ n' ∧ n' < 100)
    {sp sp' : Space} {s : Shape} {e : EltTy} {src : Memref sig .tc sp s e} {dst : Memref sig .tc sp' s e}
    {sS sD : DmaSem sig} (hS : sS.val = n) (hD : sD.val = n')
    {hsc : dst.view.ref.isScScratch = false} {hsrc : src.view.WordExact} {hdst : dst.view.WordExact}
    {hsem : DmaTarget.Typed sp (.dma sD) (.remote (Dev.tc c') dst (.dma sS) hsc)}
    {q : PosShare TreeShare} {fs : Buf (Elt F) (src.view.loc (c : Thread nD τ))} {fd : Buf (Elt F) (dst.view.loc (c' : Thread nD τ))}
    (hN : dst.view.dmaCredit = N) (a₁ : (Rd I).amount (dCell c n) 0 0 = N) (a₂ : (Rd I).amount (dCell c' n') 0 0 = N)
    (hO : due c i = due c (i + 1) + tallyAt (dCell c' n') () N)
    (p₁ : (src.view.loc (c : Thread nD τ) ↦[src.view.set]{q} fs : sProp 𝕄) ⊢ dmaPay I c n)
    (p₂ : (dst.view.loc (c' : Thread nD τ) ↦[dst.view.set]{fullShare} (dst.view.write (Elt F) fd (src.view.read (Elt F) fs) Finset.univ) : sProp 𝕄) ⊢ dmaPay I c' n')
    {k : PUnit → Prog (TpuEff nD τ sig (Elt F) Λ₀ .tc) α}
    (h : iprop(Gam I K ∗ ow c (i + 1) ∗ cred (tallyAt (dCell c n) () N) ∗ R) ⊢ wpc c (k ⟨⟩) Q) :
    iprop(Gam I K ∗ ow c i ∗ ((src.view.loc (c : Thread nD τ) ↦[src.view.set]{q} fs) ∗ (dst.view.loc (c' : Thread nD τ) ↦[dst.view.set]{fullShare} fd) ∗ sT c n c' n') ∗ R)
      ⊢ wpc c (Prog.lift (.enqueueDma src (.remote (Dev.tc c') dst (.dma sS) hsc) (.dma sD) hsrc hdst hsem) >>= k) Q := by
  obtain rfl := eq_dS sS hS
  obtain rfl := eq_dS sD hD
  unfold Gam ow sT at *
  iintro ⟨⟨#Hinv, #Hlev⟩, ⟨%W, HO⟩, ⟨Hs, Hd, Ht1, #Hr1, Ht2, #Hr2⟩, HR⟩
  iapply (Rounds.wp_send_pointsTo 𝒱₀ ER (Rd I) (c : Thread nD τ) none (c' := (c' : Thread nD τ)) (src := src) (dst := dst)
      (sS := .dma (dS n)) (sem := .dma (dS n')) (q := q) (fs := fs) (κ₁ := K (dCell c n)) (κ₂ := K (dCell c' n'))
      (r₁ := 0) (r₂ := 0) (d₁ := 0) (d₂ := 0) (fd := fd)
      (by rw [duties_dma]; exact Finset.mem_singleton_self _) (by rw [duties_dma]; exact Finset.mem_singleton_self _)
      () () N hN a₁ a₂ (due c (i + 1)) hO (W := W)
      (by rw [payload_dma I c n 0 hn.2]; exact p₁)
      (by rw [payload_dma I c' n' 0 hn'.2]; exact p₂)) $$ [Hs Hd HO Ht1 Ht2]
  · isplitr; · iapply (inv_dma c n hn.1 hn.2); iexact Hinv
    isplitr; · iapply (inv_dma c' n' hn'.1 hn'.2); iexact Hinv
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply h
  isplitr
  · isplitr; · iexact Hinv
    iexact Hlev
  isplitl [HO]; · iexists W; iexact HO
  isplitl [Hc]; · iexact Hc
  iexact HR

/-- A wait on the own semaphore `n`. -/
theorem wait_step (n i N cut : ℕ) (hn : 6 ≤ n ∧ n < 100) {sm : DmaSem sig} (hS : sm.val = n)
    {sp sp' : Space} {s s' : Shape} {e e' : EltTy} {src : Memref sig .tc sp s e} {dst : Memref sig .tc sp' s' e'}
    {hsrc : src.view.WordExact} {hdst : dst.view.WordExact}
    (hN : dst.view.dmaCredit = N) (hE : (Rd I).expect (dCell c n) 0 = N)
    (hl : lvS (.dma (dS n)) ≤ cut)
    (hc : ∀ j, i ≤ j → j < 63 → cut < if j < 16 then 1 else if j = 16 then 2 else if j < 32 then 3 else if j < 47 then 4 else 5)
    {k : PUnit → Prog (TpuEff nD τ sig (Elt F) Λ₀ .tc) α}
    (h : iprop(Gam I K ∗ ow c i ∗ (dn c n ∗ dmaPay I c n) ∗ R) ⊢ wpc c (k ⟨⟩) Q) :
    iprop(Gam I K ∗ ow c i ∗ wT c n N ∗ R) ⊢ wpc c (Prog.lift (.waitDma2 sm src dst hsrc hdst) >>= k) Q := by
  obtain rfl := eq_dS sm hS
  subst hN
  unfold Gam ow wT at *
  iintro ⟨⟨#Hinv, #Hlev⟩, ⟨%W, HO⟩, ⟨Hc, Hat⟩, HR⟩
  iapply (Rounds.wp_wait_rest_token 𝒱₀ ER (Rd I) (c : Thread nD τ) none (κ := K (dCell c n))
      (wpE_waitDma2_eq (src := src) (dst := dst) 𝒱₀ (c : Thread nD τ) none Set.univ) (Set.mem_univ _) () (O := due c i) (W := W) (R := 0) (m := 0) (T := ∅)
      ((Nat.zero_add _).trans hE.symm)) $$ [Hc HO Hat]
  · isplitr; · iapply (inv_dma c n hn.1 hn.2); iexact Hinv
    isplitl [Hc]; · iexact Hc
    isplitl [HO]; · iexact HO
    isplitr
    · iapply (mayWait (F := F) c i cut (.dma (dS n)) hl hc); iexact Hlev
    iexact Hat
  iintro ⟨HO, Hat, -, Hpay⟩
  ihave Hp := (Entails.of_eq (rest_dma I c n hn.2)) $$ Hpay
  iapply h
  isplitr
  · isplitr; · iexact Hinv
    iexact Hlev
  isplitl [HO]; · iexists _; iexact HO
  isplitl [Hat Hp]
  · isplitl [Hat]; · iexact Hat
    iexact Hp
  iexact HR

end Steps

end Cert.KI

end
-- ==== Proof.Fam.lean ====
/-
The four exchanges step by step: what is held before and after the `n`th copy or wait of each.
-/
module

public import proofs.«01_k».proof.Proof.Moves
public import Idealize.SL.BI.BigOpNat

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Cert.KernelIdeal Cert.KernelIdeal.Gen

variable {F : FTy → Type} [FloatOps F]

local notation "𝕄" => MT nD τ sig Unit (Elt F) ℕ UU ℕ

theorem ent_trans {P Q R : sProp 𝕄} (h : P ⊢ Q) (h' : Q ⊢ R) : P ⊢ R := h.trans h'

/-! ## The payloads by family -/

section Pays

variable (I : Dev nD → Inp F) (c : Dev nD) (k : ℕ)

/-- Row block sent in step `k` of the reduce-scatter, and row block forwarded in step `k`. -/
def ch (c : Dev nD) (k : ℕ) : ℕ := (grp c + k + 1) % 16
def fch (c : Dev nD) (k : ℕ) : ℕ := (grp c + 16 - k) % 16
theorem fch_lt : fch c k < 16 := Nat.mod_lt _ (by decide)
theorem ch_lt : ch c k < 16 := Nat.mod_lt _ (by decide)

theorem pay6 : dmaPay I c 6 = aP c (bandA (512 * (1 - par c).val) 512) (lift (P (I c) (1 - par c))) := by
  unfold dmaPay; rw [if_pos rfl]
theorem pay7 : dmaPay I c 7 = pP c (P (I (pr c)) (par c)) := by
  unfold dmaPay; rw [if_neg (by omega), if_pos rfl]
theorem payRsS (h : k < 15) : dmaPay I c (8 + k) = aP c (bandA (512 * (par c).val + 32 * ch c k) 32) (lift (M I c)) := by
  unfold dmaPay ch; rw [if_neg (by omega), if_neg (by omega), if_pos (by omega), show 8 + k - 8 = k by omega]
theorem payRsR (h : k < 15) : dmaPay I c (23 + k) = rP c (bandR k 1) (rsAll I c) := by
  unfold dmaPay; rw [if_neg (by omega), if_neg (by omega), if_neg (by omega), if_pos (by omega), show 23 + k - 23 = k by omega]
theorem payAgS (h : k < 15) : dmaPay I c (38 + k) = gP c (bandG (32 * grp c) 32) (shareTokN fullShare k) (ghAll I c) := by
  unfold dmaPay
  rw [if_neg (by omega), if_neg (by omega), if_neg (by omega), if_neg (by omega), if_pos (by omega), show 38 + k - 38 = k by omega]
theorem payAgR (h : k < 15) : dmaPay I c (53 + k) = gP c (bandG (32 * fch c (k + 1)) 32) fullShare (ghAll I c) := by
  unfold dmaPay fch
  rw [if_neg (by omega), if_neg (by omega), if_neg (by omega), if_neg (by omega), if_neg (by omega), if_pos (by omega), show 53 + k - 53 = k by omega,
    show grp c + 16 - (k + 1) = grp c + 15 - k by omega]
theorem payFS (h : k < 16) : dmaPay I c (68 + k) = gP c (bandG (32 * fch c k) 32) (shareTokN fullShare 15) (ghAll I c) := by
  unfold dmaPay fch
  rw [if_neg (by omega), if_neg (by omega), if_neg (by omega), if_neg (by omega), if_neg (by omega), if_neg (by omega), if_pos (by omega),
    show 68 + k - 68 = k by omega]
theorem payFR (h : k < 16) : dmaPay I c (84 + k) = oP c (bandG (32 * fch c k) 32) (ghAll I (pr c)) := by
  unfold dmaPay fch
  rw [if_neg (by omega), if_neg (by omega), if_neg (by omega), if_neg (by omega), if_neg (by omega), if_neg (by omega), if_neg (by omega),
    show 84 + k - 84 = k by omega]

end Pays

/-! ## What a copy leaves -/

/-- Row `512 * p + 32 * g + r` of the accumulator at a lifted half batch. -/
theorem lift_at (v : Vec F S512x768 .bf16) (i : S1024x768.Idx) (p : Fin 2) (r : ℕ) (hr : r < 512) (h0 : (i 0).val = 512 * p.val + r) :
    lift v i = v (ix2 ⟨r, hr⟩ (i 1)) := by
  have e : (i 0).val % 512 = r := by omega
  show v (ix2 ⟨(i 0).val % 512, _⟩ (i 1)) = _
  congr 2
  exact Fin.ext e

/-! ## Signals -/

section Families

variable {I : Dev nD → Inp F} {K : GSem nD τ sig → ℕ}

/-- Whom the `d`th signal goes to. -/
def tgt (c : Dev nD) (d : ℕ) : Dev nD := if d = 0 then pr c else nb c d
def sg (c : Dev nD) (d : ℕ) : sProp 𝕄 :=
  iprop(dutyTok ER (barCell (tgt c d)) 0 d ∗ reached ER (barCell (tgt c d)) 0 ∗ barPay (tgt c d) d)
def sgs (c : Dev nD) (n : ℕ) : sProp 𝕄 := bigSep (Finset.Ico n 16) (fun d => sg c d)

section
variable {α : Type} {c : Dev nD} {Q : α → sProp (MT nD τ sig Unit (Elt F) ℕ UU ℕ)} {R : sProp (MT nD τ sig Unit (Elt F) ℕ UU ℕ)}

theorem sig_step (d : ℕ) (hd : d < 16) {n : Dev nD} (hn : n = tgt c d) {s : Sem sig} {k : PUnit → Prog (TpuEff nD τ sig (Elt F) Λ₀ .tc) α}
    (h : iprop(Gam I K ∗ ow c (d + 1) ∗ sgs c (d + 1) ∗ R) ⊢ wpc c (k ⟨⟩) Q) :
    iprop(Gam I K ∗ ow c d ∗ sgs c d ∗ R) ⊢ wpc c (semSignalWord n s 1#32 >>= k) Q := by
  subst hn
  have hO : due c d = due c (d + 1) + tallyAt (barCell (tgt c d)) () 1 := by
    unfold tgt
    by_cases h0 : d = 0
    · subst h0; exact due_bar0 c
    · rw [if_neg h0]; exact due_bar c d (by omega) hd
  refine ent_trans ?_ (signal_step (I := I) (K := K) (R := iprop(sgs c (d + 1) ∗ R)) (tgt c d) s d d hd hO h)
  unfold sgs
  rw [bigSep_Ico_succ_bot hd]
  unfold sg
  iintro ⟨HG, HO, ⟨Hs, Hss⟩, HR⟩
  isplitl [HG]; · iexact HG
  isplitl [HO]; · iexact HO
  isplitl [Hs]; · iexact Hs
  isplitl [Hss]; · iexact Hss
  iexact HR

/-! ## Waits of a family -/

/-- `n` of the `m` waits from semaphore `b` on done. -/
def WF (I : Dev nD → Inp F) (c : Dev nD) (b m n : ℕ) : sProp 𝕄 :=
  iprop((bigSep (Finset.Ico n m) fun k => wT c (b + k) NB) ∗ bigSep (Finset.range n) fun k => iprop(dn c (b + k) ∗ dmaPay I c (b + k)))

theorem wf_step (b m n i cut : ℕ) (hb : 8 ≤ b) (hm : b + m ≤ 100) (hn : n < m) {sm : DmaSem sig} (hS : sm.val = b + n)
    {sp sp' : Space} {s s' : Shape} {e e' : EltTy} {src : Memref sig .tc sp s e} {dst : Memref sig .tc sp' s' e'}
    {hsrc : src.view.WordExact} {hdst : dst.view.WordExact} (hN : dst.view.dmaCredit = NB)
    (hl : lvS (.dma (dS (b + n))) ≤ cut)
    (hc : ∀ j, i ≤ j → j < 63 → cut < if j < 16 then 1 else if j = 16 then 2 else if j < 32 then 3 else if j < 47 then 4 else 5)
    {k : PUnit → Prog (TpuEff nD τ sig (Elt F) Λ₀ .tc) α}
    (h : iprop(Gam I K ∗ ow c i ∗ WF I c b m (n + 1) ∗ R) ⊢ wpc c (k ⟨⟩) Q) :
    iprop(Gam I K ∗ ow c i ∗ WF I c b m n ∗ R) ⊢ wpc c (Prog.lift (.waitDma2 sm src dst hsrc hdst) >>= k) Q := by
  refine ent_trans ?_ (wait_step (I := I) (K := K)
    (R := iprop(((bigSep (Finset.Ico (n + 1) m) fun k => wT c (b + k) NB) ∗ bigSep (Finset.range n) fun k => iprop(dn c (b + k) ∗ dmaPay I c (b + k))) ∗ R))
    (b + n) i NB cut ⟨by omega, by omega⟩ hS hN (expect_B I c (b + n) (by omega) (by omega)) hl hc (ent_trans ?_ h))
  · unfold WF
    rw [bigSep_Ico_succ_bot hn]
    iintro ⟨HG, HO, ⟨⟨Hs, Hss⟩, Hd⟩, HR⟩
    isplitl [HG]; · iexact HG
    isplitl [HO]; · iexact HO
    isplitl [Hs]; · iexact Hs
    isplitl [Hss Hd]
    · isplitl [Hss]; · iexact Hss
      iexact Hd
    iexact HR
  · unfold WF
    rw [bigSep_range_succ]
    iintro ⟨HG, HO, Hs, ⟨Hss, Hd⟩, HR⟩
    isplitl [HG]; · iexact HG
    isplitl [HO]; · iexact HO
    isplitr [HR]
    · isplitl [Hss]; · iexact Hss
      isplitl [Hs]; · iexact Hs
      iexact Hd
    iexact HR

/-! ## The pair exchange -/

theorem NA_eq : (pM : Memref sig .tc .vmem S512x768 .bf16).view.dmaCredit = NA := rfl

theorem s1_src {o : Fin 2 → ℕ} (ho : o = ![512 * (1 - par c).val, 0]) (inb : ∀ a, o a + S512x768.size a ≤ S1024x768.size a)
    (hu : ∀ a, (Rect.unit (s := S1024x768) o S512x768.size inb).stride a = 1) :
    (aM.slice (Rect.unit (s := S1024x768) o S512x768.size inb) hu).view.set = bandA (512 * (1 - par c).val) 512 := by
  show ((View.whole cc0_scratch0).slice _).set = _
  rw [View.set_slice_whole, rect_rowsA _ 512 (512 * (1 - par c).val) _ (by decide) ho]

theorem s1_val {o : Fin 2 → ℕ} (ho : o = ![512 * (1 - par c).val, 0]) (inb : ∀ a, o a + S512x768.size a ≤ S1024x768.size a)
    (hu : ∀ a, (Rect.unit (s := S1024x768) o S512x768.size inb).stride a = 1) (v : Vec F S512x768 .bf16) (fd : (cc0_scratch2 : Ref sig .tc).ty.Contents (Elt F)) :
    pM.view.write (Elt F) fd ((aM.slice (Rect.unit (s := S1024x768) o S512x768.size inb) hu).view.read (Elt F) (lift v)) Finset.univ = v := by
  subst ho
  refine (View.write_whole_univ cc0_scratch2 fd _).trans ?_
  funext j
  rw [View.read_apply]
  refine (lift_at v _ (1 - par c) (j 0).val (j 0).isLt ?_).trans ?_
  · show 512 * (1 - par c).val + 1 * (j 0).val = _
    omega
  · congr 1
    funext a
    match a with
    | 0 => rfl
    | 1 => exact Fin.ext (by show 0 + 1 * (j 1).val = (j 1).val; omega)

theorem s1_p1 {o : Fin 2 → ℕ} (ho : o = ![512 * (1 - par c).val, 0]) (inb : ∀ a, o a + S512x768.size a ≤ S1024x768.size a)
    (hu : ∀ a, (Rect.unit (s := S1024x768) o S512x768.size inb).stride a = 1) :
    (aP c (aM.slice (Rect.unit (s := S1024x768) o S512x768.size inb) hu).view.set (lift (P (I c) (1 - par c))) : sProp 𝕄) ⊢ dmaPay I c 6 := by
  rw [s1_src ho, pay6]
theorem s1_p2 {o : Fin 2 → ℕ} (ho : o = ![512 * (1 - par c).val, 0]) (inb : ∀ a, o a + S512x768.size a ≤ S1024x768.size a)
    (hu : ∀ a, (Rect.unit (s := S1024x768) o S512x768.size inb).stride a = 1) (f : (cc0_scratch2 : Ref sig .tc).ty.Contents (Elt F)) :
    (pM.view.loc (pr c : Thread nD τ) ↦[pM.view.set]{fullShare}
      (pM.view.write (Elt F) f ((aM.slice (Rect.unit (s := S1024x768) o S512x768.size inb) hu).view.read (Elt F) (lift (P (I c) (1 - par c)))) Finset.univ) : sProp 𝕄)
      ⊢ dmaPay I (pr c) 7 := by
  rw [show (pM : Memref sig .tc .vmem S512x768 .bf16).view.set = Finset.univ from View.set_whole _, pay7, pr_pr, par_pr, s1_val ho]

theorem s1_step {n : Dev nD} (hn : n = pr c) {o : Fin 2 → ℕ} (ho : o = ![512 * (1 - par c).val, 0]) {inb : ∀ a, o a + S512x768.size a ≤ S1024x768.size a}
    {hu : ∀ a, (Rect.unit (s := S1024x768) o S512x768.size inb).stride a = 1}
    {sS sD : DmaSem sig} (hS : sS.val = 6) (hD : sD.val = 7)
    {hsc : pM.view.ref.isScScratch = false} {hsrc : (aM.slice (Rect.unit (s := S1024x768) o S512x768.size inb) hu).view.WordExact}
    {hdst : pM.view.WordExact} {hsem : DmaTarget.Typed .vmem (.dma sD) (.remote (Dev.tc n) pM (.dma sS) hsc)}
    {k : PUnit → Prog (TpuEff nD τ sig (Elt F) Λ₀ .tc) α}
    (h : iprop(Gam I K ∗ ow c 17 ∗ cred (tallyAt (dCell c 6) () NA) ∗ R) ⊢ wpc c (k ⟨⟩) Q) :
    iprop(Gam I K ∗ ow c 16 ∗ (aP c (bandA (512 * (1 - par c).val) 512) (lift (P (I c) (1 - par c))) ∗ (∃ f, pP (pr c) f) ∗ sT c 6 (pr c) 7) ∗ R)
      ⊢ wpc c (Prog.lift (.enqueueDma (aM.slice (Rect.unit (s := S1024x768) o S512x768.size inb) hu) (.remote (Dev.tc n) pM (.dma sS) hsc) (.dma sD) hsrc hdst hsem) >>= k) Q := by
  subst hn
  have es := s1_src ho inb hu
  have ed : (pM : Memref sig .tc .vmem S512x768 .bf16).view.set = Finset.univ := View.set_whole _
  iintro ⟨HG, HO, ⟨Ha, ⟨%f, Hp⟩, Ht⟩, HR⟩
  iapply (send_step (c := c) (I := I) (K := K) (R := R) (src := aM.slice (Rect.unit (s := S1024x768) o S512x768.size inb) hu)
    (dst := pM) (q := fullShare) (fs := lift (P (I c) (1 - par c))) (fd := f)
    6 7 16 NA (pr c) (by decide) (by decide) hS hD NA_eq (amount_A I c 6 0 (by decide)) (amount_A I (pr c) 7 0 (by decide)) (due_s1 c)
    (s1_p1 ho inb hu) (s1_p2 ho inb hu f) h)
  isplitl [HG]; · iexact HG
  isplitl [HO]; · iexact HO
  isplitr [HR]
  · isplitl [Ha]; · rw [es]; iexact Ha
    isplitl [Hp]; · rw [ed]; iexact Hp
    iexact Ht
  iexact HR

/-! ## The reduce-scatter's copies -/

theorem NB_rs (o : Fin 3 → ℕ) (inb : ∀ a, o a + S1x32x768.size a ≤ S15x32x768.size a) (hu : ∀ a, (Rect.unit (s := S15x32x768) o S1x32x768.size inb).stride a = 1) :
    ((rM.slice (Rect.unit (s := S15x32x768) o S1x32x768.size inb) hu).squeeze S32x768 squeezes_S1x32x768_S32x768).view.dmaCredit = NB := rfl
theorem NB_g (o : Fin 2 → ℕ) (inb : ∀ a, o a + S32x768.size a ≤ S512x768.size a) (hu : ∀ a, (Rect.unit (s := S512x768) o S32x768.size inb).stride a = 1) :
    (gM.slice (Rect.unit (s := S512x768) o S32x768.size inb) hu).view.dmaCredit = NB := rfl
theorem NB_o (o : Fin 2 → ℕ) (inb : ∀ a, o a + S32x768.size a ≤ S512x768.size a) (hu : ∀ a, (Rect.unit (s := S512x768) o S32x768.size inb).stride a = 1) :
    (oM.slice (Rect.unit (s := S512x768) o S32x768.size inb) hu).view.dmaCredit = NB := rfl

/-- Before and after copy `k` of the reduce-scatter. -/
def rsS (I : Dev nD → Inp F) (c : Dev nD) (k : ℕ) : sProp 𝕄 :=
  iprop(aP c (bandA (512 * (par c).val + 32 * ch c k) 32) (lift (M I c)) ∗ (∃ f, rP (nb c (k + 1)) (bandR k 1) f) ∗ sT c (8 + k) (nb c (k + 1)) (23 + k))
def RS (I : Dev nD → Inp F) (c : Dev nD) (n : ℕ) : sProp 𝕄 :=
  iprop((bigSep (Finset.Ico n 15) fun k => rsS I c k) ∗ bigSep (Finset.range n) fun k => cred (tallyAt (dCell c (8 + k)) () NB))

theorem rs_src {k : ℕ} {o : Fin 2 → ℕ} (ho : o = ![512 * (par c).val + 32 * ch c k, 0]) (inb : ∀ a, o a + S32x768.size a ≤ S1024x768.size a)
    (hu : ∀ a, (Rect.unit (s := S1024x768) o S32x768.size inb).stride a = 1) :
    (aM.slice (Rect.unit (s := S1024x768) o S32x768.size inb) hu).view.set = bandA (512 * (par c).val + 32 * ch c k) 32 := by
  show ((View.whole cc0_scratch0).slice _).set = _
  rw [View.set_slice_whole, rect_rowsA _ 32 (512 * (par c).val + 32 * ch c k) _ (by decide) ho]
theorem rs_dst {k : ℕ} {o : Fin 3 → ℕ} (ho : o = ![k, 0, 0]) (inb : ∀ a, o a + S1x32x768.size a ≤ S15x32x768.size a)
    (hu : ∀ a, (Rect.unit (s := S15x32x768) o S1x32x768.size inb).stride a = 1) :
    ((rM.slice (Rect.unit (s := S15x32x768) o S1x32x768.size inb) hu).squeeze S32x768 squeezes_S1x32x768_S32x768).view.set = bandR k 1 := by
  show (((View.whole cc0_scratch3).slice _).reshape _ _).set = _
  rw [View.set_reshape, View.set_slice_whole, rect_rowsR _ k ho]

theorem rs_val {k : ℕ} (hk : k < 15) {o : Fin 2 → ℕ} (ho : o = ![512 * (par c).val + 32 * ch c k, 0]) (inb : ∀ a, o a + S32x768.size a ≤ S1024x768.size a)
    (hu : ∀ a, (Rect.unit (s := S1024x768) o S32x768.size inb).stride a = 1)
    {o' : Fin 3 → ℕ} (ho' : o' = ![k, 0, 0]) (inb' : ∀ a, o' a + S1x32x768.size a ≤ S15x32x768.size a)
    (hu' : ∀ a, (Rect.unit (s := S15x32x768) o' S1x32x768.size inb').stride a = 1) (f : (cc0_scratch3 : Ref sig .tc).ty.Contents (Elt F)) (i : S15x32x768.Idx)
    (hi : i ∈ ((rM.slice (Rect.unit (s := S15x32x768) o' S1x32x768.size inb') hu').squeeze S32x768 squeezes_S1x32x768_S32x768).view.set) :
    (((rM.slice (Rect.unit (s := S15x32x768) o' S1x32x768.size inb') hu').squeeze S32x768 squeezes_S1x32x768_S32x768).view.write (Elt F) f
      ((aM.slice (Rect.unit (s := S1024x768) o S32x768.size inb) hu).view.read (Elt F) (lift (M I c))) Finset.univ) i = rsAll I (nb c (k + 1)) i := by
  subst ho; subst ho'
  obtain ⟨j, -, rfl⟩ := Finset.mem_map.mp hi
  refine (View.write_emb_of_mem _ _ (Finset.mem_univ j)).trans ?_
  rw [View.read_apply]
  have hj0 : (j 0).val < 32 := (j 0).isLt
  have hc := ch_lt c k
  have hsq : Shape.reshapeEquiv squeezes_S1x32x768_S32x768.numel_eq j = Fin.cons (⟨0, Nat.one_pos⟩ : Fin 1) j :=
    Shape.reshapeEquiv_cons_one (d := ![32, 768]) squeezes_S1x32x768_S32x768.numel_eq j
  refine (lift_at (M I c) _ (par c) (32 * ch c k + (j 0).val) (by omega) ?_).trans ?_
  · show 512 * (par c).val + 32 * ch c k + 1 * (j 0).val = _
    omega
  · have hR : rsAll I (nb c (k + 1)) ((Rect.unit (s := S15x32x768) ![k, 0, 0] S1x32x768.size inb').emb (Fin.cons (⟨0, Nat.one_pos⟩ : Fin 1) j))
        = M I c (ix2 ⟨32 * ch c k + (j 0).val, by omega⟩ (j 1)) := by
      unfold rsAll
      have e0 : (((Rect.unit (s := S15x32x768) ![k, 0, 0] S1x32x768.size inb').emb (Fin.cons (⟨0, Nat.one_pos⟩ : Fin 1) j)) 0).val = k := by
        show k + 1 * 0 = k; omega
      rw [e0, nb_nb c (k + 1) (15 - k) (by omega)]
      unfold Mrow
      congr 1
      funext a
      match a with
      | 0 =>
        apply Fin.ext
        show (32 * grp (nb c (k + 1)) + (0 + 1 * (j 0).val)) % 512 = 32 * ch c k + (j 0).val
        rw [grp_nb]; unfold ch at *; rw [← Nat.add_assoc] at *; omega
      | 1 => exact Fin.ext (by show 0 + 1 * (j 1).val = (j 1).val; omega)
    have hL : rsAll I (nb c (k + 1)) (((rM.slice (Rect.unit (s := S15x32x768) ![k, 0, 0] S1x32x768.size inb') hu').squeeze S32x768 squeezes_S1x32x768_S32x768).view.emb j)
        = rsAll I (nb c (k + 1)) ((Rect.unit (s := S15x32x768) ![k, 0, 0] S1x32x768.size inb').emb (Fin.cons (⟨0, Nat.one_pos⟩ : Fin 1) j)) := by
      rw [← hsq]; rfl
    refine Eq.trans ?_ (hL.trans hR).symm
    congr 1
    funext a
    match a with
    | 0 => rfl
    | 1 => exact Fin.ext (by show 0 + 1 * (j 1).val = (j 1).val; omega)

theorem rs_p1 {k : ℕ} (hk : k < 15) {o : Fin 2 → ℕ} (ho : o = ![512 * (par c).val + 32 * ch c k, 0]) (inb : ∀ a, o a + S32x768.size a ≤ S1024x768.size a)
    (hu : ∀ a, (Rect.unit (s := S1024x768) o S32x768.size inb).stride a = 1) :
    (aP c (aM.slice (Rect.unit (s := S1024x768) o S32x768.size inb) hu).view.set (lift (M I c)) : sProp 𝕄) ⊢ dmaPay I c (8 + k) := by
  rw [rs_src ho, payRsS I c k hk]
theorem rs_p2 {k : ℕ} (hk : k < 15) {o : Fin 2 → ℕ} (ho : o = ![512 * (par c).val + 32 * ch c k, 0]) (inb : ∀ a, o a + S32x768.size a ≤ S1024x768.size a)
    (hu : ∀ a, (Rect.unit (s := S1024x768) o S32x768.size inb).stride a = 1)
    {o' : Fin 3 → ℕ} (ho' : o' = ![k, 0, 0]) (inb' : ∀ a, o' a + S1x32x768.size a ≤ S15x32x768.size a)
    (hu' : ∀ a, (Rect.unit (s := S15x32x768) o' S1x32x768.size inb').stride a = 1) (f : (cc0_scratch3 : Ref sig .tc).ty.Contents (Elt F)) :
    (rP (nb c (k + 1)) ((rM.slice (Rect.unit (s := S15x32x768) o' S1x32x768.size inb') hu').squeeze S32x768 squeezes_S1x32x768_S32x768).view.set
      (((rM.slice (Rect.unit (s := S15x32x768) o' S1x32x768.size inb') hu').squeeze S32x768 squeezes_S1x32x768_S32x768).view.write (Elt F) f
        ((aM.slice (Rect.unit (s := S1024x768) o S32x768.size inb) hu).view.read (Elt F) (lift (M I c))) Finset.univ) : sProp 𝕄)
      ⊢ dmaPay I (nb c (k + 1)) (23 + k) := by
  rw [payRsR I _ k hk, ← rs_dst ho' inb' hu']
  exact Entails.of_eq (pointsTo_congr (fun i hi => rs_val hk ho inb hu ho' inb' hu' f i hi))

theorem rs_step (k : ℕ) (hk : k < 15) {n : Dev nD} (hn : n = nb c (k + 1)) {o : Fin 2 → ℕ} (ho : o = ![512 * (par c).val + 32 * ch c k, 0])
    {inb : ∀ a, o a + S32x768.size a ≤ S1024x768.size a} {hu : ∀ a, (Rect.unit (s := S1024x768) o S32x768.size inb).stride a = 1}
    {o' : Fin 3 → ℕ} (ho' : o' = ![k, 0, 0]) {inb' : ∀ a, o' a + S1x32x768.size a ≤ S15x32x768.size a}
    {hu' : ∀ a, (Rect.unit (s := S15x32x768) o' S1x32x768.size inb').stride a = 1}
    {sS sD : DmaSem sig} (hS : sS.val = 8 + k) (hD : sD.val = 23 + k)
    {hsc : ((rM.slice (Rect.unit (s := S15x32x768) o' S1x32x768.size inb') hu').squeeze S32x768 squeezes_S1x32x768_S32x768).view.ref.isScScratch = false}
    {hsrc : (aM.slice (Rect.unit (s := S1024x768) o S32x768.size inb) hu).view.WordExact}
    {hdst : ((rM.slice (Rect.unit (s := S15x32x768) o' S1x32x768.size inb') hu').squeeze S32x768 squeezes_S1x32x768_S32x768).view.WordExact}
    {hsem : DmaTarget.Typed .vmem (.dma sD) (.remote (Dev.tc n)
      ((rM.slice (Rect.unit (s := S15x32x768) o' S1x32x768.size inb') hu').squeeze S32x768 squeezes_S1x32x768_S32x768) (.dma sS) hsc)}
    {kk : PUnit → Prog (TpuEff nD τ sig (Elt F) Λ₀ .tc) α}
    (h : iprop(Gam I K ∗ ow c (17 + (k + 1)) ∗ RS I c (k + 1) ∗ R) ⊢ wpc c (kk ⟨⟩) Q) :
    iprop(Gam I K ∗ ow c (17 + k) ∗ RS I c k ∗ R)
      ⊢ wpc c (Prog.lift (.enqueueDma (aM.slice (Rect.unit (s := S1024x768) o S32x768.size inb) hu) (.remote (Dev.tc n)
          ((rM.slice (Rect.unit (s := S15x32x768) o' S1x32x768.size inb') hu').squeeze S32x768 squeezes_S1x32x768_S32x768) (.dma sS) hsc) (.dma sD) hsrc hdst hsem) >>= kk) Q := by
  subst hn
  have es := rs_src (c := c) ho inb hu
  have ed := rs_dst ho' inb' hu'
  have h' : iprop(Gam I K ∗ ow c (17 + k + 1) ∗ cred (tallyAt (dCell c (8 + k)) () NB)
      ∗ ((bigSep (Finset.Ico (k + 1) 15) fun k => rsS I c k) ∗ bigSep (Finset.range k) fun k => cred (tallyAt (dCell c (8 + k)) () NB)) ∗ R) ⊢ wpc c (kk ⟨⟩) Q := by
    refine ent_trans ?_ h
    unfold RS
    rw [bigSep_range_succ]
    iintro ⟨HG, HO, Hc, ⟨Hs, Hcs⟩, HR⟩
    isplitl [HG]; · iexact HG
    isplitl [HO]; · iexact HO
    isplitr [HR]
    · isplitl [Hs]; · iexact Hs
      isplitl [Hc]; · iexact Hc
      iexact Hcs
    iexact HR
  unfold RS
  rw [bigSep_Ico_succ_bot hk]
  unfold rsS at *
  iintro ⟨HG, HO, ⟨⟨⟨Ha, ⟨%f, Hp⟩, Ht⟩, Hs⟩, Hcs⟩, HR⟩
  iapply (send_step (c := c) (I := I) (K := K) (src := aM.slice (Rect.unit (s := S1024x768) o S32x768.size inb) hu)
    (dst := (rM.slice (Rect.unit (s := S15x32x768) o' S1x32x768.size inb') hu').squeeze S32x768 squeezes_S1x32x768_S32x768) (q := fullShare) (fs := lift (M I c)) (fd := f)
    (8 + k) (23 + k) (17 + k) NB (nb c (k + 1)) ⟨by omega, by omega⟩ ⟨by omega, by omega⟩ hS hD (NB_rs _ _ _) (amount_B I c _ 0 (by omega) (by omega))
    (amount_B I _ _ 0 (by omega) (by omega)) (due_rs c k hk)
    (rs_p1 hk ho inb hu) (rs_p2 hk ho inb hu ho' inb' hu' f) h')
  isplitl [HG]; · iexact HG
  isplitl [HO]; · iexact HO
  isplitl [Ha Hp Ht]
  · isplitl [Ha]; · rw [es]; iexact Ha
    isplitl [Hp]; · rw [ed]; iexact Hp
    iexact Ht
  isplitr [HR]
  · isplitl [Hs]; · iexact Hs
    iexact Hcs
  iexact HR

end
end Families

end Cert.KI

end
-- ==== Proof.Fam2.lean ====
/-
The gather's copies and the forwarding of the gathered row blocks to the partner.
-/
module

public import proofs.«01_k».proof.Proof.Fam

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop pointsTo_toks_range)
open Cert.KernelIdeal Cert.KernelIdeal.Gen

variable {F : FTy → Type} [FloatOps F]

local notation "𝕄" => MT nD τ sig Unit (Elt F) ℕ UU ℕ

section Families

variable {I : Dev nD → Inp F} {K : GSem nD τ sig → ℕ}
variable {α : Type} {c : Dev nD} {Q : α → sProp (MT nD τ sig Unit (Elt F) ℕ UU ℕ)} {R : sProp (MT nD τ sig Unit (Elt F) ℕ UU ℕ)}

/-! ## Row blocks of the gather buffers -/

section
variable {o : Fin 2 → ℕ} {g : ℕ} (ho : o = ![32 * g, 0]) (inb : ∀ a, o a + S32x768.size a ≤ S512x768.size a)
  (hu : ∀ a, (Rect.unit (s := S512x768) o S32x768.size inb).stride a = 1)
include ho

theorem g_set : (gM.slice (Rect.unit (s := S512x768) o S32x768.size inb) hu).view.set = bandG (32 * g) 32 := by
  show ((View.whole cc0_scratch4).slice _).set = _
  rw [View.set_slice_whole, rect_rowsG _ 32 (32 * g) _ (by decide) ho]
theorem o_set : (oM.slice (Rect.unit (s := S512x768) o S32x768.size inb) hu).view.set = bandG (32 * g) 32 := by
  show ((View.whole cc0_scratch5).slice _).set = _
  rw [View.set_slice_whole, rect_rowsG _ 32 (32 * g) _ (by decide) ho]
omit ho in
theorem gg_val {o' : Fin 2 → ℕ} (inb' : ∀ a, o' a + S32x768.size a ≤ S512x768.size a) (hu' : ∀ a, (Rect.unit (s := S512x768) o' S32x768.size inb').stride a = 1)
    (e : o = o') (f fs : (cc0_scratch4 : Ref sig .tc).ty.Contents (Elt F)) (i : S512x768.Idx)
    (hi : i ∈ (gM.slice (Rect.unit (s := S512x768) o' S32x768.size inb') hu').view.set) :
    ((gM.slice (Rect.unit (s := S512x768) o' S32x768.size inb') hu').view.write (Elt F) f
      ((gM.slice (Rect.unit (s := S512x768) o S32x768.size inb) hu).view.read (Elt F) fs) Finset.univ) i = fs i := by
  subst e
  obtain ⟨j, -, rfl⟩ := Finset.mem_map.mp hi
  exact View.write_emb_of_mem _ _ (Finset.mem_univ j)
omit ho in
theorem go_val {o' : Fin 2 → ℕ} (inb' : ∀ a, o' a + S32x768.size a ≤ S512x768.size a) (hu' : ∀ a, (Rect.unit (s := S512x768) o' S32x768.size inb').stride a = 1)
    (e : o = o') (f : (cc0_scratch5 : Ref sig .tc).ty.Contents (Elt F)) (fs : (cc0_scratch4 : Ref sig .tc).ty.Contents (Elt F)) (i : S512x768.Idx)
    (hi : i ∈ (oM.slice (Rect.unit (s := S512x768) o' S32x768.size inb') hu').view.set) :
    ((oM.slice (Rect.unit (s := S512x768) o' S32x768.size inb') hu').view.write (Elt F) f
      ((gM.slice (Rect.unit (s := S512x768) o S32x768.size inb) hu).view.read (Elt F) fs) Finset.univ) i = fs i := by
  subst e
  obtain ⟨j, -, rfl⟩ := Finset.mem_map.mp hi
  exact View.write_emb_of_mem _ _ (Finset.mem_univ j)
end

/-! ## The gather's copies -/

/-- What copy `k` of the gather takes besides the row block. -/
def agR (c : Dev nD) (k : ℕ) : sProp 𝕄 :=
  iprop((∃ f, gP (nb c (k + 1)) (bandG (32 * grp c) 32) fullShare f) ∗ sT c (38 + k) (nb c (k + 1)) (53 + k))
def agS (I : Dev nD → Inp F) (c : Dev nD) (k : ℕ) : sProp 𝕄 :=
  iprop(gP c (bandG (32 * grp c) 32) (shareTokN fullShare k) (ghAll I c) ∗ agR c k)
def AG (I : Dev nD → Inp F) (c : Dev nD) (n : ℕ) : sProp 𝕄 :=
  iprop((bigSep (Finset.Ico n 15) fun k => agS I c k) ∗ bigSep (Finset.range n) fun k => cred (tallyAt (dCell c (38 + k)) () NB))

theorem nb_ch (c : Dev nD) (k : ℕ) (hk : k < 15) : fch (nb c (k + 1)) (k + 1) = grp c := by
  have := grp_lt c
  unfold fch; rw [grp_nb]; omega

theorem ag_p1 {k : ℕ} (hk : k < 15) {o : Fin 2 → ℕ} (ho : o = ![32 * grp c, 0]) (inb : ∀ a, o a + S32x768.size a ≤ S512x768.size a)
    (hu : ∀ a, (Rect.unit (s := S512x768) o S32x768.size inb).stride a = 1) :
    (gP c (gM.slice (Rect.unit (s := S512x768) o S32x768.size inb) hu).view.set (shareTokN fullShare k) (ghAll I c) : sProp 𝕄) ⊢ dmaPay I c (38 + k) := by
  rw [g_set ho, payAgS I c k hk]
theorem ag_p2 {k : ℕ} (hk : k < 15) {o o' : Fin 2 → ℕ} (ho : o = ![32 * grp c, 0]) (ho' : o' = ![32 * grp c, 0]) (inb : ∀ a, o a + S32x768.size a ≤ S512x768.size a)
    (hu : ∀ a, (Rect.unit (s := S512x768) o S32x768.size inb).stride a = 1) (inb' : ∀ a, o' a + S32x768.size a ≤ S512x768.size a)
    (hu' : ∀ a, (Rect.unit (s := S512x768) o' S32x768.size inb').stride a = 1) (f : (cc0_scratch4 : Ref sig .tc).ty.Contents (Elt F)) :
    (gP (nb c (k + 1)) (gM.slice (Rect.unit (s := S512x768) o' S32x768.size inb') hu').view.set fullShare
      ((gM.slice (Rect.unit (s := S512x768) o' S32x768.size inb') hu').view.write (Elt F) f
        ((gM.slice (Rect.unit (s := S512x768) o S32x768.size inb) hu).view.read (Elt F) (ghAll I c)) Finset.univ) : sProp 𝕄)
      ⊢ dmaPay I (nb c (k + 1)) (53 + k) := by
  rw [payAgR I _ k hk, nb_ch c k hk, ghAll_nb, ← g_set ho' inb' hu']
  exact Entails.of_eq (pointsTo_congr (fun i hi => gg_val inb hu inb' hu' (ho.trans ho'.symm) f _ i hi))

theorem ag_step (k : ℕ) (hk : k < 15) {n : Dev nD} (hn : n = nb c (k + 1)) {o o' : Fin 2 → ℕ} (ho : o = ![32 * grp c, 0]) (ho' : o' = ![32 * grp c, 0])
    {inb : ∀ a, o a + S32x768.size a ≤ S512x768.size a} {hu : ∀ a, (Rect.unit (s := S512x768) o S32x768.size inb).stride a = 1}
    {inb' : ∀ a, o' a + S32x768.size a ≤ S512x768.size a} {hu' : ∀ a, (Rect.unit (s := S512x768) o' S32x768.size inb').stride a = 1}
    {sS sD : DmaSem sig} (hS : sS.val = 38 + k) (hD : sD.val = 53 + k)
    {hsc : (gM.slice (Rect.unit (s := S512x768) o' S32x768.size inb') hu').view.ref.isScScratch = false}
    {hsrc : (gM.slice (Rect.unit (s := S512x768) o S32x768.size inb) hu).view.WordExact}
    {hdst : (gM.slice (Rect.unit (s := S512x768) o' S32x768.size inb') hu').view.WordExact}
    {hsem : DmaTarget.Typed .vmem (.dma sD) (.remote (Dev.tc n) (gM.slice (Rect.unit (s := S512x768) o' S32x768.size inb') hu') (.dma sS) hsc)}
    {kk : PUnit → Prog (TpuEff nD τ sig (Elt F) Λ₀ .tc) α}
    (h : iprop(Gam I K ∗ ow c (32 + (k + 1)) ∗ AG I c (k + 1) ∗ R) ⊢ wpc c (kk ⟨⟩) Q) :
    iprop(Gam I K ∗ ow c (32 + k) ∗ AG I c k ∗ R)
      ⊢ wpc c (Prog.lift (.enqueueDma (gM.slice (Rect.unit (s := S512x768) o S32x768.size inb) hu) (.remote (Dev.tc n)
          (gM.slice (Rect.unit (s := S512x768) o' S32x768.size inb') hu') (.dma sS) hsc) (.dma sD) hsrc hdst hsem) >>= kk) Q := by
  subst hn
  have es := g_set ho inb hu
  have ed := g_set ho' inb' hu'
  have h' : iprop(Gam I K ∗ ow c (32 + k + 1) ∗ cred (tallyAt (dCell c (38 + k)) () NB)
      ∗ ((bigSep (Finset.Ico (k + 1) 15) fun k => agS I c k) ∗ bigSep (Finset.range k) fun k => cred (tallyAt (dCell c (38 + k)) () NB)) ∗ R) ⊢ wpc c (kk ⟨⟩) Q := by
    refine ent_trans ?_ h
    unfold AG
    rw [bigSep_range_succ]
    iintro ⟨HG, HO, Hc, ⟨Hs, Hcs⟩, HR⟩
    isplitl [HG]; · iexact HG
    isplitl [HO]; · iexact HO
    isplitr [HR]
    · isplitl [Hs]; · iexact Hs
      isplitl [Hc]; · iexact Hc
      iexact Hcs
    iexact HR
  unfold AG
  rw [bigSep_Ico_succ_bot hk]
  unfold agS agR at *
  iintro ⟨HG, HO, ⟨⟨⟨Ha, ⟨%f, Hp⟩, Ht⟩, Hs⟩, Hcs⟩, HR⟩
  iapply (send_step (c := c) (I := I) (K := K) (src := gM.slice (Rect.unit (s := S512x768) o S32x768.size inb) hu)
    (dst := gM.slice (Rect.unit (s := S512x768) o' S32x768.size inb') hu') (q := shareTokN fullShare k) (fs := ghAll I c) (fd := f)
    (38 + k) (53 + k) (32 + k) NB (nb c (k + 1)) ⟨by omega, by omega⟩ ⟨by omega, by omega⟩ hS hD (NB_g _ _ _) (amount_B I c _ 0 (by omega) (by omega))
    (amount_B I _ _ 0 (by omega) (by omega)) (due_ag c k hk)
    (ag_p1 hk ho inb hu) (ag_p2 hk ho ho' inb hu inb' hu' f) h')
  isplitl [HG]; · iexact HG
  isplitl [HO]; · iexact HO
  isplitl [Ha Hp Ht]
  · isplitl [Ha]; · rw [es]; iexact Ha
    isplitl [Hp]; · rw [ed]; iexact Hp
    iexact Ht
  isplitr [HR]
  · isplitl [Hs]; · iexact Hs
    iexact Hcs
  iexact HR

/-! ## The forwarding -/

/-- What forward `k` takes besides the row block. -/
def fR (c : Dev nD) (k : ℕ) : sProp 𝕄 :=
  iprop((∃ f, oP (pr c) (bandG (32 * fch c k) 32) f) ∗ sT c (68 + k) (pr c) (84 + k))
/-- What stays of a row block while it is forwarded. -/
def kp (I : Dev nD → Inp F) (c : Dev nD) (k : ℕ) : sProp 𝕄 :=
  iprop(gP c (bandG (32 * fch c k) 32) (shareDrop fullShare 16) (ghAll I c)
    ∗ if k = 0 then emp else bigSep (Finset.range 15) fun i => gP c (bandG (32 * fch c k) 32) (shareTokN fullShare i) (ghAll I c))
/-- A row block in hand, ready to be forwarded. -/
def hv (I : Dev nD → Inp F) (c : Dev nD) (k : ℕ) : sProp 𝕄 :=
  iprop(gP c (bandG (32 * fch c k) 32) (shareTokN fullShare 15) (ghAll I c) ∗ kp I c k)
/-- `n` row blocks received and `m` forwarded. -/
def AF (I : Dev nD → Inp F) (c : Dev nD) (n m : ℕ) : sProp 𝕄 :=
  iprop((bigSep (Finset.Ico n 15) fun k => wT c (53 + k) NB) ∗ (bigSep (Finset.range n) fun k => dn c (53 + k))
    ∗ (bigSep (Finset.Ico m 16) fun k => fR c k) ∗ (bigSep (Finset.range m) fun k => iprop(cred (tallyAt (dCell c (68 + k)) () NB) ∗ kp I c k))
    ∗ bigSep (Finset.Ico m (n + 1)) fun k => hv I c k)

theorem hv_intro (k : ℕ) : (gP c (bandG (32 * fch c (k + 1)) 32) fullShare (ghAll I c) : sProp 𝕄) ⊢ hv I c (k + 1) := by
  unfold hv kp
  rw [if_neg (by omega)]
  iintro H
  ihave H := (pointsTo_toks_range fullShare 16).1 $$ H
  rw [bigSep_range_succ]
  icases H with ⟨Hd, Ht, Hts⟩
  isplitl [Ht]; · iexact Ht
  isplitl [Hd]; · iexact Hd
  iexact Hts

theorem agw_step (n m : ℕ) (hn : n < 15) (hm : m ≤ n + 1) {sm : DmaSem sig} (hS : sm.val = 53 + n)
    {sp sp' : Space} {s s' : Shape} {e e' : EltTy} {src : Memref sig .tc sp s e} {dst : Memref sig .tc sp' s' e'}
    {hsrc : src.view.WordExact} {hdst : dst.view.WordExact} (hN : dst.view.dmaCredit = NB)
    {k : PUnit → Prog (TpuEff nD τ sig (Elt F) Λ₀ .tc) α}
    (h : iprop(Gam I K ∗ ow c (47 + m) ∗ AF I c (n + 1) m ∗ R) ⊢ wpc c (k ⟨⟩) Q) :
    iprop(Gam I K ∗ ow c (47 + m) ∗ AF I c n m ∗ R) ⊢ wpc c (Prog.lift (.waitDma2 sm src dst hsrc hdst) >>= k) Q := by
  have hl : lvS (.dma (dS (53 + n))) ≤ 4 := by
    show (if (dS (53 + n)).val = 7 then 2 else if 23 ≤ (dS (53 + n)).val ∧ (dS (53 + n)).val < 38 then 3
      else if 53 ≤ (dS (53 + n)).val ∧ (dS (53 + n)).val < 68 then 4 else if 84 ≤ (dS (53 + n)).val then 5 else 0) ≤ 4
    rw [dS_val (by omega)]
    (repeat' split) <;> omega
  refine ent_trans ?_ (wait_step (I := I) (K := K)
    (R := iprop(((bigSep (Finset.Ico (n + 1) 15) fun k => wT c (53 + k) NB) ∗ (bigSep (Finset.range n) fun k => dn c (53 + k))
    ∗ (bigSep (Finset.Ico m 16) fun k => fR c k) ∗ (bigSep (Finset.range m) fun k => iprop(cred (tallyAt (dCell c (68 + k)) () NB) ∗ kp I c k))
    ∗ bigSep (Finset.Ico m (n + 1)) fun k => hv I c k) ∗ R))
    (53 + n) (47 + m) NB 4 ⟨by omega, by omega⟩ hS hN (expect_B I c (53 + n) (by omega) (by omega)) hl
      (fun j h1 h2 => by (repeat' split) <;> omega) (ent_trans ?_ h))
  · unfold AF
    rw [bigSep_Ico_succ_bot hn]
    iintro ⟨HG, HO, ⟨⟨Hs, Hss⟩, Hd⟩, HR⟩
    isplitl [HG]; · iexact HG
    isplitl [HO]; · iexact HO
    isplitl [Hs]; · iexact Hs
    isplitl [Hss Hd]
    · isplitl [Hss]; · iexact Hss
      iexact Hd
    iexact HR
  · unfold AF
    rw [bigSep_range_succ, bigSep_Ico_succ_top (show m ≤ n + 1 by omega), payAgR I c n hn]
    iintro ⟨HG, HO, ⟨Hdn, Hg⟩, ⟨Hss, Hd, Hf, Hc, Hv⟩, HR⟩
    isplitl [HG]; · iexact HG
    isplitl [HO]; · iexact HO
    isplitr [HR]
    · isplitl [Hss]; · iexact Hss
      isplitl [Hdn Hd]
      · isplitl [Hdn]; · iexact Hdn
        iexact Hd
      isplitl [Hf]; · iexact Hf
      isplitl [Hc]; · iexact Hc
      ihave Hg := (hv_intro n) $$ Hg
      isplitl [Hg]; · iexact Hg
      iexact Hv
    iexact HR

theorem fch_pr (k : ℕ) : fch (pr c) k = fch c k := by unfold fch; rw [grp_pr]

theorem f_p1 {k : ℕ} (hk : k < 16) {o : Fin 2 → ℕ} (ho : o = ![32 * fch c k, 0]) (inb : ∀ a, o a + S32x768.size a ≤ S512x768.size a)
    (hu : ∀ a, (Rect.unit (s := S512x768) o S32x768.size inb).stride a = 1) :
    (gP c (gM.slice (Rect.unit (s := S512x768) o S32x768.size inb) hu).view.set (shareTokN fullShare 15) (ghAll I c) : sProp 𝕄) ⊢ dmaPay I c (68 + k) := by
  rw [g_set ho, payFS I c k hk]
theorem f_p2 {k : ℕ} (hk : k < 16) {o o' : Fin 2 → ℕ} (ho : o = ![32 * fch c k, 0]) (ho' : o' = ![32 * fch c k, 0]) (inb : ∀ a, o a + S32x768.size a ≤ S512x768.size a)
    (hu : ∀ a, (Rect.unit (s := S512x768) o S32x768.size inb).stride a = 1) (inb' : ∀ a, o' a + S32x768.size a ≤ S512x768.size a)
    (hu' : ∀ a, (Rect.unit (s := S512x768) o' S32x768.size inb').stride a = 1) (f : (cc0_scratch5 : Ref sig .tc).ty.Contents (Elt F)) :
    (oP (pr c) (oM.slice (Rect.unit (s := S512x768) o' S32x768.size inb') hu').view.set
      ((oM.slice (Rect.unit (s := S512x768) o' S32x768.size inb') hu').view.write (Elt F) f
        ((gM.slice (Rect.unit (s := S512x768) o S32x768.size inb) hu).view.read (Elt F) (ghAll I c)) Finset.univ) : sProp 𝕄)
      ⊢ dmaPay I (pr c) (84 + k) := by
  rw [payFR I _ k hk, fch_pr, pr_pr, ← o_set ho' inb' hu']
  exact Entails.of_eq (pointsTo_congr (fun i hi => go_val inb hu inb' hu' (ho.trans ho'.symm) f _ i hi))

theorem f_step (n k : ℕ) (hk : k < 16) (hkn : k ≤ n) {d : Dev nD} (hd : d = pr c) {o o' : Fin 2 → ℕ} (ho : o = ![32 * fch c k, 0]) (ho' : o' = ![32 * fch c k, 0])
    {inb : ∀ a, o a + S32x768.size a ≤ S512x768.size a} {hu : ∀ a, (Rect.unit (s := S512x768) o S32x768.size inb).stride a = 1}
    {inb' : ∀ a, o' a + S32x768.size a ≤ S512x768.size a} {hu' : ∀ a, (Rect.unit (s := S512x768) o' S32x768.size inb').stride a = 1}
    {sS sD : DmaSem sig} (hS : sS.val = 68 + k) (hD : sD.val = 84 + k)
    {hsc : (oM.slice (Rect.unit (s := S512x768) o' S32x768.size inb') hu').view.ref.isScScratch = false}
    {hsrc : (gM.slice (Rect.unit (s := S512x768) o S32x768.size inb) hu).view.WordExact}
    {hdst : (oM.slice (Rect.unit (s := S512x768) o' S32x768.size inb') hu').view.WordExact}
    {hsem : DmaTarget.Typed .vmem (.dma sD) (.remote (Dev.tc d) (oM.slice (Rect.unit (s := S512x768) o' S32x768.size inb') hu') (.dma sS) hsc)}
    {kk : PUnit → Prog (TpuEff nD τ sig (Elt F) Λ₀ .tc) α}
    (h : iprop(Gam I K ∗ ow c (47 + (k + 1)) ∗ AF I c n (k + 1) ∗ R) ⊢ wpc c (kk ⟨⟩) Q) :
    iprop(Gam I K ∗ ow c (47 + k) ∗ AF I c n k ∗ R)
      ⊢ wpc c (Prog.lift (.enqueueDma (gM.slice (Rect.unit (s := S512x768) o S32x768.size inb) hu) (.remote (Dev.tc d)
          (oM.slice (Rect.unit (s := S512x768) o' S32x768.size inb') hu') (.dma sS) hsc) (.dma sD) hsrc hdst hsem) >>= kk) Q := by
  subst hd
  have es := g_set ho inb hu
  have ed := o_set ho' inb' hu'
  have h' : iprop(Gam I K ∗ ow c (47 + k + 1) ∗ cred (tallyAt (dCell c (68 + k)) () NB)
      ∗ (kp I c k ∗ (bigSep (Finset.Ico n 15) fun k => wT c (53 + k) NB) ∗ (bigSep (Finset.range n) fun k => dn c (53 + k))
    ∗ (bigSep (Finset.Ico (k + 1) 16) fun k => fR c k) ∗ (bigSep (Finset.range k) fun k => iprop(cred (tallyAt (dCell c (68 + k)) () NB) ∗ kp I c k))
    ∗ bigSep (Finset.Ico (k + 1) (n + 1)) fun k => hv I c k) ∗ R) ⊢ wpc c (kk ⟨⟩) Q := by
    refine ent_trans ?_ h
    unfold AF
    rw [bigSep_range_succ k]
    iintro ⟨HG, HO, Hc, ⟨Hk, Hw, Hd, Hf, Hcs, Hv⟩, HR⟩
    isplitl [HG]; · iexact HG
    isplitl [HO]; · iexact HO
    isplitr [HR]
    · isplitl [Hw]; · iexact Hw
      isplitl [Hd]; · iexact Hd
      isplitl [Hf]; · iexact Hf
      isplitr [Hv]
      · isplitl [Hc Hk]
        · isplitl [Hc]; · iexact Hc
          iexact Hk
        iexact Hcs
      iexact Hv
    iexact HR
  unfold AF
  rw [bigSep_Ico_succ_bot (show k < 16 from hk), bigSep_Ico_succ_bot (show k < n + 1 by omega)]
  unfold fR hv at *
  iintro ⟨HG, HO, ⟨Hw, Hd, ⟨⟨⟨%f, Hp⟩, Ht⟩, Hf⟩, Hcs, ⟨Ha, Hk⟩, Hv⟩, HR⟩
  iapply (send_step (c := c) (I := I) (K := K) (src := gM.slice (Rect.unit (s := S512x768) o S32x768.size inb) hu)
    (dst := oM.slice (Rect.unit (s := S512x768) o' S32x768.size inb') hu') (q := shareTokN fullShare 15) (fs := ghAll I c) (fd := f)
    (68 + k) (84 + k) (47 + k) NB (pr c) ⟨by omega, by omega⟩ ⟨by omega, by omega⟩ hS hD (NB_o _ _ _) (amount_B I c _ 0 (by omega) (by omega))
    (amount_B I _ _ 0 (by omega) (by omega)) (due_f c k hk)
    (f_p1 hk ho inb hu) (f_p2 hk ho ho' inb hu inb' hu' f) h')
  isplitl [HG]; · iexact HG
  isplitl [HO]; · iexact HO
  isplitl [Ha Hp Ht]
  · isplitl [Ha]; · rw [es]; iexact Ha
    isplitl [Hp]; · rw [ed]; iexact Hp
    iexact Ht
  isplitr [HR]
  · isplitl [Hk]; · iexact Hk
    isplitl [Hw]; · iexact Hw
    isplitl [Hd]; · iexact Hd
    isplitl [Hf]; · iexact Hf
    isplitl [Hcs]; · iexact Hcs
    iexact Hv
  iexact HR

end Families

end Cert.KI

end
-- ==== Proof.Comp.lean ====
/-
Loads and stores as steps, and the attention of a batch.
-/
module

public import proofs.«01_k».proof.Proof.Fam2
public import proofs.«01_k».proof.Proof.Gen.KernelIdeal.Skeleton
public import Idealize.ShloMosaic.Lib.Pipeline.Value

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Loads and stores -/

section Steps

variable {α : Type} {c : Dev nD} {Q : α → sProp (MT nD τ sig Unit (Elt F) ℕ UU ℕ)} {R : sProp (MT nD τ sig Unit (Elt F) ℕ UU ℕ)}
variable {cs : CoreSpace} {s : Shape} {e : EltTy} {m : Memref sig .tc cs s e}

theorem ld_step {r : LoadRect s} {hl : m.view.LoadsAt r} {S : Finset (Idx (m.view.loc (c : Thread nD τ)))} {q : PosShare TreeShare}
    {f : Buf (Elt F) (m.view.loc (c : Thread nD τ))} {v : r.shape.Idx → Elt F e} (hS : m.view.setOn r.set ⊆ S) (hv : m.view.readAt (Elt F) r f = v)
    {k : (r.shape.Idx → Elt F e) → Prog (TpuEff nD τ sig (Elt F) Λ₀ .tc) α}
    (h : iprop((m.view.loc (c : Thread nD τ) ↦[S]{q} f) ∗ R) ⊢ wpc c (k v) Q) :
    iprop((m.view.loc (c : Thread nD τ) ↦[S]{q} f) ∗ R) ⊢ wpc c (Prog.lift (.load m r hl) >>= k) Q := by
  subst hv
  iintro ⟨H, HR⟩
  iapply (wp_load 𝒱₀ (c : Thread nD τ) none Set.univ (m := m) (r := r) hS) $$ H
  iintro H
  iapply h
  isplitl [H]; · iexact H
  iexact HR

theorem st_step {r : Rect s} {w : r.shape.Idx → Elt F e} {hx : (m.access r).Stores Finset.univ} {hm : (Finset.univ : Finset r.shape.Idx) = Finset.univ ∨ ∀ a, r.stride a = 1}
    {S : Finset (Idx ((m.access r).loc (c : Thread nD τ)))} {f f' : Buf (Elt F) ((m.access r).loc (c : Thread nD τ))}
    (hS : (m.access r).setOn Finset.univ ⊆ S) (hf : ∀ i ∈ S, (m.access r).write (Elt F) f w Finset.univ i = f' i)
    {k : PUnit → Prog (TpuEff nD τ sig (Elt F) Λ₀ .tc) α}
    (h : iprop(((m.access r).loc (c : Thread nD τ) ↦[S]{fullShare} f') ∗ R) ⊢ wpc c (k ⟨⟩) Q) :
    iprop(((m.access r).loc (c : Thread nD τ) ↦[S]{fullShare} f) ∗ R) ⊢ wpc c (Prog.lift (.store m r w Finset.univ hx hm) >>= k) Q := by
  iintro ⟨H, HR⟩
  iapply (wp_store 𝒱₀ (c : Thread nD τ) none Set.univ (m := m) (r := r) (w := w) (Mk := Finset.univ) hS) $$ H
  iintro H
  iapply h
  isplitl [H]; · rw [← pointsTo_congr hf]; iexact H
  iexact HR

end Steps

/-- A load of a buffer that is one piece of what is in hand. -/
theorem ld_of {α : Type} {c : Dev nD} {Q : α → sProp (MT nD τ sig Unit (Elt F) ℕ UU ℕ)} {R A B : sProp (MT nD τ sig Unit (Elt F) ℕ UU ℕ)}
    {cs : CoreSpace} {s : Shape} {e : EltTy} {m : Memref sig .tc cs s e}
    {r : LoadRect s} {hl : m.view.LoadsAt r} {q : PosShare TreeShare} {S : Finset (Idx (m.view.loc (c : Thread nD τ)))}
    {f : Buf (Elt F) (m.view.loc (c : Thread nD τ))} (eA : A ⊣⊢ iprop((m.view.loc (c : Thread nD τ) ↦[S]{q} f) ∗ B))
    (hS : m.view.setOn r.set ⊆ S) {v : r.shape.Idx → Elt F e} (hv : m.view.readAt (Elt F) r f = v)
    {k : (r.shape.Idx → Elt F e) → Prog (TpuEff nD τ sig (Elt F) Λ₀ .tc) α}
    (h : iprop(A ∗ R) ⊢ wpc c (k v) Q) : iprop(A ∗ R) ⊢ wpc c (Prog.lift (.load m r hl) >>= k) Q := by
  refine ent_trans ((sep_mono_left eA.1).trans sep_assoc.1) (ld_step hS hv (ent_trans (sep_assoc.2.trans (sep_mono_left eA.2)) h))

/-- A store to a buffer that is one piece of what is in hand. -/
theorem st_of {α : Type} {c : Dev nD} {Q : α → sProp (MT nD τ sig Unit (Elt F) ℕ UU ℕ)} {R A A' B : sProp (MT nD τ sig Unit (Elt F) ℕ UU ℕ)}
    {cs : CoreSpace} {s : Shape} {e : EltTy} {m : Memref sig .tc cs s e}
    {r : Rect s} {w : r.shape.Idx → Elt F e} {hx : (m.access r).Stores Finset.univ} {hm : (Finset.univ : Finset r.shape.Idx) = Finset.univ ∨ ∀ a, r.stride a = 1}
    {S : Finset (Idx ((m.access r).loc (c : Thread nD τ)))} {f f' : Buf (Elt F) ((m.access r).loc (c : Thread nD τ))}
    (eA : A ⊣⊢ iprop(((m.access r).loc (c : Thread nD τ) ↦[S]{fullShare} f) ∗ B)) (eA' : A' ⊣⊢ iprop(((m.access r).loc (c : Thread nD τ) ↦[S]{fullShare} f') ∗ B))
    (hS : (m.access r).setOn Finset.univ ⊆ S) (hf : ∀ i ∈ S, (m.access r).write (Elt F) f w Finset.univ i = f' i)
    {k : PUnit → Prog (TpuEff nD τ sig (Elt F) Λ₀ .tc) α}
    (h : iprop(A' ∗ R) ⊢ wpc c (k ⟨⟩) Q) : iprop(A ∗ R) ⊢ wpc c (Prog.lift (.store m r w Finset.univ hx hm) >>= k) Q := by
  refine ent_trans ((sep_mono_left eA.1).trans sep_assoc.1) (st_step hS hf (ent_trans (sep_assoc.2.trans (sep_mono_left eA'.2)) h))

/-! ## The operands in hand -/

abbrev xP (c : Dev nD) (f : Vec F S2x512x768 .bf16) : sProp 𝕄 := (Memref.whole cc0_stg0_0).view.loc (c : Thread nD τ) ↦{fullShare} f
abbrev qP (c : Dev nD) (f : Vec F S768x512 .bf16) : sProp 𝕄 := (Memref.whole cc0_stg1_0).view.loc (c : Thread nD τ) ↦{fullShare} f
abbrev kP (c : Dev nD) (f : Vec F S2x512x8x64 .bf16) : sProp 𝕄 := (Memref.whole cc0_stg2_0).view.loc (c : Thread nD τ) ↦{fullShare} f
abbrev vP (c : Dev nD) (f : Vec F S2x512x8x64 .bf16) : sProp 𝕄 := (Memref.whole cc0_stg3_0).view.loc (c : Thread nD τ) ↦{fullShare} f
abbrev wP (c : Dev nD) (f : Vec F S512x768 .bf16) : sProp 𝕄 := (Memref.whole cc0_stg4_0).view.loc (c : Thread nD τ) ↦{fullShare} f
abbrev cP (c : Dev nD) (f : (cc0_scratch1 : Ref sig .tc).ty.Contents (Elt F)) : sProp 𝕄 := cM.view.loc (c : Thread nD τ) ↦{fullShare} f

/-- The five operand blocks and the context buffer. -/
def Cst (i : Inp F) (c : Dev nD) (f : (cc0_scratch1 : Ref sig .tc).ty.Contents (Elt F)) : sProp 𝕄 :=
  iprop(xP c i.x ∗ qP c i.wq ∗ kP c i.k ∗ vP c i.v ∗ wP c i.wo ∗ cP c f)

section Compute

variable {α : Type} {c : Dev nD} {Q : α → sProp (MT nD τ sig Unit (Elt F) ℕ UU ℕ)} {R : sProp (MT nD τ sig Unit (Elt F) ℕ UU ℕ)}
variable {i : Inp F} {f : (cc0_scratch1 : Ref sig .tc).ty.Contents (Elt F)}

theorem Cst_x : Cst i c f ⊣⊢ iprop(xP c i.x ∗ (qP c i.wq ∗ kP c i.k ∗ vP c i.v ∗ wP c i.wo ∗ cP c f)) := .rfl
theorem Cst_q : Cst i c f ⊣⊢ iprop(qP c i.wq ∗ (xP c i.x ∗ kP c i.k ∗ vP c i.v ∗ wP c i.wo ∗ cP c f)) := by
  unfold Cst; constructor <;> (iintro ⟨A, B, C, D, E, G⟩; iframe)
theorem Cst_k : Cst i c f ⊣⊢ iprop(kP c i.k ∗ (xP c i.x ∗ qP c i.wq ∗ vP c i.v ∗ wP c i.wo ∗ cP c f)) := by
  unfold Cst; constructor <;> (iintro ⟨A, B, C, D, E, G⟩; iframe)
theorem Cst_v : Cst i c f ⊣⊢ iprop(vP c i.v ∗ (xP c i.x ∗ qP c i.wq ∗ kP c i.k ∗ wP c i.wo ∗ cP c f)) := by
  unfold Cst; constructor <;> (iintro ⟨A, B, C, D, E, G⟩; iframe)
theorem Cst_w : Cst i c f ⊣⊢ iprop(wP c i.wo ∗ (xP c i.x ∗ qP c i.wq ∗ kP c i.k ∗ vP c i.v ∗ cP c f)) := by
  unfold Cst; constructor <;> (iintro ⟨A, B, C, D, E, G⟩; iframe)
theorem Cst_c : Cst i c f ⊣⊢ iprop(cP c f ∗ (xP c i.x ∗ qP c i.wq ∗ kP c i.k ∗ vP c i.v ∗ wP c i.wo)) := by
  unfold Cst; constructor <;> (iintro ⟨A, B, C, D, E, G⟩; iframe)

theorem ld_x (b : Fin 2) {o : Fin 3 → ℕ} (ho : o = ![b.val, 0, 0]) {inb : ∀ a, o a + S1x512x768.size a ≤ S2x512x768.size a}
    {hl : (Memref.whole cc0_stg0_0 : Memref sig .tc .vmem S2x512x768 .bf16).view.LoadsAt (Rect.unit (s := S2x512x768) o S1x512x768.size inb).toLoadRect}
    {k : Vec F S1x512x768 .bf16 → Prog (TpuEff nD τ sig (Elt F) Λ₀ .tc) α}
    (h : iprop(Cst i c f ∗ R) ⊢ wpc c (k (xAt i b)) Q) :
    iprop(Cst i c f ∗ R) ⊢ wpc c (Prog.lift (.load (Memref.whole cc0_stg0_0 : Memref sig .tc .vmem S2x512x768 .bf16) (Rect.unit (s := S2x512x768) o S1x512x768.size inb).toLoadRect hl) >>= k) Q := by
  subst ho; exact ld_of Cst_x (Finset.subset_univ _) rfl h
theorem ld_q {inb : ∀ a, (![0, 0] : Fin 2 → ℕ) a + S768x512.size a ≤ S768x512.size a}
    {hl : (Memref.whole cc0_stg1_0 : Memref sig .tc .vmem S768x512 .bf16).view.LoadsAt (Rect.unit (s := S768x512) ![0, 0] S768x512.size inb).toLoadRect}
    {k : Vec F S768x512 .bf16 → Prog (TpuEff nD τ sig (Elt F) Λ₀ .tc) α}
    (h : iprop(Cst i c f ∗ R) ⊢ wpc c (k i.wq) Q) :
    iprop(Cst i c f ∗ R) ⊢ wpc c (Prog.lift (.load (Memref.whole cc0_stg1_0 : Memref sig .tc .vmem S768x512 .bf16) (Rect.unit (s := S768x512) ![0, 0] S768x512.size inb).toLoadRect hl) >>= k) Q :=
  ld_of Cst_q (Finset.subset_univ _) (Memref.readAt_unit_zero (Elt F) cc0_stg1_0 (by decide) _ i.wq) h
theorem ld_k (b : Fin 2) (n : ℕ) {o : Fin 4 → ℕ} (ho : o = ![b.val, 0, n % 8, 0]) {inb : ∀ a, o a + S1x512x1x64.size a ≤ S2x512x8x64.size a}
    {hl : (Memref.whole cc0_stg2_0 : Memref sig .tc .vmem S2x512x8x64 .bf16).view.LoadsAt (Rect.unit (s := S2x512x8x64) o S1x512x1x64.size inb).toLoadRect}
    {k : Vec F S1x512x1x64 .bf16 → Prog (TpuEff nD τ sig (Elt F) Λ₀ .tc) α}
    (h : iprop(Cst i c f ∗ R) ⊢ wpc c (k (kAt i b n)) Q) :
    iprop(Cst i c f ∗ R) ⊢ wpc c (Prog.lift (.load (Memref.whole cc0_stg2_0 : Memref sig .tc .vmem S2x512x8x64 .bf16) (Rect.unit (s := S2x512x8x64) o S1x512x1x64.size inb).toLoadRect hl) >>= k) Q := by
  subst ho; exact ld_of Cst_k (Finset.subset_univ _) rfl h
theorem ld_v (b : Fin 2) (n : ℕ) {o : Fin 4 → ℕ} (ho : o = ![b.val, 0, n % 8, 0]) {inb : ∀ a, o a + S1x512x1x64.size a ≤ S2x512x8x64.size a}
    {hl : (Memref.whole cc0_stg3_0 : Memref sig .tc .vmem S2x512x8x64 .bf16).view.LoadsAt (Rect.unit (s := S2x512x8x64) o S1x512x1x64.size inb).toLoadRect}
    {k : Vec F S1x512x1x64 .bf16 → Prog (TpuEff nD τ sig (Elt F) Λ₀ .tc) α}
    (h : iprop(Cst i c f ∗ R) ⊢ wpc c (k (vAt i b n)) Q) :
    iprop(Cst i c f ∗ R) ⊢ wpc c (Prog.lift (.load (Memref.whole cc0_stg3_0 : Memref sig .tc .vmem S2x512x8x64 .bf16) (Rect.unit (s := S2x512x8x64) o S1x512x1x64.size inb).toLoadRect hl) >>= k) Q := by
  subst ho; exact ld_of Cst_v (Finset.subset_univ _) rfl h
theorem ld_w {inb : ∀ a, (![0, 0] : Fin 2 → ℕ) a + S512x768.size a ≤ S512x768.size a}
    {hl : (Memref.whole cc0_stg4_0 : Memref sig .tc .vmem S512x768 .bf16).view.LoadsAt (Rect.unit (s := S512x768) ![0, 0] S512x768.size inb).toLoadRect}
    {k : Vec F S512x768 .bf16 → Prog (TpuEff nD τ sig (Elt F) Λ₀ .tc) α}
    (h : iprop(Cst i c f ∗ R) ⊢ wpc c (k i.wo) Q) :
    iprop(Cst i c f ∗ R) ⊢ wpc c (Prog.lift (.load (Memref.whole cc0_stg4_0 : Memref sig .tc .vmem S512x768 .bf16) (Rect.unit (s := S512x768) ![0, 0] S512x768.size inb).toLoadRect hl) >>= k) Q :=
  ld_of Cst_w (Finset.subset_univ _) (Memref.readAt_unit_zero (Elt F) cc0_stg4_0 (by decide) _ i.wo) h
theorem ld_ctx {inb : ∀ a, (![0, 0] : Fin 2 → ℕ) a + S512x512.size a ≤ S512x512.size a}
    {hl : (cM : Memref sig .tc .vmem S512x512 .bf16).view.LoadsAt (Rect.unit (s := S512x512) ![0, 0] S512x512.size inb).toLoadRect}
    {k : Vec F S512x512 .bf16 → Prog (TpuEff nD τ sig (Elt F) Λ₀ .tc) α}
    (h : iprop(Cst i c f ∗ R) ⊢ wpc c (k f) Q) :
    iprop(Cst i c f ∗ R) ⊢ wpc c (Prog.lift (.load (cM : Memref sig .tc .vmem S512x512 .bf16) (Rect.unit (s := S512x512) ![0, 0] S512x512.size inb).toLoadRect hl) >>= k) Q :=
  ld_of Cst_c (Finset.subset_univ _) (Memref.readAt_unit_zero (Elt F) cc0_scratch1 (by decide) _ f) h
/-- The columns of a head, loaded before they are stored; what they hold is not used. -/
theorem ld_old {o : Fin 2 → ℕ} {inb : ∀ a, o a + S512x64.size a ≤ S512x512.size a}
    {hl : (cM : Memref sig .tc .vmem S512x512 .bf16).view.LoadsAt (Rect.unit (s := S512x512) o S512x64.size inb).toLoadRect}
    {k : Vec F S512x64 .bf16 → Prog (TpuEff nD τ sig (Elt F) Λ₀ .tc) α}
    (h : ∀ v, iprop(Cst i c f ∗ R) ⊢ wpc c (k v) Q) :
    iprop(Cst i c f ∗ R) ⊢ wpc c (Prog.lift (.load (cM : Memref sig .tc .vmem S512x512 .bf16) (Rect.unit (s := S512x512) o S512x64.size inb).toLoadRect hl) >>= k) Q :=
  ld_of (m := cM) (S := Finset.univ) (q := fullShare) (f := f) Cst_c (Finset.subset_univ _) rfl (h _)
/-- A head stored at its columns. -/
theorem st_ctx (n : ℕ) {o : Fin 2 → ℕ} (ho : o = ![0, 64 * (n % 8)]) {w : FVec F S512x64 .bf16} {inb : ∀ a, o a + S512x64.size a ≤ S512x512.size a}
    {hx : ((cM : Memref sig .tc .vmem S512x512 .bf16).access (Rect.unit (s := S512x512) o S512x64.size inb)).Stores Finset.univ}
    {hm : (Finset.univ : Finset (Rect.unit (s := S512x512) o S512x64.size inb).shape.Idx) = Finset.univ ∨ ∀ a, (Rect.unit (s := S512x512) o S512x64.size inb).stride a = 1}
    {k : PUnit → Prog (TpuEff nD τ sig (Elt F) Λ₀ .tc) α}
    (h : iprop(Cst i c (wr n f w) ∗ R) ⊢ wpc c (k ⟨⟩) Q) :
    iprop(Cst i c f ∗ R) ⊢ wpc c (Prog.lift (.store (cM : Memref sig .tc .vmem S512x512 .bf16) (Rect.unit (s := S512x512) o S512x64.size inb) w Finset.univ hx hm) >>= k) Q := by
  subst ho
  have e := Cst_c (i := i) (c := c) (f := f)
  have e' := Cst_c (i := i) (c := c) (f := wr n f w)
  have hS : ((cM : Memref sig .tc .vmem S512x512 .bf16).access (Rect.unit (s := S512x512) ![0, 64 * (n % 8)] S512x64.size inb)).setOn Finset.univ ⊆ Finset.univ :=
    Finset.subset_univ _
  have hf : ((cM : Memref sig .tc .vmem S512x512 .bf16).access (Rect.unit (s := S512x512) ![0, 64 * (n % 8)] S512x64.size inb)).write (Elt F) f w Finset.univ = wr n f w := by
    unfold wr; rfl
  refine st_of (m := cM) (r := Rect.unit (s := S512x512) ![0, 64 * (n % 8)] S512x64.size inb) (w := w) (S := Finset.univ) (f := f) (f' := wr n f w) e e' hS (fun j _ => ?_) h
  rw [hf]

end Compute

/-! ## The attention of a batch -/

/-- A part of the body at the kernel's own buffers. -/
abbrev onBufs {β : Type 1} (f : (arg0 : Memref sig .tc .vmem S2x512x768 .bf16) → arg0.IsWhole → (arg1 : Memref sig .tc .vmem S768x512 .bf16) → arg1.IsWhole →
    (arg2 : Memref sig .tc .vmem S2x512x8x64 .bf16) → arg2.IsWhole → (arg3 : Memref sig .tc .vmem S2x512x8x64 .bf16) → arg3.IsWhole →
    (arg4 : Memref sig .tc .vmem S512x768 .bf16) → arg4.IsWhole → (arg5 : Memref sig .tc .vmem S1024x768 .f32) → arg5.IsWhole →
    (arg6 : Memref sig .tc .vmem S1024x768 .bf16) → arg6.IsWhole → (arg7 : Memref sig .tc .vmem S512x512 .bf16) → arg7.IsWhole →
    (arg8 : Memref sig .tc .vmem S512x768 .bf16) → arg8.IsWhole → (arg9 : Memref sig .tc .vmem S15x32x768 .bf16) → arg9.IsWhole →
    (arg10 : Memref sig .tc .vmem S512x768 .bf16) → arg10.IsWhole → (arg11 : Memref sig .tc .vmem S512x768 .bf16) → arg11.IsWhole →
    DmaSems sig S_ → DmaSems sig S_ → DmaSems sig S15 → DmaSems sig S15 → DmaSems sig S15 → DmaSems sig S15 → DmaSems sig S16 → DmaSems sig S16 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    aM (Memref.isWhole_whole _) cM (Memref.isWhole_whole _) pM (Memref.isWhole_whole _) rM (Memref.isWhole_whole _) gM (Memref.isWhole_whole _) oM (Memref.isWhole_whole _)
    cc0_scratch6 cc0_scratch7 cc0_scratch8 cc0_scratch9 cc0_scratch10 cc0_scratch11 cc0_scratch12 cc0_scratch13

section Offsets
theorem off1_eq (c : Dev nD) : k0_off1 c = ![(1 - par c).val, 0, 0] := by revert c; decide
theorem off2_eq (c : Dev nD) : k0_off2 c = ![(1 - par c).val, 0, 0 % 8, 0] := by revert c; decide
theorem off3_eq (c : Dev nD) : k0_off3 c = ![(1 - par c).val, 0, 1 % 8, 0] := by revert c; decide
theorem off4_eq (c : Dev nD) : k0_off4 c = ![(1 - par c).val, 0, 2 % 8, 0] := by revert c; decide
end Offsets

/-- From `S` the program ends in `S'` with result `r`. -/
def Does {β : Type} (c : Dev nD) (p : Prog (TpuEff nD τ sig (Elt F) Λ₀ .tc) β) (S : sProp 𝕄) (r : β) (S' : sProp 𝕄) : Prop :=
  ∀ (Q : β → sProp (MT nD τ sig Unit (Elt F) ℕ UU ℕ)) (R : sProp (MT nD τ sig Unit (Elt F) ℕ UU ℕ)), (iprop(S' ∗ R) ⊢ Q r) → iprop(S ∗ R) ⊢ wpc c p Q
/-- From `S` the program ends in `S'`, with words for result that nothing reads. -/
def Does' {β : Type} (c : Dev nD) (p : Prog (TpuEff nD τ sig (Elt F) Λ₀ .tc) β) (S S' : sProp 𝕄) : Prop :=
  ∀ (Q : β → sProp (MT nD τ sig Unit (Elt F) ℕ UU ℕ)) (R : sProp (MT nD τ sig Unit (Elt F) ℕ UU ℕ)), (∀ r, iprop(S' ∗ R) ⊢ Q r) → iprop(S ∗ R) ⊢ wpc c p Q

section Parts

variable {c : Dev nD} {i : Inp F} {f : (cc0_scratch1 : Ref sig .tc).ty.Contents (Elt F)}

theorem p6 (v3 : BitVec 32) :
    Does c (onBufs (k0_part6 (F := F)) c v3 k0_pay1 (iota .tc S512x512 32 [1] iota_S512x512_d1_w32) 64#32 k0_pay2 k0_pay3 (Scalar.extui (Scalar.cmpi .sgt 64#32 0#32)) 0#32)
      (Cst i c f)
      ⟨maskV, Scalar.subi 1#32 v3, qAt i (1 - par c), k0_pay6 k0_pay1 (iota .tc S512x512 32 [1] iota_S512x512_d1_w32) 64#32 k0_pay2 k0_pay3 (Scalar.extui (Scalar.cmpi .sgt 64#32 0#32)) 0#32
        (xAt i (1 - par c)) i.wq (kAt i (1 - par c) 0) (vAt i (1 - par c) 0)⟩
      (Cst i c f) := by
  intro Q R h
  rw [k0_part6_eq_skeleton]; unfold k0_part6_skel
  refine ld_x (1 - par c) (off1_eq c) ?_
  refine ld_q ?_
  refine ld_k (1 - par c) 0 (off2_eq c) ?_
  refine ld_v (1 - par c) 0 (off2_eq c) ?_
  exact done h

theorem p7 (v173 : BitVec 32) (v199 : FVec F S512x64 .f32) (hv : k0_pay7 v199 = hd i (1 - par c) 0) :
    Does c (onBufs (k0_part7 (F := F)) c maskV v173 (qAt i (1 - par c)) v199) (Cst i c (ctxN i (1 - par c) f 0))
      ⟨k0_pay9 (vAt i (1 - par c) 2), k0_pay10 (qAt i (1 - par c)) (kAt i (1 - par c) 2), Scalar.ofBits .f32 0x3E000000#32⟩
      (Cst i c (ctxN i (1 - par c) f 2)) := by
  intro Q R h
  rw [k0_part7_eq_skeleton]; unfold k0_part7_skel
  refine ld_old fun _ => ?_
  refine st_ctx 0 rfl ?_
  rw [hv]
  refine ld_k (1 - par c) 1 (off3_eq c) ?_
  refine ld_v (1 - par c) 1 (off3_eq c) ?_
  refine ld_old fun _ => ?_
  refine st_ctx 1 rfl ?_
  refine ld_k (1 - par c) 2 (off4_eq c) ?_
  refine ld_v (1 - par c) 2 (off4_eq c) ?_
  exact done h

end Parts

end Cert.KI

end
-- ==== Proof.Comp2.lean ====
/-
The rest of the attention parts, the output projection and the exchange with the partner.
-/
module

public import proofs.«01_k».proof.Proof.Comp

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The accumulator -/

section Acc

variable {α : Type} {c : Dev nD} {Q : α → sProp (MT nD τ sig Unit (Elt F) ℕ UU ℕ)} {R : sProp (MT nD τ sig Unit (Elt F) ℕ UU ℕ)}
variable {b : Fin 2} {o : Fin 2 → ℕ}

theorem acc_set (ho : o = ![512 * b.val, 0]) (inb : ∀ a, o a + S512x768.size a ≤ S1024x768.size a) :
    ((aM : Memref sig .tc .vmem S1024x768 .bf16).access (Rect.unit (s := S1024x768) o S512x768.size inb)).set = bandA (512 * b.val) 512 := by
  show ((View.whole cc0_scratch0).slice _).set = _
  rw [View.set_slice_whole, rect_rowsA _ 512 (512 * b.val) _ (by decide) ho]

theorem acc_read (ho : o = ![512 * b.val, 0]) (inb : ∀ a, o a + S512x768.size a ≤ S1024x768.size a) (v : Vec F S512x768 .bf16) :
    (aM : Memref sig .tc .vmem S1024x768 .bf16).view.readAt (Elt F) (Rect.unit (s := S1024x768) o S512x768.size inb).toLoadRect (lift v) = v := by
  subst ho
  funext j
  refine (lift_at v _ b (j 0).val (j 0).isLt ?_).trans ?_
  · show 512 * b.val + 1 * (j 0).val = _
    omega
  · congr 1
    funext a
    match a with
    | 0 => rfl
    | 1 => exact Fin.ext (by show 0 + 1 * (j 1).val = (j 1).val; omega)

theorem acc_write (ho : o = ![512 * b.val, 0]) (inb : ∀ a, o a + S512x768.size a ≤ S1024x768.size a) (v : Vec F S512x768 .bf16)
    (f : (cc0_scratch0 : Ref sig .tc).ty.Contents (Elt F)) (i : S1024x768.Idx) (hi : i ∈ bandA (512 * b.val) 512) :
    ((aM : Memref sig .tc .vmem S1024x768 .bf16).access (Rect.unit (s := S1024x768) o S512x768.size inb)).write (Elt F) f v Finset.univ i = lift v i := by
  rw [← acc_set ho inb] at hi
  obtain ⟨j, -, rfl⟩ := Finset.mem_map.mp hi
  refine (View.write_emb_of_mem _ _ (Finset.mem_univ j)).trans ?_
  exact (congrFun (acc_read ho inb v) j).symm

theorem a_old (ho : o = ![512 * b.val, 0]) {inb : ∀ a, o a + S512x768.size a ≤ S1024x768.size a}
    {hl : (aM : Memref sig .tc .vmem S1024x768 .bf16).view.LoadsAt (Rect.unit (s := S1024x768) o S512x768.size inb).toLoadRect}
    {k : Vec F S512x768 .bf16 → Prog (TpuEff nD τ sig (Elt F) Λ₀ .tc) α}
    (h : ∀ v, iprop((∃ g, aP c (bandA (512 * b.val) 512) g) ∗ R) ⊢ wpc c (k v) Q) :
    iprop((∃ g, aP c (bandA (512 * b.val) 512) g) ∗ R) ⊢ wpc c (Prog.lift (.load (aM : Memref sig .tc .vmem S1024x768 .bf16) (Rect.unit (s := S1024x768) o S512x768.size inb).toLoadRect hl) >>= k) Q := by
  have hS : (aM : Memref sig .tc .vmem S1024x768 .bf16).view.setOn (Rect.unit (s := S1024x768) o S512x768.size inb).toLoadRect.set ⊆ bandA (512 * b.val) 512 := by
    have := acc_set ho inb
    rw [View.set_slice] at this
    exact this.le
  iintro ⟨⟨%g, H⟩, HR⟩
  iapply (ld_step (m := aM) (S := bandA (512 * b.val) 512) (q := fullShare) (f := g) (R := R) hS rfl (ent_trans ?_ (h _)))
  · iintro ⟨H, HR⟩
    isplitl [H]; · iexists g; iexact H
    iexact HR
  isplitl [H]; · iexact H
  iexact HR

theorem a_ld (ho : o = ![512 * b.val, 0]) {inb : ∀ a, o a + S512x768.size a ≤ S1024x768.size a} {v : Vec F S512x768 .bf16}
    {hl : (aM : Memref sig .tc .vmem S1024x768 .bf16).view.LoadsAt (Rect.unit (s := S1024x768) o S512x768.size inb).toLoadRect}
    {k : Vec F S512x768 .bf16 → Prog (TpuEff nD τ sig (Elt F) Λ₀ .tc) α}
    (h : iprop(aP c (bandA (512 * b.val) 512) (lift v) ∗ R) ⊢ wpc c (k v) Q) :
    iprop(aP c (bandA (512 * b.val) 512) (lift v) ∗ R) ⊢ wpc c (Prog.lift (.load (aM : Memref sig .tc .vmem S1024x768 .bf16) (Rect.unit (s := S1024x768) o S512x768.size inb).toLoadRect hl) >>= k) Q := by
  have hS : (aM : Memref sig .tc .vmem S1024x768 .bf16).view.setOn (Rect.unit (s := S1024x768) o S512x768.size inb).toLoadRect.set ⊆ bandA (512 * b.val) 512 := by
    have := acc_set ho inb
    rw [View.set_slice] at this
    exact this.le
  exact ld_step (m := aM) (S := bandA (512 * b.val) 512) (q := fullShare) (f := lift v) hS (acc_read ho inb v) h

theorem a_st (ho : o = ![512 * b.val, 0]) {inb : ∀ a, o a + S512x768.size a ≤ S1024x768.size a} {w : Vec F S512x768 .bf16}
    {hx : ((aM : Memref sig .tc .vmem S1024x768 .bf16).access (Rect.unit (s := S1024x768) o S512x768.size inb)).Stores Finset.univ}
    {hm : (Finset.univ : Finset (Rect.unit (s := S1024x768) o S512x768.size inb).shape.Idx) = Finset.univ ∨ ∀ a, (Rect.unit (s := S1024x768) o S512x768.size inb).stride a = 1}
    {k : PUnit → Prog (TpuEff nD τ sig (Elt F) Λ₀ .tc) α}
    (h : iprop(aP c (bandA (512 * b.val) 512) (lift w) ∗ R) ⊢ wpc c (k ⟨⟩) Q) :
    iprop((∃ g, aP c (bandA (512 * b.val) 512) g) ∗ R) ⊢ wpc c (Prog.lift (.store (aM : Memref sig .tc .vmem S1024x768 .bf16) (Rect.unit (s := S1024x768) o S512x768.size inb) w Finset.univ hx hm) >>= k) Q := by
  have hS : ((aM : Memref sig .tc .vmem S1024x768 .bf16).access (Rect.unit (s := S1024x768) o S512x768.size inb)).setOn Finset.univ ⊆ bandA (512 * b.val) 512 := by
    rw [View.setOn_univ, acc_set ho inb]
  iintro ⟨⟨%g, H⟩, HR⟩
  iapply (st_step (m := aM) (r := Rect.unit (s := S1024x768) o S512x768.size inb) (w := w) (S := bandA (512 * b.val) 512) (f := g) (f' := lift w) (R := R) hS
    (fun i hi => acc_write ho inb w g i hi) h)
  isplitl [H]; · iexact H
  iexact HR

theorem p_ld {v : Vec F S512x768 .bf16} {inb : ∀ a, (![0, 0] : Fin 2 → ℕ) a + S512x768.size a ≤ S512x768.size a}
    {hl : (pM : Memref sig .tc .vmem S512x768 .bf16).view.LoadsAt (Rect.unit (s := S512x768) ![0, 0] S512x768.size inb).toLoadRect}
    {k : Vec F S512x768 .bf16 → Prog (TpuEff nD τ sig (Elt F) Λ₀ .tc) α}
    (h : iprop(pP c v ∗ R) ⊢ wpc c (k v) Q) :
    iprop(pP c v ∗ R) ⊢ wpc c (Prog.lift (.load (pM : Memref sig .tc .vmem S512x768 .bf16) (Rect.unit (s := S512x768) ![0, 0] S512x768.size inb).toLoadRect hl) >>= k) Q :=
  ld_step (m := pM) (S := Finset.univ) (q := fullShare) (f := v) (Finset.subset_univ _) (Memref.readAt_unit_zero (Elt F) cc0_scratch2 (by decide) _ v) h

end Acc

section Offsets
theorem off5_eq (c : Dev nD) : k0_off5 c = ![(1 - par c).val, 0, 3 % 8, 0] := by revert c; decide
theorem off6_eq (c : Dev nD) : k0_off6 c = ![(1 - par c).val, 0, 4 % 8, 0] := by revert c; decide
theorem off7_eq (c : Dev nD) : k0_off7 c = ![(1 - par c).val, 0, 5 % 8, 0] := by revert c; decide
theorem off8_eq (c : Dev nD) : k0_off8 c = ![(1 - par c).val, 0, 6 % 8, 0] := by revert c; decide
theorem off9_eq (c : Dev nD) : k0_off9 c = ![(1 - par c).val, 0, 7 % 8, 0] := by revert c; decide
theorem off13_eq (c : Dev nD) : k0_off13 c = ![(par c).val, 0, 0 % 8, 0] := by revert c; decide
theorem off14_eq (c : Dev nD) : k0_off14 c = ![(par c).val, 0, 1 % 8, 0] := by revert c; decide
theorem off15_eq (c : Dev nD) : k0_off15 c = ![(par c).val, 0, 2 % 8, 0] := by revert c; decide
theorem off16_eq (c : Dev nD) : k0_off16 c = ![(par c).val, 0, 3 % 8, 0] := by revert c; decide
theorem off17_eq (c : Dev nD) : k0_off17 c = ![(par c).val, 0, 4 % 8, 0] := by revert c; decide
theorem off18_eq (c : Dev nD) : k0_off18 c = ![(par c).val, 0, 5 % 8, 0] := by revert c; decide
theorem off19_eq (c : Dev nD) : k0_off19 c = ![(par c).val, 0, 6 % 8, 0] := by revert c; decide
theorem off20_eq (c : Dev nD) : k0_off20 c = ![(par c).val, 0, 7 % 8, 0] := by revert c; decide
theorem off10_eq (c : Dev nD) : k0_off10 c = ![512 * (1 - par c).val, 0] := by revert c; decide
theorem off11_eq (c : Dev nD) : k0_off11 c = ![512 * (1 - par c).val, 0] := by revert c; decide
theorem off12_eq (c : Dev nD) : k0_off12 c = ![(par c).val, 0, 0] := by revert c; decide
theorem off21_eq (c : Dev nD) : k0_off21 c = ![512 * (par c).val, 0] := by revert c; decide
theorem dev17_eq (c : Dev nD) : (⟨k0_dev17 c, k0_dev17_lt c⟩ : Dev nD) = pr c := by revert c; decide
end Offsets

section Parts

variable {I : Dev nD → Inp F} {K : GSem nD τ sig → ℕ}
variable {c : Dev nD} {i : Inp F} {f : (cc0_scratch1 : Ref sig .tc).ty.Contents (Elt F)}

theorem p8 (v173 : BitVec 32) :
    Does c (onBufs (k0_part8 (F := F)) c maskV v173 (qAt i (1 - par c)) (k0_pay9 (vAt i (1 - par c) 2)) (k0_pay10 (qAt i (1 - par c)) (kAt i (1 - par c) 2)) (Scalar.ofBits .f32 0x3E000000#32))
      (Cst i c (ctxN i (1 - par c) f 2)) (k0_pay13 (qAt i (1 - par c))) (Cst i c (ctxN i (1 - par c) f 4)) := by
  intro Q R h
  rw [k0_part8_eq_skeleton]; unfold k0_part8_skel
  refine ld_old fun _ => ?_
  refine st_ctx 2 rfl ?_
  refine ld_k (1 - par c) 3 (off5_eq c) ?_
  refine ld_v (1 - par c) 3 (off5_eq c) ?_
  refine ld_old fun _ => ?_
  refine st_ctx 3 rfl ?_
  exact done h

theorem p9 (v173 : BitVec 32) :
    Does c (onBufs (k0_part9 (F := F)) c maskV v173 (qAt i (1 - par c)) (k0_pay13 (qAt i (1 - par c))))
      (Cst i c (ctxN i (1 - par c) f 4))
      ⟨k0_pay15 (vAt i (1 - par c) 5), k0_pay16 maskV (qAt i (1 - par c)) (kAt i (1 - par c) 5), k0_pay17 maskV (qAt i (1 - par c)) (kAt i (1 - par c) 5)⟩
      (Cst i c (ctxN i (1 - par c) f 5)) := by
  intro Q R h
  rw [k0_part9_eq_skeleton]; unfold k0_part9_skel
  refine ld_k (1 - par c) 4 (off6_eq c) ?_
  refine ld_v (1 - par c) 4 (off6_eq c) ?_
  refine ld_old fun _ => ?_
  refine st_ctx 4 rfl ?_
  refine ld_k (1 - par c) 5 (off7_eq c) ?_
  refine ld_v (1 - par c) 5 (off7_eq c) ?_
  exact done h

theorem p10 (v173 : BitVec 32) :
    Does c (onBufs (k0_part10 (F := F)) c maskV v173 (qAt i (1 - par c)) (k0_pay15 (vAt i (1 - par c) 5)) (k0_pay16 maskV (qAt i (1 - par c)) (kAt i (1 - par c) 5))
        (k0_pay17 maskV (qAt i (1 - par c)) (kAt i (1 - par c) 5)))
      (Cst i c (ctxN i (1 - par c) f 5)) ⟨k0_pay20 (qAt i (1 - par c)), k0_pay21 (kAt i (1 - par c) 7)⟩ (Cst i c (ctxN i (1 - par c) f 7)) := by
  intro Q R h
  rw [k0_part10_eq_skeleton]; unfold k0_part10_skel
  refine ld_old fun _ => ?_
  refine st_ctx 5 rfl ?_
  refine ld_k (1 - par c) 6 (off8_eq c) ?_
  refine ld_v (1 - par c) 6 (off8_eq c) ?_
  refine ld_old fun _ => ?_
  refine st_ctx 6 rfl ?_
  refine ld_k (1 - par c) 7 (off9_eq c) ?_
  exact done h

theorem p11 (v3 v6 v173 : BitVec 32) :
    Does c (onBufs (k0_part11 (F := F)) c v3 v6 maskV v173 (k0_pay20 (qAt (I c) (1 - par c))) (k0_pay21 (kAt (I c) (1 - par c) 7)))
      iprop(Cst (I c) c (ctxN (I c) (1 - par c) f 7) ∗ (∃ g, aP c (bandA (512 * (1 - par c).val) 512) g) ∗ Gam I K ∗ ow c 16 ∗ (∃ f, pP (pr c) f) ∗ sT c 6 (pr c) 7)
      ⟨k0_pay24 (xAt (I c) (par c)), k0_pay25 (I c).wq⟩
      iprop(Cst (I c) c (cat (I c) (1 - par c)) ∗ Gam I K ∗ ow c 17 ∗ cred (tallyAt (dCell c 6) () NA)) := by
  intro Q R h
  rw [k0_part11_eq_skeleton]; unfold k0_part11_skel
  refine ent_trans sep_assoc.1 ?_
  refine ld_v (1 - par c) 7 (off9_eq c) ?_
  refine ld_old fun _ => ?_
  refine st_ctx 7 rfl ?_
  rw [show wr 7 (ctxN (I c) (1 - par c) f 7) (k0_pay22 maskV (k0_pay20 (qAt (I c) (1 - par c))) (k0_pay21 (kAt (I c) (1 - par c) 7)) (vAt (I c) (1 - par c) 7)) = cat (I c) (1 - par c)
    from ctxN_eight (I c) (1 - par c) f]
  refine ld_ctx ?_
  refine ld_w ?_
  refine ent_trans (Q := iprop((∃ g, aP c (bandA (512 * (1 - par c).val) 512) g) ∗ Cst (I c) c (cat (I c) (1 - par c)) ∗ Gam I K ∗ ow c 16 ∗ (∃ f, pP (pr c) f) ∗ sT c 6 (pr c) 7 ∗ R)) ?_ ?_
  · iintro ⟨A, ⟨B, C, D, E, G⟩, H⟩; iframe
  refine a_old (off10_eq c) fun _ => ?_
  refine a_st (off10_eq c) ?_
  refine ent_trans (Q := iprop(Gam I K ∗ ow c 16 ∗ (aP c (bandA (512 * (1 - par c).val) 512) (lift (P (I c) (1 - par c))) ∗ (∃ f, pP (pr c) f) ∗ sT c 6 (pr c) 7) ∗ Cst (I c) c (cat (I c) (1 - par c)) ∗ R)) ?_ ?_
  · unfold P
    iintro ⟨A, B, C, D, E, G, H⟩; iframe
  refine s1_step (dev17_eq c) (off11_eq c) rfl rfl ?_
  refine ent_trans (Q := iprop(Cst (I c) c (cat (I c) (1 - par c)) ∗ Gam I K ∗ ow c 17 ∗ cred (tallyAt (dCell c 6) () NA) ∗ R)) ?_ ?_
  · iintro ⟨A, B, C, D, E⟩; iframe
  refine ld_x (par c) (off12_eq c) ?_
  refine ld_q ?_
  refine done (ent_trans ?_ h)
  iintro ⟨A, B, C, D, E⟩; iframe

theorem p12 (v3 : BitVec 32) :
    Does c (onBufs (k0_part12 (F := F)) c v3 maskV (k0_pay24 (xAt i (par c))) (k0_pay25 i.wq))
      (Cst i c (ctxN i (par c) f 0)) ⟨qAt i (par c), k0_pay28 (vAt i (par c) 1), k0_pay29 (k0_pay24 (xAt i (par c))) (k0_pay25 i.wq) (kAt i (par c) 1), k0_pay30 (F := F)⟩
      (Cst i c (ctxN i (par c) f 1)) := by
  intro Q R h
  rw [k0_part12_eq_skeleton]; unfold k0_part12_skel
  refine ld_k (par c) 0 (off13_eq c) ?_
  refine ld_v (par c) 0 (off13_eq c) ?_
  refine ld_old fun _ => ?_
  refine st_ctx 0 rfl ?_
  refine ld_k (par c) 1 (off14_eq c) ?_
  refine ld_v (par c) 1 (off14_eq c) ?_
  exact done h

theorem p13 (v3 : BitVec 32) :
    Does c (onBufs (k0_part13 (F := F)) c v3 maskV (qAt i (par c)) (k0_pay28 (vAt i (par c) 1)) (k0_pay29 (k0_pay24 (xAt i (par c))) (k0_pay25 i.wq) (kAt i (par c) 1)) (k0_pay30 (F := F)))
      (Cst i c (ctxN i (par c) f 1)) ⟨k0_pay33 (qAt i (par c)), kAt i (par c) 3⟩
      (Cst i c (ctxN i (par c) f 3)) := by
  intro Q R h
  rw [k0_part13_eq_skeleton]; unfold k0_part13_skel
  refine ld_old fun _ => ?_
  refine st_ctx 1 rfl ?_
  refine ld_k (par c) 2 (off15_eq c) ?_
  refine ld_v (par c) 2 (off15_eq c) ?_
  refine ld_old fun _ => ?_
  refine st_ctx 2 rfl ?_
  refine ld_k (par c) 3 (off16_eq c) ?_
  exact done h

theorem p14 (v3 : BitVec 32) :
    Does c (onBufs (k0_part14 (F := F)) c v3 maskV (qAt i (par c)) (k0_pay33 (qAt i (par c))) (kAt i (par c) 3))
      (Cst i c (ctxN i (par c) f 3)) ⟨k0_pay35 (vAt i (par c) 4), k0_pay36 maskV (qAt i (par c)) (kAt i (par c) 4), constant S512x64 .f32 0x00000000#32⟩
      (Cst i c (ctxN i (par c) f 4)) := by
  intro Q R h
  rw [k0_part14_eq_skeleton]; unfold k0_part14_skel
  refine ld_v (par c) 3 (off16_eq c) ?_
  refine ld_old fun _ => ?_
  refine st_ctx 3 rfl ?_
  refine ld_k (par c) 4 (off17_eq c) ?_
  refine ld_v (par c) 4 (off17_eq c) ?_
  exact done h

theorem p15 (v3 : BitVec 32) :
    Does c (onBufs (k0_part15 (F := F)) c v3 maskV (qAt i (par c)) (k0_pay35 (vAt i (par c) 4)) (k0_pay36 maskV (qAt i (par c)) (kAt i (par c) 4)) (constant S512x64 .f32 0x00000000#32))
      (Cst i c (ctxN i (par c) f 4)) ⟨k0_pay39 (vAt i (par c) 6), k0_pay40 (qAt i (par c)) (kAt i (par c) 6)⟩
      (Cst i c (ctxN i (par c) f 6)) := by
  intro Q R h
  rw [k0_part15_eq_skeleton]; unfold k0_part15_skel
  refine ld_old fun _ => ?_
  refine st_ctx 4 rfl ?_
  refine ld_k (par c) 5 (off18_eq c) ?_
  refine ld_v (par c) 5 (off18_eq c) ?_
  refine ld_old fun _ => ?_
  refine st_ctx 5 rfl ?_
  refine ld_k (par c) 6 (off19_eq c) ?_
  refine ld_v (par c) 6 (off19_eq c) ?_
  exact done h

theorem p16 (v3 : BitVec 32) :
    Does c (onBufs (k0_part16 (F := F)) c v3 maskV (qAt i (par c)) (k0_pay39 (vAt i (par c) 6)) (k0_pay40 (qAt i (par c)) (kAt i (par c) 6)))
      (Cst i c (ctxN i (par c) f 6)) ⟨⟩ (Cst i c (cat i (par c))) := by
  intro Q R h
  rw [k0_part16_eq_skeleton]; unfold k0_part16_skel
  refine ld_old fun _ => ?_
  refine st_ctx 6 rfl ?_
  refine ld_k (par c) 7 (off20_eq c) ?_
  refine ld_v (par c) 7 (off20_eq c) ?_
  refine ld_old fun _ => ?_
  refine st_ctx 7 rfl ?_
  rw [← ctxN_eight i (par c) f] at h
  exact done h

theorem p17 (v3 v6 v23 v24 : BitVec 32) :
    Does' c (onBufs (k0_part17 (F := F)) c v3 v6 v23 v24)
      iprop(Cst (I c) c (cat (I c) (par c)) ∗ (∃ g, aP c (bandA (512 * (par c).val) 512) g) ∗ Gam I K ∗ ow c 17 ∗ wT c 7 NA)
      iprop(Cst (I c) c (cat (I c) (par c)) ∗ aP c (bandA (512 * (par c).val) 512) (lift (M I c)) ∗ Gam I K ∗ ow c 17 ∗ dn c 7 ∗ pP c (P (I (pr c)) (par c))) := by
  intro Q R h
  rw [k0_part17_eq_skeleton]; unfold k0_part17_skel
  refine ent_trans sep_assoc.1 ?_
  refine ld_ctx ?_
  refine ld_w ?_
  refine ent_trans (Q := iprop((∃ g, aP c (bandA (512 * (par c).val) 512) g) ∗ Cst (I c) c (cat (I c) (par c)) ∗ Gam I K ∗ ow c 17 ∗ wT c 7 NA ∗ R)) ?_ ?_
  · iintro ⟨A, ⟨B, C, D, E⟩, H⟩; iframe
  refine a_old (off21_eq c) fun _ => ?_
  refine a_st (off21_eq c) ?_
  refine ent_trans (Q := iprop(Gam I K ∗ ow c 17 ∗ wT c 7 NA ∗ aP c (bandA (512 * (par c).val) 512) (lift (P (I c) (par c))) ∗ Cst (I c) c (cat (I c) (par c)) ∗ R)) ?_ ?_
  · rw [show k0_pay43 (cat (I c) (par c)) (I c).wo = P (I c) (par c) from rfl]
    iintro ⟨A, B, C, D, E, H⟩; iframe
  refine wait_step 7 17 NA 2 (by decide) rfl rfl (expect_A I c 7 (by decide)) (by decide) (fun j h1 h2 => by (repeat' split) <;> omega) ?_
  rw [pay7]
  refine ent_trans (Q := iprop(aP c (bandA (512 * (par c).val) 512) (lift (P (I c) (par c))) ∗ pP c (P (I (pr c)) (par c)) ∗ Cst (I c) c (cat (I c) (par c)) ∗ Gam I K ∗ ow c 17 ∗ dn c 7 ∗ R)) ?_ ?_
  · iintro ⟨A, B, ⟨C, D⟩, E, G, H⟩; iframe
  refine a_ld (off21_eq c) ?_
  refine ent_trans sep_left_comm.1 ?_
  refine p_ld ?_
  refine ent_trans (Q := iprop((∃ g, aP c (bandA (512 * (par c).val) 512) g) ∗ pP c (P (I (pr c)) (par c)) ∗ Cst (I c) c (cat (I c) (par c)) ∗ Gam I K ∗ ow c 17 ∗ dn c 7 ∗ R)) ?_ ?_
  · iintro ⟨A, B, C⟩
    isplitl [B]; · iexists _; iexact B
    iframe
  refine a_old (off21_eq c) fun _ => ?_
  refine a_st (off21_eq c) ?_
  refine done (ent_trans ?_ (h _))
  unfold M
  iintro ⟨A, B, C, D, E, G, H⟩; iframe

end Parts

end Cert.KI

end
-- ==== Proof.Move1.lean ====
/-
The parts that only move data: the handshake, the reduce-scatter, the all-gather and its
forwarding, and the waits.
-/
module

public import proofs.«01_k».proof.Proof.Comp2

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Dev nD → Inp F) (K : GSem nD τ sig → ℕ)

/-! ## Who and where -/

theorem bar_devs (c : Dev nD) : [k0_dev1 c, k0_dev2 c, k0_dev3 c, k0_dev4 c, k0_dev5 c, k0_dev6 c, k0_dev7 c, k0_dev8 c, k0_dev9 c, k0_dev10 c, k0_dev11 c, k0_dev12 c, k0_dev13 c, k0_dev14 c, k0_dev15 c, k0_dev16 c] = [(pr c).val, (nb c 1).val, (nb c 2).val, (nb c 3).val, (nb c 4).val, (nb c 5).val, (nb c 6).val, (nb c 7).val, (nb c 8).val, (nb c 9).val, (nb c 10).val, (nb c 11).val, (nb c 12).val, (nb c 13).val, (nb c 14).val, (nb c 15).val] := by revert c; decide
theorem rs_devs (c : Dev nD) : [k0_dev18 c, k0_dev19 c, k0_dev20 c, k0_dev21 c, k0_dev22 c, k0_dev23 c, k0_dev24 c, k0_dev25 c, k0_dev26 c, k0_dev27 c, k0_dev28 c, k0_dev29 c, k0_dev30 c, k0_dev31 c, k0_dev32 c] = [(nb c 1).val, (nb c 2).val, (nb c 3).val, (nb c 4).val, (nb c 5).val, (nb c 6).val, (nb c 7).val, (nb c 8).val, (nb c 9).val, (nb c 10).val, (nb c 11).val, (nb c 12).val, (nb c 13).val, (nb c 14).val, (nb c 15).val] := by revert c; decide
theorem ag_devs (c : Dev nD) : [k0_dev33 c, k0_dev34 c, k0_dev35 c, k0_dev36 c, k0_dev37 c, k0_dev38 c, k0_dev39 c, k0_dev40 c, k0_dev41 c, k0_dev42 c, k0_dev43 c, k0_dev44 c, k0_dev45 c, k0_dev46 c, k0_dev47 c] = [(nb c 1).val, (nb c 2).val, (nb c 3).val, (nb c 4).val, (nb c 5).val, (nb c 6).val, (nb c 7).val, (nb c 8).val, (nb c 9).val, (nb c 10).val, (nb c 11).val, (nb c 12).val, (nb c 13).val, (nb c 14).val, (nb c 15).val] := by revert c; decide
theorem f_devs (c : Dev nD) : [k0_dev48 c, k0_dev49 c, k0_dev50 c, k0_dev51 c, k0_dev52 c, k0_dev53 c, k0_dev54 c, k0_dev55 c, k0_dev56 c, k0_dev57 c, k0_dev58 c, k0_dev59 c, k0_dev60 c, k0_dev61 c, k0_dev62 c, k0_dev63 c] = [(pr c).val, (pr c).val, (pr c).val, (pr c).val, (pr c).val, (pr c).val, (pr c).val, (pr c).val, (pr c).val, (pr c).val, (pr c).val, (pr c).val, (pr c).val, (pr c).val, (pr c).val, (pr c).val] := by revert c; decide

/-- One entry of two equal lists. -/
theorem nth {n : ℕ} {l l' : List ℕ} (h : l = l') (k : ℕ) {a b : Fin n} (ha : a.val = l.getD k 0) (hb : b.val = l'.getD k 0) : a = b := by
  subst h; exact Fin.ext (ha.trans hb.symm)

theorem off22_fin : ∀ c : Dev nD, ∀ k : Fin 15, k0_off22 c (BitVec.ofNat 32 (k.val + 1)) = ![512 * (par c).val + 32 * ch c k.val, 0] := by decide
theorem off22_eq (c : Dev nD) (k : ℕ) (h : k < 15) : k0_off22 c (BitVec.ofNat 32 (k + 1)) = ![512 * (par c).val + 32 * ch c k, 0] := off22_fin c ⟨k, h⟩
theorem off26_fin : ∀ c : Dev nD, ∀ k : Fin 16, k0_off26 c (BitVec.ofNat 32 k.val) = ![32 * fch c k.val, 0] := by decide
theorem off26_eq (c : Dev nD) (k : ℕ) (h : k < 16) : k0_off26 c (BitVec.ofNat 32 k) = ![32 * fch c k, 0] := off26_fin c ⟨k, h⟩
theorem off23_eq (c : Dev nD) : k0_off23 c = ![512 * (par c).val + 32 * grp c, 0] := by revert c; decide
theorem off24_eq (c : Dev nD) : k0_off24 c = ![32 * grp c, 0] := by revert c; decide
theorem off25_eq (c : Dev nD) : k0_off25 c = ![32 * grp c, 0] := by revert c; decide

section
variable {I K} {c : Dev nD} {i i' : ℕ} {A A' : sProp (MT nD τ sig Unit (Elt F) ℕ UU ℕ)}

/-- A part that takes the state `A` with `i` moves made to `A'` with `i'` made. -/
def DoesF (I : Dev nD → Inp F) (K : GSem nD τ sig → ℕ) (c : Dev nD) {β : Type} (p : Prog (TpuEff nD τ sig (Elt F) Λ₀ .tc) β) (i : ℕ)
    (A : sProp (MT nD τ sig Unit (Elt F) ℕ UU ℕ)) (i' : ℕ) (A' : sProp (MT nD τ sig Unit (Elt F) ℕ UU ℕ)) : Prop :=
  ∀ (Q : β → sProp (MT nD τ sig Unit (Elt F) ℕ UU ℕ)) (R : sProp (MT nD τ sig Unit (Elt F) ℕ UU ℕ)),
    (∀ r, iprop(Gam I K ∗ ow c i' ∗ A' ∗ R) ⊢ Q r) → iprop(Gam I K ∗ ow c i ∗ A ∗ R) ⊢ wpc c p Q
end

section
variable {I K} {α : Type} {c : Dev nD} {Q : α → sProp (MT nD τ sig Unit (Elt F) ℕ UU ℕ)} {R : sProp (MT nD τ sig Unit (Elt F) ℕ UU ℕ)}

/-- Waiting for a piece of the reduce-scatter. -/
theorem rsw_step (n : ℕ) (hn : n < 15) {sm : DmaSem sig} (hS : sm.val = 23 + n)
    {sp sp' : Space} {s s' : Shape} {e e' : EltTy} {src : Memref sig .tc sp s e} {dst : Memref sig .tc sp' s' e'}
    {hsrc : src.view.WordExact} {hdst : dst.view.WordExact} (hN : dst.view.dmaCredit = NB)
    {k : PUnit → Prog (TpuEff nD τ sig (Elt F) Λ₀ .tc) α}
    (h : iprop(Gam I K ∗ ow c 32 ∗ WF I c 23 15 (n + 1) ∗ R) ⊢ wpc c (k ⟨⟩) Q) :
    iprop(Gam I K ∗ ow c 32 ∗ WF I c 23 15 n ∗ R) ⊢ wpc c (Prog.lift (.waitDma2 sm src dst hsrc hdst) >>= k) Q := by
  have hl : lvS (.dma (dS (23 + n))) ≤ 3 := by
    show (if (dS (23 + n)).val = 7 then 2 else if 23 ≤ (dS (23 + n)).val ∧ (dS (23 + n)).val < 38 then 3
      else if 53 ≤ (dS (23 + n)).val ∧ (dS (23 + n)).val < 68 then 4 else if 84 ≤ (dS (23 + n)).val then 5 else 0) ≤ 3
    rw [dS_val (by omega)]
    (repeat' split) <;> omega
  exact wf_step 23 15 n 32 3 (by decide) (by decide) hn hS hN hl (fun j h1 h2 => by (repeat' split) <;> omega) h

theorem dev_step {k : Dev nD → Prog (TpuEff nD τ sig (Elt F) Λ₀ .tc) α} {S : sProp (MT nD τ sig Unit (Elt F) ℕ UU ℕ)}
    (h : S ⊢ wpc c (k c) Q) : S ⊢ wpc c (Prog.lift .deviceId >>= k) Q :=
  ent_trans h (Entails.of_eq (wp_deviceId _ _ _ _).symm)

/-- Waiting when nothing is owed any more. -/
theorem end_step (b m n : ℕ) (hb : 8 ≤ b) (hm : b + m ≤ 100) (hn : n < m) {sm : DmaSem sig} (hS : sm.val = b + n)
    {sp sp' : Space} {s s' : Shape} {e e' : EltTy} {src : Memref sig .tc sp s e} {dst : Memref sig .tc sp' s' e'}
    {hsrc : src.view.WordExact} {hdst : dst.view.WordExact} (hN : dst.view.dmaCredit = NB)
    {k : PUnit → Prog (TpuEff nD τ sig (Elt F) Λ₀ .tc) α}
    (h : iprop(Gam I K ∗ ow c 63 ∗ WF I c b m (n + 1) ∗ R) ⊢ wpc c (k ⟨⟩) Q) :
    iprop(Gam I K ∗ ow c 63 ∗ WF I c b m n ∗ R) ⊢ wpc c (Prog.lift (.waitDma2 sm src dst hsrc hdst) >>= k) Q :=
  wf_step b m n 63 _ hb hm hn hS hN le_rfl (fun j h1 h2 => absurd h1 (by omega)) h
end

section Parts
variable {I K} {c : Dev nD} {R : sProp (MT nD τ sig Unit (Elt F) ℕ UU ℕ)}

theorem p1 (Q : _ → sProp (MT nD τ sig Unit (Elt F) ℕ UU ℕ)) (R : sProp (MT nD τ sig Unit (Elt F) ℕ UU ℕ))
    (h : ∀ v3 v6 v23 v24 v26 v27 v34, iprop(Gam I K ∗ ow c 1 ∗ sgs c 1 ∗ R) ⊢ Q ⟨c, v3, v6, v23, v24, v26, v27, v34, 0#32⟩) :
    iprop(Gam I K ∗ ow c 0 ∗ sgs c 0 ∗ R) ⊢ wpc c (onBufs (k0_part1 (F := F))) Q := by
  rw [k0_part1_eq_skeleton]; unfold k0_part1_skel
  refine dev_step ?_
  refine sig_step 0 (by decide) (nth (bar_devs c) 0 rfl rfl) ?_
  exact done (h _ _ _ _ _ _ _)

theorem p2 (w0 w1 : BitVec 32) (s : Sems sig S_) (w2 w3 : BitVec 32) :
    DoesF I K c (onBufs (k0_part2 (F := F)) c w0 w1 s w2 w3) 1 (sgs c 1) 6 (sgs c 6) := by
  intro Q R h
  rw [k0_part2_eq_skeleton]; unfold k0_part2_skel
  refine sig_step 1 (by decide) (nth (bar_devs c) 1 rfl rfl) ?_
  refine sig_step 2 (by decide) (nth (bar_devs c) 2 rfl rfl) ?_
  refine sig_step 3 (by decide) (nth (bar_devs c) 3 rfl rfl) ?_
  refine sig_step 4 (by decide) (nth (bar_devs c) 4 rfl rfl) ?_
  refine sig_step 5 (by decide) (nth (bar_devs c) 5 rfl rfl) ?_
  exact done (h _)

theorem p3 (w0 w1 : BitVec 32) (s : Sems sig S_) (w2 : BitVec 32) :
    DoesF I K c (onBufs (k0_part3 (F := F)) c w0 w1 s w2) 6 (sgs c 6) 11 (sgs c 11) := by
  intro Q R h
  rw [k0_part3_eq_skeleton]; unfold k0_part3_skel
  refine sig_step 6 (by decide) (nth (bar_devs c) 6 rfl rfl) ?_
  refine sig_step 7 (by decide) (nth (bar_devs c) 7 rfl rfl) ?_
  refine sig_step 8 (by decide) (nth (bar_devs c) 8 rfl rfl) ?_
  refine sig_step 9 (by decide) (nth (bar_devs c) 9 rfl rfl) ?_
  refine sig_step 10 (by decide) (nth (bar_devs c) 10 rfl rfl) ?_
  exact done (h _)

theorem p4 (w0 w1 : BitVec 32) (s : Sems sig S_) (w2 : BitVec 32) :
    DoesF I K c (onBufs (k0_part4 (F := F)) c w0 w1 s w2) 11 (sgs c 11) 15 (sgs c 15) := by
  intro Q R h
  rw [k0_part4_eq_skeleton]; unfold k0_part4_skel
  refine sig_step 11 (by decide) (nth (bar_devs c) 11 rfl rfl) ?_
  refine sig_step 12 (by decide) (nth (bar_devs c) 12 rfl rfl) ?_
  refine sig_step 13 (by decide) (nth (bar_devs c) 13 rfl rfl) ?_
  refine sig_step 14 (by decide) (nth (bar_devs c) 14 rfl rfl) ?_
  exact done (h _)

theorem p5 (w0 : BitVec 32) (s : Sems sig S_) (w1 w2 : BitVec 32) (Q : _ → sProp (MT nD τ sig Unit (Elt F) ℕ UU ℕ)) (R : sProp (MT nD τ sig Unit (Elt F) ℕ UU ℕ))
    (h : iprop(Gam I K ∗ ow c 16 ∗ (atPos ER (barCell c) (0 + 1) ∅ 0 ∗ bigSep (Finset.range 16) (fun d => barPay c d)) ∗ R) ⊢ Q ⟨k0_pay1, iota .tc S512x512 32 [1] iota_S512x512_d1_w32, 64#32, k0_pay2, k0_pay3, Scalar.extui (Scalar.cmpi .sgt 64#32 0#32), 0#32⟩) :
    iprop(Gam I K ∗ ow c 15 ∗ (sgs c 15 ∗ cred (tallyAt (barCell c) () 16) ∗ atPos ER (barCell c) 0 ∅ 0) ∗ R) ⊢ wpc c (onBufs (k0_part5 (F := F)) c w0 s w1 w2) Q := by
  rw [k0_part5_eq_skeleton]; unfold k0_part5_skel
  refine ent_trans (Q := iprop(Gam I K ∗ ow c 15 ∗ sgs c 15 ∗ (cred (tallyAt (barCell c) () 16) ∗ atPos ER (barCell c) 0 ∅ 0) ∗ R)) ?_ ?_
  · iintro ⟨A, B, ⟨C, D⟩, E⟩; iframe
  refine sig_step 15 (by decide) (nth (bar_devs c) 15 rfl rfl) ?_
  refine ent_trans (Q := iprop(Gam I K ∗ ow c 16 ∗ (cred (tallyAt (barCell c) () 16) ∗ atPos ER (barCell c) 0 ∅ 0) ∗ R)) ?_ ?_
  · unfold sgs; rw [show (Finset.Ico (15 + 1) 16 : Finset ℕ) = ∅ from rfl, bigSep_empty]
    iintro ⟨A, B, C, D⟩; iframe
  refine barwait_step _ ?_
  exact done h

theorem p18 (w0 w1 w2 : BitVec 32) :
    DoesF I K c (onBufs (k0_part18 (F := F)) c w0 w1 w2) 17 (RS I c 0) 19 (RS I c 2) := by
  intro Q R h
  rw [k0_part18_eq_skeleton]; unfold k0_part18_skel
  refine rs_step 0 (by decide) (nth (rs_devs c) 0 rfl rfl) (off22_eq c 0 (by decide)) rfl rfl rfl ?_
  refine rs_step 1 (by decide) (nth (rs_devs c) 1 rfl rfl) (off22_eq c 1 (by decide)) rfl rfl rfl ?_
  exact done (h _)

theorem p19 (w0 w1 w2 : BitVec 32) :
    DoesF I K c (onBufs (k0_part19 (F := F)) c w0 w1 w2) 19 (RS I c 2) 22 (RS I c 5) := by
  intro Q R h
  rw [k0_part19_eq_skeleton]; unfold k0_part19_skel
  refine rs_step 2 (by decide) (nth (rs_devs c) 2 rfl rfl) (off22_eq c 2 (by decide)) rfl rfl rfl ?_
  refine rs_step 3 (by decide) (nth (rs_devs c) 3 rfl rfl) (off22_eq c 3 (by decide)) rfl rfl rfl ?_
  refine rs_step 4 (by decide) (nth (rs_devs c) 4 rfl rfl) (off22_eq c 4 (by decide)) rfl rfl rfl ?_
  exact done (h _)

theorem p20 (w0 w1 w2 : BitVec 32) :
    DoesF I K c (onBufs (k0_part20 (F := F)) c w0 w1 w2) 22 (RS I c 5) 24 (RS I c 7) := by
  intro Q R h
  rw [k0_part20_eq_skeleton]; unfold k0_part20_skel
  refine rs_step 5 (by decide) (nth (rs_devs c) 5 rfl rfl) (off22_eq c 5 (by decide)) rfl rfl rfl ?_
  refine rs_step 6 (by decide) (nth (rs_devs c) 6 rfl rfl) (off22_eq c 6 (by decide)) rfl rfl rfl ?_
  exact done (h _)

theorem p21 (w0 w1 w2 w3 : BitVec 32) :
    DoesF I K c (onBufs (k0_part21 (F := F)) c w0 w1 w2 w3) 24 (RS I c 7) 26 (RS I c 9) := by
  intro Q R h
  rw [k0_part21_eq_skeleton]; unfold k0_part21_skel
  refine rs_step 7 (by decide) (nth (rs_devs c) 7 rfl rfl) (off22_eq c 7 (by decide)) rfl rfl rfl ?_
  refine rs_step 8 (by decide) (nth (rs_devs c) 8 rfl rfl) (off22_eq c 8 (by decide)) rfl rfl rfl ?_
  exact done (h _)

theorem p22 (w0 w1 w2 w3 w4 : BitVec 32) :
    DoesF I K c (onBufs (k0_part22 (F := F)) c w0 w1 w2 w3 w4) 26 (RS I c 9) 28 (RS I c 11) := by
  intro Q R h
  rw [k0_part22_eq_skeleton]; unfold k0_part22_skel
  refine rs_step 9 (by decide) (nth (rs_devs c) 9 rfl rfl) (off22_eq c 9 (by decide)) rfl rfl rfl ?_
  refine rs_step 10 (by decide) (nth (rs_devs c) 10 rfl rfl) (off22_eq c 10 (by decide)) rfl rfl rfl ?_
  exact done (h _)

theorem p23 (w0 w1 w2 w3 : BitVec 32) :
    DoesF I K c (onBufs (k0_part23 (F := F)) c w0 w1 w2 w3) 28 (RS I c 11) 30 (RS I c 13) := by
  intro Q R h
  rw [k0_part23_eq_skeleton]; unfold k0_part23_skel
  refine rs_step 11 (by decide) (nth (rs_devs c) 11 rfl rfl) (off22_eq c 11 (by decide)) rfl rfl rfl ?_
  refine rs_step 12 (by decide) (nth (rs_devs c) 12 rfl rfl) (off22_eq c 12 (by decide)) rfl rfl rfl ?_
  exact done (h _)

theorem p24 (w0 w1 w2 w3 w4 w5 : BitVec 32) :
    DoesF I K c (onBufs (k0_part24 (F := F)) c w0 w1 w2 w3 w4 w5) 30 iprop(RS I c 13 ∗ WF I c 23 15 0) 32 iprop(RS I c 15 ∗ WF I c 23 15 1) := by
  intro Q R h
  rw [k0_part24_eq_skeleton]; unfold k0_part24_skel
  refine ent_trans (Q := iprop(Gam I K ∗ ow c (17 + 13) ∗ RS I c 13 ∗ WF I c 23 15 0 ∗ R)) ?_ ?_
  · iintro ⟨A, B, ⟨C, D⟩, E⟩; iframe
  refine rs_step 13 (by decide) (nth (rs_devs c) 13 rfl rfl) (off22_eq c 13 (by decide)) rfl rfl rfl ?_
  refine rs_step 14 (by decide) (nth (rs_devs c) 14 rfl rfl) (off22_eq c 14 (by decide)) rfl rfl rfl ?_
  refine ent_trans (Q := iprop(Gam I K ∗ ow c 32 ∗ WF I c 23 15 0 ∗ RS I c 15 ∗ R)) ?_ ?_
  · iintro ⟨A, B, C, D, E⟩; iframe
  refine rsw_step 0 (by decide) rfl (NB_rs _ _ _) ?_
  refine done (ent_trans ?_ (h _))
  iintro ⟨A, B, C, D, E⟩; iframe

theorem p25 (w0 w1 w2 w3 w4 : BitVec 32) :
    DoesF I K c (onBufs (k0_part25 (F := F)) c w0 w1 w2 w3 w4) 32 (WF I c 23 15 1) 32 (WF I c 23 15 5) := by
  intro Q R h
  rw [k0_part25_eq_skeleton]; unfold k0_part25_skel
  refine rsw_step 1 (by decide) rfl (NB_rs _ _ _) ?_
  refine rsw_step 2 (by decide) rfl (NB_rs _ _ _) ?_
  refine rsw_step 3 (by decide) rfl (NB_rs _ _ _) ?_
  refine rsw_step 4 (by decide) rfl (NB_rs _ _ _) ?_
  exact done (h _)

theorem p26 (w0 w1 w2 w3 : BitVec 32) :
    DoesF I K c (onBufs (k0_part26 (F := F)) c w0 w1 w2 w3) 32 (WF I c 23 15 5) 32 (WF I c 23 15 8) := by
  intro Q R h
  rw [k0_part26_eq_skeleton]; unfold k0_part26_skel
  refine rsw_step 5 (by decide) rfl (NB_rs _ _ _) ?_
  refine rsw_step 6 (by decide) rfl (NB_rs _ _ _) ?_
  refine rsw_step 7 (by decide) rfl (NB_rs _ _ _) ?_
  exact done (h _)

theorem p27 (w0 w1 w2 w3 : BitVec 32) :
    DoesF I K c (onBufs (k0_part27 (F := F)) c w0 w1 w2 w3) 32 (WF I c 23 15 8) 32 (WF I c 23 15 12) := by
  intro Q R h
  rw [k0_part27_eq_skeleton]; unfold k0_part27_skel
  refine rsw_step 8 (by decide) rfl (NB_rs _ _ _) ?_
  refine rsw_step 9 (by decide) rfl (NB_rs _ _ _) ?_
  refine rsw_step 10 (by decide) rfl (NB_rs _ _ _) ?_
  refine rsw_step 11 (by decide) rfl (NB_rs _ _ _) ?_
  exact done (h _)

theorem p31 (w0 w1 : BitVec 32) :
    DoesF I K c (onBufs (k0_part31 (F := F)) c w0 w1) 32 (AG I c 0) 35 (AG I c 3) := by
  intro Q R h
  rw [k0_part31_eq_skeleton]; unfold k0_part31_skel
  refine ag_step 0 (by decide) (nth (ag_devs c) 0 rfl rfl) (off25_eq c) (off25_eq c) rfl rfl ?_
  refine ag_step 1 (by decide) (nth (ag_devs c) 1 rfl rfl) (off25_eq c) (off25_eq c) rfl rfl ?_
  refine ag_step 2 (by decide) (nth (ag_devs c) 2 rfl rfl) (off25_eq c) (off25_eq c) rfl rfl ?_
  exact done (h _)

theorem p32 (w0 w1 w2 : BitVec 32) :
    DoesF I K c (onBufs (k0_part32 (F := F)) c w0 w1 w2) 35 (AG I c 3) 37 (AG I c 5) := by
  intro Q R h
  rw [k0_part32_eq_skeleton]; unfold k0_part32_skel
  refine ag_step 3 (by decide) (nth (ag_devs c) 3 rfl rfl) (off25_eq c) (off25_eq c) rfl rfl ?_
  refine ag_step 4 (by decide) (nth (ag_devs c) 4 rfl rfl) (off25_eq c) (off25_eq c) rfl rfl ?_
  exact done (h _)

theorem p33 (w0 w1 w2 : BitVec 32) :
    DoesF I K c (onBufs (k0_part33 (F := F)) c w0 w1 w2) 37 (AG I c 5) 39 (AG I c 7) := by
  intro Q R h
  rw [k0_part33_eq_skeleton]; unfold k0_part33_skel
  refine ag_step 5 (by decide) (nth (ag_devs c) 5 rfl rfl) (off25_eq c) (off25_eq c) rfl rfl ?_
  refine ag_step 6 (by decide) (nth (ag_devs c) 6 rfl rfl) (off25_eq c) (off25_eq c) rfl rfl ?_
  exact done (h _)

theorem p34 (w0 w1 : BitVec 32) :
    DoesF I K c (onBufs (k0_part34 (F := F)) c w0 w1) 39 (AG I c 7) 42 (AG I c 10) := by
  intro Q R h
  rw [k0_part34_eq_skeleton]; unfold k0_part34_skel
  refine ag_step 7 (by decide) (nth (ag_devs c) 7 rfl rfl) (off25_eq c) (off25_eq c) rfl rfl ?_
  refine ag_step 8 (by decide) (nth (ag_devs c) 8 rfl rfl) (off25_eq c) (off25_eq c) rfl rfl ?_
  refine ag_step 9 (by decide) (nth (ag_devs c) 9 rfl rfl) (off25_eq c) (off25_eq c) rfl rfl ?_
  exact done (h _)

theorem p35 (w0 w1 w2 : BitVec 32) :
    DoesF I K c (onBufs (k0_part35 (F := F)) c w0 w1 w2) 42 (AG I c 10) 44 (AG I c 12) := by
  intro Q R h
  rw [k0_part35_eq_skeleton]; unfold k0_part35_skel
  refine ag_step 10 (by decide) (nth (ag_devs c) 10 rfl rfl) (off25_eq c) (off25_eq c) rfl rfl ?_
  refine ag_step 11 (by decide) (nth (ag_devs c) 11 rfl rfl) (off25_eq c) (off25_eq c) rfl rfl ?_
  exact done (h _)

theorem p36 (w0 w1 w2 : BitVec 32) :
    DoesF I K c (onBufs (k0_part36 (F := F)) c w0 w1 w2) 44 (AG I c 12) 46 (AG I c 14) := by
  intro Q R h
  rw [k0_part36_eq_skeleton]; unfold k0_part36_skel
  refine ag_step 12 (by decide) (nth (ag_devs c) 12 rfl rfl) (off25_eq c) (off25_eq c) rfl rfl ?_
  refine ag_step 13 (by decide) (nth (ag_devs c) 13 rfl rfl) (off25_eq c) (off25_eq c) rfl rfl ?_
  exact done (h _)

theorem p37 (w0 : BitVec 32) :
    DoesF I K c (onBufs (k0_part37 (F := F)) c w0) 46 (AG I c 14) 47 (AG I c 15) := by
  intro Q R h
  rw [k0_part37_eq_skeleton]; unfold k0_part37_skel
  refine ag_step 14 (by decide) (nth (ag_devs c) 14 rfl rfl) (off25_eq c) (off25_eq c) rfl rfl ?_
  exact done (h _)

theorem p38 (w0 w1 : BitVec 32) (i : ℕ) (A : sProp (MT nD τ sig Unit (Elt F) ℕ UU ℕ)) :
    DoesF I K c (onBufs (k0_part38 (F := F)) w0 w1) i A i A := by
  intro Q R h
  rw [k0_part38_eq_skeleton]; unfold k0_part38_skel
  exact done (h _)

end Parts

end Cert.KI

end
-- ==== Proof.Move2.lean ====
/-
Whole buffers out of their pieces, and the loads and stores of the reduction and of the result.
-/
module

public import proofs.«01_k».proof.Proof.Move1

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Pieces -/

/-- The row blocks a device meets going round its group are the sixteen row blocks. -/
theorem fch_inj (c : Dev nD) {k k' : ℕ} (h : k < 16) (h' : k' < 16) (hne : k ≠ k') : fch c k ≠ fch c k' := by
  have := grp_lt c
  unfold fch; omega
theorem fch_union (c : Dev nD) : (Finset.range 16).biUnion (fun k => bandG (32 * fch c k) 32) = Finset.univ := by
  refine Finset.eq_univ_of_forall fun i => ?_
  have h0 : (i 0).val < 512 := (i 0).isLt
  have hg := grp_lt c
  rw [Finset.mem_biUnion]
  refine ⟨(grp c + 16 - (i 0).val / 32) % 16, Finset.mem_range.mpr (by omega), mem_band.mpr ?_⟩
  show 32 * fch c _ ≤ (i 0).val ∧ (i 0).val < _
  unfold fch
  constructor <;> omega
theorem fch_disj (c : Dev nD) : ∀ k ∈ Finset.range 16, ∀ k' ∈ Finset.range 16, k ≠ k' → Disjoint (bandG (32 * fch c k) 32) (bandG (32 * fch c k') 32) :=
  fun k hk k' hk' hne => band_disjoint (by have := fch_inj c (Finset.mem_range.mp hk) (Finset.mem_range.mp hk') hne; omega)

theorem ch_union (c : Dev nD) : bandA (512 * (par c).val + 32 * grp c) 32 ∪ (Finset.range 15).biUnion (fun k => bandA (512 * (par c).val + 32 * ch c k) 32)
    = bandA (512 * (par c).val) 512 := by
  have hg := grp_lt c
  ext i
  rw [Finset.mem_union, Finset.mem_biUnion, mem_band, mem_band]
  constructor
  · rintro (h | ⟨k, hk, h⟩)
    · omega
    · rw [mem_band] at h
      have hk := Finset.mem_range.mp hk
      unfold ch at h
      omega
  · intro h
    by_cases hh : ((i 0).val - 512 * (par c).val) / 32 = grp c
    · left
      revert h hh
      show _ ≤ (i 0).val ∧ (i 0).val < _ → _ → _ ≤ (i 0).val ∧ (i 0).val < _
      omega
    · right
      have h' : 512 * (par c).val ≤ (i 0).val ∧ (i 0).val < 512 * (par c).val + 512 := h
      refine ⟨(((i 0).val - 512 * (par c).val) / 32 + 15 - grp c) % 16, Finset.mem_range.mpr (by omega), mem_band.mpr ?_⟩
      show _ ≤ (i 0).val ∧ (i 0).val < _
      unfold ch
      omega
theorem ch_disj (c : Dev nD) : ∀ k ∈ Finset.range 15, ∀ k' ∈ Finset.range 15, k ≠ k' →
    Disjoint (bandA (512 * (par c).val + 32 * ch c k) 32) (bandA (512 * (par c).val + 32 * ch c k') 32) :=
  fun k hk k' hk' hne => band_disjoint (by
    have := Finset.mem_range.mp hk; have := Finset.mem_range.mp hk'; have := grp_lt c; unfold ch; omega)
theorem ch_own_disj (c : Dev nD) : Disjoint (bandA (512 * (par c).val + 32 * grp c) 32)
    ((Finset.range 15).biUnion fun k => bandA (512 * (par c).val + 32 * ch c k) 32) := by
  rw [Finset.disjoint_biUnion_right]
  exact fun k hk => band_disjoint (by have := Finset.mem_range.mp hk; have := grp_lt c; unfold ch; omega)

theorem slots_union : (Finset.range 15).biUnion (fun k => bandR k 1) = Finset.univ := by
  refine Finset.eq_univ_of_forall fun i => ?_
  have h0 : (i 0).val < 15 := (i 0).isLt
  rw [Finset.mem_biUnion]
  exact ⟨(i 0).val, Finset.mem_range.mpr h0, mem_band.mpr ⟨le_rfl, Nat.lt_succ_self _⟩⟩
theorem slots_disj : ∀ k ∈ Finset.range 15, ∀ k' ∈ Finset.range 15, k ≠ k' → Disjoint (bandR k 1) (bandR k' 1) :=
  fun k _ k' _ hne => band_disjoint (by omega)

section
variable {I : Dev nD → Inp F} {c : Dev nD}

theorem g_pieces (q : PosShare TreeShare) (f : (cc0_scratch4 : Ref sig .tc).ty.Contents (Elt F)) :
    (gP c Finset.univ q f : sProp 𝕄) = bigSep (Finset.range 16) fun k => gP c (bandG (32 * fch c k) 32) q f := by
  rw [← pointsTo_biUnion _ _ (fch_disj c), fch_union]
theorem o_pieces (d : Dev nD) (f : (cc0_scratch5 : Ref sig .tc).ty.Contents (Elt F)) :
    (oP d Finset.univ f : sProp 𝕄) = bigSep (Finset.range 16) fun k => oP d (bandG (32 * fch c k) 32) f := by
  rw [← pointsTo_biUnion _ _ (fch_disj c), fch_union]
theorem r_pieces (f : (cc0_scratch3 : Ref sig .tc).ty.Contents (Elt F)) :
    (rP c Finset.univ f : sProp 𝕄) = bigSep (Finset.range 15) fun k => rP c (bandR k 1) f := by
  rw [← pointsTo_biUnion _ _ slots_disj, slots_union]
theorem a_pieces (f : (cc0_scratch0 : Ref sig .tc).ty.Contents (Elt F)) :
    (aP c (bandA (512 * (par c).val) 512) f : sProp 𝕄) ⊣⊢ iprop(aP c (bandA (512 * (par c).val + 32 * grp c) 32) f
      ∗ bigSep (Finset.range 15) fun k => aP c (bandA (512 * (par c).val + 32 * ch c k) 32) f) := by
  rw [← pointsTo_biUnion _ _ (ch_disj c), ← ch_union]
  exact pointsTo_union (ch_own_disj c)

theorem WF_end (b m : ℕ) : (WF I c b m m : sProp 𝕄) ⊣⊢ iprop((bigSep (Finset.range m) fun k => dn c (b + k)) ∗ bigSep (Finset.range m) fun k => dmaPay I c (b + k)) := by
  unfold WF
  rw [show (Finset.Ico m m : Finset ℕ) = ∅ from Finset.Ico_self m, bigSep_empty, bigSep_sep']
  exact emp_sep

/-- The reduce-scatter's slots, all received. -/
theorem rs_all : (WF I c 23 15 15 : sProp 𝕄) ⊢ iprop((bigSep (Finset.range 15) fun k => dn c (23 + k)) ∗ rP c Finset.univ (rsAll I c)) := by
  refine ent_trans (WF_end 23 15).1 ?_
  rw [r_pieces, bigSep_congr (fun k hk => payRsR I c k (Finset.mem_range.mp hk))]
theorem f_all : (WF I c 84 16 16 : sProp 𝕄) ⊢ iprop((bigSep (Finset.range 16) fun k => dn c (84 + k)) ∗ oP c Finset.univ (ghAll I (pr c))) := by
  refine ent_trans (WF_end 84 16).1 ?_
  rw [o_pieces (c := c), bigSep_congr (fun k hk => payFR I c k (Finset.mem_range.mp hk))]

/-- The shares kept of the blocks that are being forwarded, less the common one. -/
def kps (I : Dev nD → Inp F) (c : Dev nD) : sProp 𝕄 :=
  bigSep (Finset.range 16) fun k => iprop(if k = 0 then emp else bigSep (Finset.range 15) fun i => gP c (bandG (32 * fch c k) 32) (shareTokN fullShare i) (ghAll I c))
/-- Everything gathered and on its way to the partner. -/
def AE (I : Dev nD → Inp F) (c : Dev nD) : sProp 𝕄 :=
  iprop((bigSep (Finset.range 15) fun k => dn c (53 + k)) ∗ (bigSep (Finset.range 16) fun k => cred (tallyAt (dCell c (68 + k)) () NB)) ∗ kps I c)
theorem ag_all : (AF I c 15 16 : sProp 𝕄) ⊢ iprop(gP c Finset.univ (shareDrop fullShare 16) (ghAll I c) ∗ AE I c) := by
  unfold AF AE kps kp
  rw [g_pieces, bigSep_sep', bigSep_sep']
  iintro ⟨-, A, -, ⟨B, C, D⟩, -⟩
  iframe
end

/-! ## Loads and stores of the reduction and the result -/

section Acc
variable {I : Dev nD → Inp F}
variable {α : Type} {c : Dev nD} {Q : α → sProp (MT nD τ sig Unit (Elt F) ℕ UU ℕ)} {R : sProp (MT nD τ sig Unit (Elt F) ℕ UU ℕ)}

theorem own_ld {o : Fin 2 → ℕ} (ho : o = ![512 * (par c).val + 32 * grp c, 0]) {inb : ∀ a, o a + S32x768.size a ≤ S1024x768.size a}
    {hl : (aM : Memref sig .tc .vmem S1024x768 .bf16).view.LoadsAt (Rect.unit (s := S1024x768) o S32x768.size inb).toLoadRect}
    {k : Vec F S32x768 .bf16 → Prog (TpuEff nD τ sig (Elt F) Λ₀ .tc) α}
    (h : iprop(aP c (bandA (512 * (par c).val + 32 * grp c) 32) (lift (M I c)) ∗ R) ⊢ wpc c (k (Mrow I c (grp c))) Q) :
    iprop(aP c (bandA (512 * (par c).val + 32 * grp c) 32) (lift (M I c)) ∗ R)
      ⊢ wpc c (Prog.lift (.load (aM : Memref sig .tc .vmem S1024x768 .bf16) (Rect.unit (s := S1024x768) o S32x768.size inb).toLoadRect hl) >>= k) Q := by
  have hS : (aM : Memref sig .tc .vmem S1024x768 .bf16).view.setOn (Rect.unit (s := S1024x768) o S32x768.size inb).toLoadRect.set ⊆ bandA (512 * (par c).val + 32 * grp c) 32 := by
    have e : ((aM : Memref sig .tc .vmem S1024x768 .bf16).access (Rect.unit (s := S1024x768) o S32x768.size inb)).set = bandA (512 * (par c).val + 32 * grp c) 32 := by
      show ((View.whole cc0_scratch0).slice _).set = _
      rw [View.set_slice_whole, rect_rowsA _ 32 _ _ (by decide) ho]
    rw [View.set_slice] at e
    exact e.le
  refine ld_step (m := aM) (S := bandA (512 * (par c).val + 32 * grp c) 32) (q := fullShare) (f := lift (M I c)) hS ?_ h
  subst ho
  funext j
  have hj : (j 0).val < 32 := (j 0).isLt
  have hg := grp_lt c
  refine (lift_at (M I c) _ (par c) (32 * grp c + (j 0).val) (by omega) ?_).trans ?_
  · show 512 * (par c).val + 32 * grp c + 1 * (j 0).val = _
    omega
  · unfold Mrow
    refine congrArg (M I c) (congrArg₂ ix2 (Fin.ext ?_) (Fin.ext ?_))
    · show 32 * grp c + (j 0).val = (32 * grp c + (j 0).val) % 512
      omega
    · show 0 + 1 * (j 1).val = (j 1).val
      omega

theorem slot_ld (k : ℕ) {o : Fin 3 → ℕ} (ho : o = ![k, 0, 0]) {inb : ∀ a, o a + S1x32x768.size a ≤ S15x32x768.size a}
    {hl : (rM : Memref sig .tc .vmem S15x32x768 .bf16).view.LoadsAt (Rect.unit (s := S15x32x768) o S1x32x768.size inb).toLoadRect}
    {kk : Vec F S1x32x768 .bf16 → Prog (TpuEff nD τ sig (Elt F) Λ₀ .tc) α}
    (h : iprop(rP c Finset.univ (rsAll I c) ∗ R) ⊢ wpc c (kk (slotV I c k)) Q) :
    iprop(rP c Finset.univ (rsAll I c) ∗ R)
      ⊢ wpc c (Prog.lift (.load (rM : Memref sig .tc .vmem S15x32x768 .bf16) (Rect.unit (s := S15x32x768) o S1x32x768.size inb).toLoadRect hl) >>= kk) Q := by
  refine ld_step (m := rM) (S := Finset.univ) (q := fullShare) (f := rsAll I c) (Finset.subset_univ _) ?_ h
  subst ho
  funext j
  have hj : (j 0).val < 1 := (j 0).isLt
  show Mrow I (nb c (15 - (k + 1 * (j 0).val))) (grp c) (ix2 _ _) = Mrow I (nb c (15 - k)) (grp c) (ix2 _ _)
  rw [show k + 1 * (j 0).val = k by omega]
  congr 1
  exact congrArg₂ ix2 (Fin.ext (by show 0 + 1 * (j 1).val = (j 1).val; omega)) (Fin.ext (by show 0 + 1 * (j 2).val = (j 2).val; omega))

theorem gown_set {o : Fin 2 → ℕ} (ho : o = ![32 * grp c, 0]) (inb : ∀ a, o a + S32x768.size a ≤ S512x768.size a) :
    ((gM : Memref sig .tc .vmem S512x768 .bf16).access (Rect.unit (s := S512x768) o S32x768.size inb)).set = bandG (32 * grp c) 32 := by
  show ((View.whole cc0_scratch4).slice _).set = _
  rw [View.set_slice_whole, rect_rowsG _ 32 _ _ (by decide) ho]

theorem gown_old {o : Fin 2 → ℕ} (ho : o = ![32 * grp c, 0]) {inb : ∀ a, o a + S32x768.size a ≤ S512x768.size a}
    {hl : (gM : Memref sig .tc .vmem S512x768 .bf16).view.LoadsAt (Rect.unit (s := S512x768) o S32x768.size inb).toLoadRect}
    {k : Vec F S32x768 .bf16 → Prog (TpuEff nD τ sig (Elt F) Λ₀ .tc) α}
    (h : ∀ v, iprop((∃ g, gP c (bandG (32 * grp c) 32) fullShare g) ∗ R) ⊢ wpc c (k v) Q) :
    iprop((∃ g, gP c (bandG (32 * grp c) 32) fullShare g) ∗ R)
      ⊢ wpc c (Prog.lift (.load (gM : Memref sig .tc .vmem S512x768 .bf16) (Rect.unit (s := S512x768) o S32x768.size inb).toLoadRect hl) >>= k) Q := by
  have hS : (gM : Memref sig .tc .vmem S512x768 .bf16).view.setOn (Rect.unit (s := S512x768) o S32x768.size inb).toLoadRect.set ⊆ bandG (32 * grp c) 32 := by
    have := gown_set ho inb
    rw [View.set_slice] at this
    exact this.le
  iintro ⟨⟨%g, H⟩, HR⟩
  iapply (ld_step (m := gM) (S := bandG (32 * grp c) 32) (q := fullShare) (f := g) (R := R) hS rfl (ent_trans ?_ (h _)))
  · iintro ⟨H, HR⟩
    isplitl [H]; · iexists g; iexact H
    iexact HR
  isplitl [H]; · iexact H
  iexact HR

theorem gown_st {o : Fin 2 → ℕ} (ho : o = ![32 * grp c, 0]) {inb : ∀ a, o a + S32x768.size a ≤ S512x768.size a} {w : Vec F S32x768 .bf16} (hw : w = T I c)
    {hx : ((gM : Memref sig .tc .vmem S512x768 .bf16).access (Rect.unit (s := S512x768) o S32x768.size inb)).Stores Finset.univ}
    {hm : (Finset.univ : Finset (Rect.unit (s := S512x768) o S32x768.size inb).shape.Idx) = Finset.univ ∨ ∀ a, (Rect.unit (s := S512x768) o S32x768.size inb).stride a = 1}
    {k : PUnit → Prog (TpuEff nD τ sig (Elt F) Λ₀ .tc) α}
    (h : iprop(gP c (bandG (32 * grp c) 32) fullShare (ghAll I c) ∗ R) ⊢ wpc c (k ⟨⟩) Q) :
    iprop((∃ g, gP c (bandG (32 * grp c) 32) fullShare g) ∗ R)
      ⊢ wpc c (Prog.lift (.store (gM : Memref sig .tc .vmem S512x768 .bf16) (Rect.unit (s := S512x768) o S32x768.size inb) w Finset.univ hx hm) >>= k) Q := by
  subst hw
  have hS : ((gM : Memref sig .tc .vmem S512x768 .bf16).access (Rect.unit (s := S512x768) o S32x768.size inb)).setOn Finset.univ ⊆ bandG (32 * grp c) 32 := by
    rw [View.setOn_univ, gown_set ho inb]
  have hv (g : (cc0_scratch4 : Ref sig .tc).ty.Contents (Elt F)) (i : S512x768.Idx) (hi : i ∈ bandG (32 * grp c) 32) :
      ((gM : Memref sig .tc .vmem S512x768 .bf16).access (Rect.unit (s := S512x768) o S32x768.size inb)).write (Elt F) g (T I c) Finset.univ i = ghAll I c i := by
    rw [← gown_set ho inb] at hi
    obtain ⟨j, -, rfl⟩ := Finset.mem_map.mp hi
    refine (View.write_emb_of_mem _ _ (Finset.mem_univ j)).trans ?_
    subst ho
    have hj : (j 0).val < 32 := (j 0).isLt
    show _ = T I (mate c ((32 * grp c + 1 * (j 0).val) / 32)) (ix2 ⟨(32 * grp c + 1 * (j 0).val) % 32, _⟩ _)
    rw [show (32 * grp c + 1 * (j 0).val) / 32 = grp c by omega, mate_grp]
    refine congrArg (T I c) ?_
    funext a
    match a with
    | 0 => exact Fin.ext (by show (j 0).val = (32 * grp c + 1 * (j 0).val) % 32; omega)
    | 1 => exact Fin.ext (by show (j 1).val = 0 + 1 * (j 1).val; omega)
  iintro ⟨⟨%g, H⟩, HR⟩
  iapply (st_step (m := gM) (r := Rect.unit (s := S512x768) o S32x768.size inb) (w := T I c) (S := bandG (32 * grp c) 32) (f := g) (f' := ghAll I c) (R := R) hS
    (fun i hi => hv g i hi) h)
  isplitl [H]; · iexact H
  iexact HR

theorem g_ld {q : PosShare TreeShare} {v : Vec F S512x768 .bf16} {inb : ∀ a, (![0, 0] : Fin 2 → ℕ) a + S512x768.size a ≤ S512x768.size a}
    {hl : (gM : Memref sig .tc .vmem S512x768 .bf16).view.LoadsAt (Rect.unit (s := S512x768) ![0, 0] S512x768.size inb).toLoadRect}
    {k : Vec F S512x768 .bf16 → Prog (TpuEff nD τ sig (Elt F) Λ₀ .tc) α}
    (h : iprop(gP c Finset.univ q v ∗ R) ⊢ wpc c (k v) Q) :
    iprop(gP c Finset.univ q v ∗ R) ⊢ wpc c (Prog.lift (.load (gM : Memref sig .tc .vmem S512x768 .bf16) (Rect.unit (s := S512x768) ![0, 0] S512x768.size inb).toLoadRect hl) >>= k) Q :=
  ld_step (m := gM) (S := Finset.univ) (q := q) (f := v) (Finset.subset_univ _) (Memref.readAt_unit_zero (Elt F) cc0_scratch4 (by decide) _ v) h
theorem o_ld {v : Vec F S512x768 .bf16} {inb : ∀ a, (![0, 0] : Fin 2 → ℕ) a + S512x768.size a ≤ S512x768.size a}
    {hl : (oM : Memref sig .tc .vmem S512x768 .bf16).view.LoadsAt (Rect.unit (s := S512x768) ![0, 0] S512x768.size inb).toLoadRect}
    {k : Vec F S512x768 .bf16 → Prog (TpuEff nD τ sig (Elt F) Λ₀ .tc) α}
    (h : iprop(oP c Finset.univ v ∗ R) ⊢ wpc c (k v) Q) :
    iprop(oP c Finset.univ v ∗ R) ⊢ wpc c (Prog.lift (.load (oM : Memref sig .tc .vmem S512x768 .bf16) (Rect.unit (s := S512x768) ![0, 0] S512x768.size inb).toLoadRect hl) >>= k) Q :=
  ld_step (m := oM) (S := Finset.univ) (q := fullShare) (f := v) (Finset.subset_univ _) (Memref.readAt_unit_zero (Elt F) cc0_scratch5 (by decide) _ v) h

/-! ## The result -/

abbrev uM : Memref sig .tc .vmem S1024x768 .f32 := Memref.whole cc0_stg5_0
abbrev uP (c : Dev nD) (f : (cc0_stg5_0 : Ref sig .tc).ty.Contents (Elt F)) : sProp 𝕄 := uM.view.loc (c : Thread nD τ) ↦{fullShare} f
/-- The result buffer with the batch of parity `b` in place and `f` elsewhere. -/
def putH (b : Fin 2) (w : Vec F S512x768 .f32) (f : (cc0_stg5_0 : Ref sig .tc).ty.Contents (Elt F)) : (cc0_stg5_0 : Ref sig .tc).ty.Contents (Elt F) :=
  fun i => if (i 0).val / 512 = b.val then w (ix2 ⟨(i 0).val % 512, Nat.mod_lt _ (by decide)⟩ (i 1)) else f i

theorem outAll_eq (f : (cc0_stg5_0 : Ref sig .tc).ty.Contents (Elt F)) :
    putH (1 - par c) (k0_pay50 (ghAll I (pr c))) (putH (par c) (k0_pay49 (ghAll I c)) f) = outAll I c := by
  funext i
  unfold putH outAll
  have h0 : (i 0).val < 1024 := (i 0).isLt
  have hp := (par c).isLt
  have h1 : (1 - par c : Fin 2).val = 1 - (par c).val := by generalize par c = b; revert b; decide
  by_cases h : (i 0).val / 512 = (par c).val
  · rw [if_neg (by omega), if_pos h, if_pos h]
  · rw [if_pos (by omega), if_neg h]

theorem u_old {r : Rect S1024x768} {f : (cc0_stg5_0 : Ref sig .tc).ty.Contents (Elt F)} {hl : (uM : Memref sig .tc .vmem S1024x768 .f32).view.LoadsAt r.toLoadRect}
    {k : (r.toLoadRect.shape.Idx → Elt F .f32) → Prog (TpuEff nD τ sig (Elt F) Λ₀ .tc) α}
    (h : ∀ v, iprop(uP c f ∗ R) ⊢ wpc c (k v) Q) :
    iprop(uP c f ∗ R) ⊢ wpc c (Prog.lift (.load (uM : Memref sig .tc .vmem S1024x768 .f32) r.toLoadRect hl) >>= k) Q :=
  ld_step (m := uM) (S := Finset.univ) (q := fullShare) (f := f) (Finset.subset_univ _) rfl (h _)

theorem u_st (b : Fin 2) {o : Fin 2 → ℕ} (ho : o = ![512 * b.val, 0]) {inb : ∀ a, o a + S512x768.size a ≤ S1024x768.size a} {w : Vec F S512x768 .f32}
    {f : (cc0_stg5_0 : Ref sig .tc).ty.Contents (Elt F)}
    {hx : ((uM : Memref sig .tc .vmem S1024x768 .f32).access (Rect.unit (s := S1024x768) o S512x768.size inb)).Stores Finset.univ}
    {hm : (Finset.univ : Finset (Rect.unit (s := S1024x768) o S512x768.size inb).shape.Idx) = Finset.univ ∨ ∀ a, (Rect.unit (s := S1024x768) o S512x768.size inb).stride a = 1}
    {k : PUnit → Prog (TpuEff nD τ sig (Elt F) Λ₀ .tc) α}
    (h : iprop(uP c (putH b w f) ∗ R) ⊢ wpc c (k ⟨⟩) Q) :
    iprop(uP c f ∗ R) ⊢ wpc c (Prog.lift (.store (uM : Memref sig .tc .vmem S1024x768 .f32) (Rect.unit (s := S1024x768) o S512x768.size inb) w Finset.univ hx hm) >>= k) Q := by
  refine st_step (m := uM) (r := Rect.unit (s := S1024x768) o S512x768.size inb) (w := w) (S := Finset.univ) (f := f) (f' := putH b w f) (Finset.subset_univ _) ?_ h
  intro i _
  have es : ((uM : Memref sig .tc .vmem S1024x768 .f32).access (Rect.unit (s := S1024x768) o S512x768.size inb)).set = bandA (512 * b.val) 512 := by
    show ((View.whole cc0_stg5_0).slice _).set = _
    rw [View.set_slice_whole, rect_rowsA _ 512 _ _ (by decide) ho]
  have h0 : (i 0).val < 1024 := (i 0).isLt
  by_cases hi : i ∈ bandA (512 * b.val) 512
  · have hb : 512 * b.val ≤ (i 0).val ∧ (i 0).val < 512 * b.val + 512 := mem_band.mp hi
    rw [← es] at hi
    obtain ⟨j, -, rfl⟩ := Finset.mem_map.mp hi
    refine (View.write_emb_of_mem _ _ (Finset.mem_univ j)).trans ?_
    subst ho
    have hj : (j 0).val < 512 := (j 0).isLt
    unfold putH
    rw [if_pos (by show (512 * b.val + 1 * (j 0).val) / 512 = b.val; omega)]
    refine congrArg w ?_
    funext a
    match a with
    | 0 => exact Fin.ext (by show (j 0).val = (512 * b.val + 1 * (j 0).val) % 512; omega)
    | 1 => exact Fin.ext (by show (j 1).val = 0 + 1 * (j 1).val; omega)
  · have hb : ¬ (512 * b.val ≤ (i 0).val ∧ (i 0).val < 512 * b.val + 512) := fun h => hi (mem_band.mpr h)
    unfold putH
    rw [if_neg (by omega)]
    rw [← es] at hi
    rw [← View.setOn_univ] at hi
    exact View.write_of_not_mem _ _ _ hi

end Acc

end Cert.KI

end
-- ==== Proof.Move3.lean ====
/-
The parts of the reduction, of the forwarding, of the result, and the last waits.
-/
module

public import proofs.«01_k».proof.Proof.Move2

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable {I : Dev nD → Inp F} {K : GSem nD τ sig → ℕ}

theorem NB_a (o : Fin 2 → ℕ) (inb : ∀ a, o a + S32x768.size a ≤ S1024x768.size a) (hu : ∀ a, (Rect.unit (s := S1024x768) o S32x768.size inb).stride a = 1) :
    (aM.slice (Rect.unit (s := S1024x768) o S32x768.size inb) hu).view.dmaCredit = NB := rfl
theorem credit_a (s : Shape) (e : EltTy) : Cert.KernelIdeal.sig.dmaCredit .tc (Kind.tc.table .vmem) aM.view.buf s e
    = Cert.KernelIdeal.sig.dmaCredit .tc (Kind.tc.table .vmem) pM.view.buf s e := rfl
theorem NA_a (o : Fin 2 → ℕ) (inb : ∀ a, o a + S512x768.size a ≤ S1024x768.size a) (hu : ∀ a, (Rect.unit (s := S1024x768) o S512x768.size inb).stride a = 1) :
    (aM.slice (Rect.unit (s := S1024x768) o S512x768.size inb) hu).view.dmaCredit = NA := credit_a S512x768 .bf16

/-- Whatever the result buffer holds. -/
theorem u_ex {c : Dev nD} {R S : sProp (MT nD τ sig Unit (Elt F) ℕ UU ℕ)} {u : ((cc0_stg5_0 : Ref sig .tc).ty.Contents (Elt F)) → (cc0_stg5_0 : Ref sig .tc).ty.Contents (Elt F)}
    (h : ∀ f, iprop(uP c (u f) ∗ R) ⊢ S) : iprop((∃ f, uP c (u f)) ∗ R) ⊢ S := by
  iintro ⟨⟨%f, H⟩, HR⟩
  iapply (h f)
  isplitl [H]; · iexact H
  iexact HR

section Parts
variable {c : Dev nD}

theorem p28 (w0 w1 w2 : BitVec 32) (Q : _ → sProp (MT nD τ sig Unit (Elt F) ℕ UU ℕ)) (R : sProp (MT nD τ sig Unit (Elt F) ℕ UU ℕ))
    (h : iprop(rP c Finset.univ (rsAll I c) ∗ Gam I K ∗ ow c 32 ∗ (bigSep (Finset.range 15) fun k => dn c (23 + k)) ∗ aP c (bandA (512 * (par c).val + 32 * grp c) 32) (lift (M I c)) ∗ R)
      ⊢ Q (k0_pay45 (Mrow I c (grp c)) (slotV I c 0) (slotV I c 1))) :
    iprop(Gam I K ∗ ow c 32 ∗ WF I c 23 15 12 ∗ aP c (bandA (512 * (par c).val + 32 * grp c) 32) (lift (M I c)) ∗ R) ⊢ wpc c (onBufs (k0_part28 (F := F)) c w0 w1 w2) Q := by
  rw [k0_part28_eq_skeleton]; unfold k0_part28_skel
  refine rsw_step 12 (by decide) rfl (NB_rs _ _ _) ?_
  refine rsw_step 13 (by decide) rfl (NB_rs _ _ _) ?_
  refine rsw_step 14 (by decide) rfl (NB_rs _ _ _) ?_
  refine ent_trans (Q := iprop(aP c (bandA (512 * (par c).val + 32 * grp c) 32) (lift (M I c)) ∗ Gam I K ∗ ow c 32 ∗ (bigSep (Finset.range 15) fun k => dn c (23 + k)) ∗ rP c Finset.univ (rsAll I c) ∗ R)) ?_ ?_
  · iintro ⟨A, B, C, D, E⟩
    ihave C := rs_all $$ C
    icases C with ⟨C, C'⟩
    iframe
  refine own_ld (off23_eq c) ?_
  refine ent_trans (Q := iprop(rP c Finset.univ (rsAll I c) ∗ Gam I K ∗ ow c 32 ∗ (bigSep (Finset.range 15) fun k => dn c (23 + k)) ∗ aP c (bandA (512 * (par c).val + 32 * grp c) 32) (lift (M I c)) ∗ R)) ?_ ?_
  · iintro ⟨A, B, C, D, E, H⟩; iframe
  refine slot_ld 0 rfl ?_
  refine slot_ld 1 rfl ?_
  exact done h

theorem p29 (Q : _ → sProp (MT nD τ sig Unit (Elt F) ℕ UU ℕ)) (R : sProp (MT nD τ sig Unit (Elt F) ℕ UU ℕ)) (v : FVec F S32x768 .f32)
    (h : iprop(rP c Finset.univ (rsAll I c) ∗ R) ⊢ Q ⟨k0_pay46 v (slotV I c 2) (slotV I c 3) (slotV I c 4) (slotV I c 5) (slotV I c 6)
      (slotV I c 7) (slotV I c 8) (slotV I c 9), k0_pay47 (slotV I c 10)⟩) :
    iprop(rP c Finset.univ (rsAll I c) ∗ R) ⊢ wpc c (onBufs (k0_part29 (F := F)) v) Q := by
  rw [k0_part29_eq_skeleton]; unfold k0_part29_skel
  refine slot_ld 2 rfl ?_
  refine slot_ld 3 rfl ?_
  refine slot_ld 4 rfl ?_
  refine slot_ld 5 rfl ?_
  refine slot_ld 6 rfl ?_
  refine slot_ld 7 rfl ?_
  refine slot_ld 8 rfl ?_
  refine slot_ld 9 rfl ?_
  refine slot_ld 10 rfl ?_
  exact done h

theorem p30 (w0 w1 : BitVec 32) (Q : _ → sProp (MT nD τ sig Unit (Elt F) ℕ UU ℕ)) (R : sProp (MT nD τ sig Unit (Elt F) ℕ UU ℕ)) (v v' : FVec F S32x768 .f32)
    (hw : k0_pay48 v v' (slotV I c 11) (slotV I c 12) (slotV I c 13) (slotV I c 14) = T I c)
    (h : ∀ r, iprop(gP c (bandG (32 * grp c) 32) fullShare (ghAll I c) ∗ rP c Finset.univ (rsAll I c) ∗ R) ⊢ Q r) :
    iprop(rP c Finset.univ (rsAll I c) ∗ (∃ g, gP c (bandG (32 * grp c) 32) fullShare g) ∗ R) ⊢ wpc c (onBufs (k0_part30 (F := F)) c w0 w1 v v') Q := by
  rw [k0_part30_eq_skeleton]; unfold k0_part30_skel
  refine slot_ld 11 rfl ?_
  refine slot_ld 12 rfl ?_
  refine slot_ld 13 rfl ?_
  refine slot_ld 14 rfl ?_
  refine ent_trans sep_left_comm.1 ?_
  refine gown_old (off24_eq c) fun _ => ?_
  refine gown_st (off24_eq c) hw ?_
  exact done (h _)

theorem p39 (w0 w1 w2 : BitVec 32) :
    DoesF I K c (onBufs (k0_part39 (F := F)) c w0 w1 w2) 47 (AF I c 0 0) 49 (AF I c 1 2) := by
  intro Q R h
  rw [k0_part39_eq_skeleton]; unfold k0_part39_skel
  refine f_step 0 0 (by decide) le_rfl (nth (f_devs c) 0 rfl rfl) (off26_eq c 0 (by decide)) (off26_eq c 0 (by decide)) rfl rfl ?_
  refine agw_step 0 1 (by decide) (by decide) rfl (NB_g _ _ _) ?_
  refine f_step 1 1 (by decide) le_rfl (nth (f_devs c) 1 rfl rfl) (off26_eq c 1 (by decide)) (off26_eq c 1 (by decide)) rfl rfl ?_
  exact done (h _)

theorem p40 (w0 w1 w2 w3 : BitVec 32) :
    DoesF I K c (onBufs (k0_part40 (F := F)) c w0 w1 w2 w3) 49 (AF I c 1 2) 51 (AF I c 3 4) := by
  intro Q R h
  rw [k0_part40_eq_skeleton]; unfold k0_part40_skel
  refine agw_step 1 2 (by decide) (by decide) rfl (NB_g _ _ _) ?_
  refine f_step 2 2 (by decide) le_rfl (nth (f_devs c) 2 rfl rfl) (off26_eq c 2 (by decide)) (off26_eq c 2 (by decide)) rfl rfl ?_
  refine agw_step 2 3 (by decide) (by decide) rfl (NB_g _ _ _) ?_
  refine f_step 3 3 (by decide) le_rfl (nth (f_devs c) 3 rfl rfl) (off26_eq c 3 (by decide)) (off26_eq c 3 (by decide)) rfl rfl ?_
  exact done (h _)

theorem p41 (w0 w1 w2 w3 w4 : BitVec 32) :
    DoesF I K c (onBufs (k0_part41 (F := F)) c w0 w1 w2 w3 w4) 51 (AF I c 3 4) 53 (AF I c 5 6) := by
  intro Q R h
  rw [k0_part41_eq_skeleton]; unfold k0_part41_skel
  refine agw_step 3 4 (by decide) (by decide) rfl (NB_g _ _ _) ?_
  refine f_step 4 4 (by decide) le_rfl (nth (f_devs c) 4 rfl rfl) (off26_eq c 4 (by decide)) (off26_eq c 4 (by decide)) rfl rfl ?_
  refine agw_step 4 5 (by decide) (by decide) rfl (NB_g _ _ _) ?_
  refine f_step 5 5 (by decide) le_rfl (nth (f_devs c) 5 rfl rfl) (off26_eq c 5 (by decide)) (off26_eq c 5 (by decide)) rfl rfl ?_
  exact done (h _)

theorem p42 (w0 w1 w2 : BitVec 32) :
    DoesF I K c (onBufs (k0_part42 (F := F)) c w0 w1 w2) 53 (AF I c 5 6) 55 (AF I c 8 8) := by
  intro Q R h
  rw [k0_part42_eq_skeleton]; unfold k0_part42_skel
  refine agw_step 5 6 (by decide) (by decide) rfl (NB_g _ _ _) ?_
  refine f_step 6 6 (by decide) le_rfl (nth (f_devs c) 6 rfl rfl) (off26_eq c 6 (by decide)) (off26_eq c 6 (by decide)) rfl rfl ?_
  refine agw_step 6 7 (by decide) (by decide) rfl (NB_g _ _ _) ?_
  refine f_step 7 7 (by decide) le_rfl (nth (f_devs c) 7 rfl rfl) (off26_eq c 7 (by decide)) (off26_eq c 7 (by decide)) rfl rfl ?_
  refine agw_step 7 8 (by decide) (by decide) rfl (NB_g _ _ _) ?_
  exact done (h _)

theorem p43 (w0 w1 w2 : BitVec 32) :
    DoesF I K c (onBufs (k0_part43 (F := F)) c w0 w1 w2) 55 (AF I c 8 8) 57 (AF I c 10 10) := by
  intro Q R h
  rw [k0_part43_eq_skeleton]; unfold k0_part43_skel
  refine f_step 8 8 (by decide) le_rfl (nth (f_devs c) 8 rfl rfl) (off26_eq c 8 (by decide)) (off26_eq c 8 (by decide)) rfl rfl ?_
  refine agw_step 8 9 (by decide) (by decide) rfl (NB_g _ _ _) ?_
  refine f_step 9 9 (by decide) le_rfl (nth (f_devs c) 9 rfl rfl) (off26_eq c 9 (by decide)) (off26_eq c 9 (by decide)) rfl rfl ?_
  refine agw_step 9 10 (by decide) (by decide) rfl (NB_g _ _ _) ?_
  exact done (h _)

theorem p44 (w0 w1 w2 w3 : BitVec 32) :
    DoesF I K c (onBufs (k0_part44 (F := F)) c w0 w1 w2 w3) 57 (AF I c 10 10) 59 (AF I c 12 12) := by
  intro Q R h
  rw [k0_part44_eq_skeleton]; unfold k0_part44_skel
  refine f_step 10 10 (by decide) le_rfl (nth (f_devs c) 10 rfl rfl) (off26_eq c 10 (by decide)) (off26_eq c 10 (by decide)) rfl rfl ?_
  refine agw_step 10 11 (by decide) (by decide) rfl (NB_g _ _ _) ?_
  refine f_step 11 11 (by decide) le_rfl (nth (f_devs c) 11 rfl rfl) (off26_eq c 11 (by decide)) (off26_eq c 11 (by decide)) rfl rfl ?_
  refine agw_step 11 12 (by decide) (by decide) rfl (NB_g _ _ _) ?_
  exact done (h _)

theorem p45 (w0 w1 w2 : BitVec 32) :
    DoesF I K c (onBufs (k0_part45 (F := F)) c w0 w1 w2) 59 (AF I c 12 12) 61 (AF I c 14 14) := by
  intro Q R h
  rw [k0_part45_eq_skeleton]; unfold k0_part45_skel
  refine f_step 12 12 (by decide) le_rfl (nth (f_devs c) 12 rfl rfl) (off26_eq c 12 (by decide)) (off26_eq c 12 (by decide)) rfl rfl ?_
  refine agw_step 12 13 (by decide) (by decide) rfl (NB_g _ _ _) ?_
  refine f_step 13 13 (by decide) le_rfl (nth (f_devs c) 13 rfl rfl) (off26_eq c 13 (by decide)) (off26_eq c 13 (by decide)) rfl rfl ?_
  refine agw_step 13 14 (by decide) (by decide) rfl (NB_g _ _ _) ?_
  exact done (h _)

/-- What part 46 finds and leaves. -/
theorem p46 (w0 w1 w2 : BitVec 32) :
    DoesF I K c (onBufs (k0_part46 (F := F)) c w0 w1 w2) 61 iprop(AF I c 14 14 ∗ (∃ f, uP c f) ∗ WF I c 84 16 0)
      63 iprop(WF I c 84 16 1 ∗ (∃ f, uP c (putH (par c) (k0_pay49 (ghAll I c)) f)) ∗ gP c Finset.univ (shareDrop fullShare 16) (ghAll I c) ∗ AE I c) := by
  intro Q R h
  rw [k0_part46_eq_skeleton]; unfold k0_part46_skel
  refine ent_trans (Q := iprop(Gam I K ∗ ow c (47 + 14) ∗ AF I c 14 14 ∗ ((∃ f, uP c f) ∗ WF I c 84 16 0 ∗ R))) ?_ ?_
  · iintro ⟨A, B, ⟨C, D, E⟩, H⟩; iframe
  refine f_step 14 14 (by decide) le_rfl (nth (f_devs c) 14 rfl rfl) (off26_eq c 14 (by decide)) (off26_eq c 14 (by decide)) rfl rfl ?_
  refine agw_step 14 15 (by decide) (by decide) rfl (NB_g _ _ _) ?_
  refine f_step 15 15 (by decide) le_rfl (nth (f_devs c) 15 rfl rfl) (off26_eq c 15 (by decide)) (off26_eq c 15 (by decide)) rfl rfl ?_
  refine ent_trans (Q := iprop(gP c Finset.univ (shareDrop fullShare 16) (ghAll I c) ∗ (∃ f, uP c f) ∗ Gam I K ∗ ow c 63 ∗ WF I c 84 16 0 ∗ AE I c ∗ R)) ?_ ?_
  · iintro ⟨A, B, C, D, E, H⟩
    ihave C := ag_all $$ C
    icases C with ⟨C, C'⟩
    iframe
  refine g_ld ?_
  refine ent_trans sep_left_comm.1 (u_ex (u := fun f => f) fun f => ?_)
  refine u_old fun _ => ?_
  refine u_st (par c) (off21_eq c) ?_
  refine ent_trans (Q := iprop(Gam I K ∗ ow c 63 ∗ WF I c 84 16 0 ∗ (uP c (putH (par c) (k0_pay49 (ghAll I c)) f) ∗ gP c Finset.univ (shareDrop fullShare 16) (ghAll I c) ∗ AE I c ∗ R))) ?_ ?_
  · iintro ⟨A, B, C, D, E, G, H⟩; iframe
  refine end_step 84 16 0 (by decide) (by decide) (by decide) rfl (NB_o _ _ _) ?_
  refine done (ent_trans ?_ (h _))
  iintro ⟨A, B, C, D, E, G, H⟩
  isplitl [A]; · iexact A
  isplitl [B]; · iexact B
  isplitr [H]
  · isplitl [C]; · iexact C
    isplitl [D]; · iexists f; iexact D
    isplitl [E]; · iexact E
    iexact G
  iexact H

theorem p47 (w0 : BitVec 32) :
    DoesF I K c (onBufs (k0_part47 (F := F)) c w0) 63 (WF I c 84 16 1) 63 (WF I c 84 16 6) := by
  intro Q R h
  rw [k0_part47_eq_skeleton]; unfold k0_part47_skel
  refine end_step 84 16 1 (by decide) (by decide) (by decide) rfl (NB_o _ _ _) ?_
  refine end_step 84 16 2 (by decide) (by decide) (by decide) rfl (NB_o _ _ _) ?_
  refine end_step 84 16 3 (by decide) (by decide) (by decide) rfl (NB_o _ _ _) ?_
  refine end_step 84 16 4 (by decide) (by decide) (by decide) rfl (NB_o _ _ _) ?_
  refine end_step 84 16 5 (by decide) (by decide) (by decide) rfl (NB_o _ _ _) ?_
  exact done (h _)

theorem p48 (w0 w1 : BitVec 32) :
    DoesF I K c (onBufs (k0_part48 (F := F)) c w0 w1) 63 (WF I c 84 16 6) 63 (WF I c 84 16 10) := by
  intro Q R h
  rw [k0_part48_eq_skeleton]; unfold k0_part48_skel
  refine end_step 84 16 6 (by decide) (by decide) (by decide) rfl (NB_o _ _ _) ?_
  refine end_step 84 16 7 (by decide) (by decide) (by decide) rfl (NB_o _ _ _) ?_
  refine end_step 84 16 8 (by decide) (by decide) (by decide) rfl (NB_o _ _ _) ?_
  refine end_step 84 16 9 (by decide) (by decide) (by decide) rfl (NB_o _ _ _) ?_
  exact done (h _)

theorem p49 (w0 : BitVec 32) :
    DoesF I K c (onBufs (k0_part49 (F := F)) c w0) 63 (WF I c 84 16 10) 63 (WF I c 84 16 15) := by
  intro Q R h
  rw [k0_part49_eq_skeleton]; unfold k0_part49_skel
  refine end_step 84 16 10 (by decide) (by decide) (by decide) rfl (NB_o _ _ _) ?_
  refine end_step 84 16 11 (by decide) (by decide) (by decide) rfl (NB_o _ _ _) ?_
  refine end_step 84 16 12 (by decide) (by decide) (by decide) rfl (NB_o _ _ _) ?_
  refine end_step 84 16 13 (by decide) (by decide) (by decide) rfl (NB_o _ _ _) ?_
  refine end_step 84 16 14 (by decide) (by decide) (by decide) rfl (NB_o _ _ _) ?_
  exact done (h _)

theorem p50 (w0 : BitVec 32) :
    DoesF I K c (onBufs (k0_part50 (F := F)) c w0) 63 iprop(WF I c 84 16 15 ∗ (∃ f, uP c (putH (par c) (k0_pay49 (ghAll I c)) f)) ∗ wT c 6 NA ∗ WF I c 8 15 0)
      63 iprop(WF I c 8 15 2 ∗ dn c 6 ∗ dmaPay I c 6 ∗ uP c (outAll I c) ∗ oP c Finset.univ (ghAll I (pr c)) ∗ (bigSep (Finset.range 16) fun k => dn c (84 + k))) := by
  intro Q R h
  rw [k0_part50_eq_skeleton]; unfold k0_part50_skel
  refine ent_trans (Q := iprop(Gam I K ∗ ow c 63 ∗ WF I c 84 16 15 ∗ ((∃ f, uP c (putH (par c) (k0_pay49 (ghAll I c)) f)) ∗ wT c 6 NA ∗ WF I c 8 15 0 ∗ R))) ?_ ?_
  · iintro ⟨A, B, ⟨C, D, E, G⟩, H⟩; iframe
  refine end_step 84 16 15 (by decide) (by decide) (by decide) rfl (NB_o _ _ _) ?_
  refine ent_trans (Q := iprop(oP c Finset.univ (ghAll I (pr c)) ∗ (∃ f, uP c (putH (par c) (k0_pay49 (ghAll I c)) f)) ∗ Gam I K ∗ ow c 63 ∗ wT c 6 NA ∗ WF I c 8 15 0 ∗ (bigSep (Finset.range 16) fun k => dn c (84 + k)) ∗ R)) ?_ ?_
  · iintro ⟨A, B, C, D, E, G, H⟩
    ihave C := f_all $$ C
    icases C with ⟨C, C'⟩
    iframe
  refine o_ld ?_
  refine ent_trans sep_left_comm.1 (u_ex fun f => ?_)
  refine u_old fun _ => ?_
  refine u_st (1 - par c) (off10_eq c) ?_
  rw [outAll_eq]
  refine ent_trans (Q := iprop(Gam I K ∗ ow c 63 ∗ wT c 6 NA ∗ (uP c (outAll I c) ∗ oP c Finset.univ (ghAll I (pr c)) ∗ WF I c 8 15 0 ∗ (bigSep (Finset.range 16) fun k => dn c (84 + k)) ∗ R))) ?_ ?_
  · iintro ⟨A, B, C, D, E, G, H⟩; iframe
  refine wait_step 6 63 NA _ (by decide) rfl (NA_a _ _ _) (expect_A I c 6 (by decide)) le_rfl (fun j h1 h2 => absurd h1 (by omega)) ?_
  refine ent_trans (Q := iprop(Gam I K ∗ ow c 63 ∗ WF I c 8 15 0 ∗ (dn c 6 ∗ dmaPay I c 6 ∗ uP c (outAll I c) ∗ oP c Finset.univ (ghAll I (pr c)) ∗ (bigSep (Finset.range 16) fun k => dn c (84 + k)) ∗ R))) ?_ ?_
  · iintro ⟨A, B, ⟨C, D⟩, E, G, H, J⟩; iframe
  refine end_step 8 15 0 (by decide) (by decide) (by decide) rfl (NB_a _ _ _) ?_
  refine end_step 8 15 1 (by decide) (by decide) (by decide) rfl (NB_a _ _ _) ?_
  refine done (ent_trans ?_ (h _))
  iintro ⟨A, B, C, D, E, G, H, J, N⟩; iframe

theorem p51 :
    DoesF I K c (onBufs (k0_part51 (F := F)) c) 63 (WF I c 8 15 2) 63 (WF I c 8 15 7) := by
  intro Q R h
  rw [k0_part51_eq_skeleton]; unfold k0_part51_skel
  refine end_step 8 15 2 (by decide) (by decide) (by decide) rfl (NB_a _ _ _) ?_
  refine end_step 8 15 3 (by decide) (by decide) (by decide) rfl (NB_a _ _ _) ?_
  refine end_step 8 15 4 (by decide) (by decide) (by decide) rfl (NB_a _ _ _) ?_
  refine end_step 8 15 5 (by decide) (by decide) (by decide) rfl (NB_a _ _ _) ?_
  refine end_step 8 15 6 (by decide) (by decide) (by decide) rfl (NB_a _ _ _) ?_
  exact done (h _)

theorem p52 :
    DoesF I K c (onBufs (k0_part52 (F := F)) c) 63 (WF I c 8 15 7) 63 (WF I c 8 15 12) := by
  intro Q R h
  rw [k0_part52_eq_skeleton]; unfold k0_part52_skel
  refine end_step 8 15 7 (by decide) (by decide) (by decide) rfl (NB_a _ _ _) ?_
  refine end_step 8 15 8 (by decide) (by decide) (by decide) rfl (NB_a _ _ _) ?_
  refine end_step 8 15 9 (by decide) (by decide) (by decide) rfl (NB_a _ _ _) ?_
  refine end_step 8 15 10 (by decide) (by decide) (by decide) rfl (NB_a _ _ _) ?_
  refine end_step 8 15 11 (by decide) (by decide) (by decide) rfl (NB_a _ _ _) ?_
  exact done (h _)

theorem p53 :
    DoesF I K c (onBufs (k0_part53 (F := F)) c) 63 iprop(WF I c 8 15 12 ∗ WF I c 38 15 0) 63 iprop(WF I c 8 15 15 ∗ WF I c 38 15 2) := by
  intro Q R h
  rw [k0_part53_eq_skeleton]; unfold k0_part53_skel
  refine ent_trans (Q := iprop(Gam I K ∗ ow c 63 ∗ WF I c 8 15 12 ∗ (WF I c 38 15 0 ∗ R))) ?_ ?_
  · iintro ⟨A, B, ⟨C, D⟩, E⟩; iframe
  refine end_step 8 15 12 (by decide) (by decide) (by decide) rfl (NB_a _ _ _) ?_
  refine end_step 8 15 13 (by decide) (by decide) (by decide) rfl (NB_a _ _ _) ?_
  refine end_step 8 15 14 (by decide) (by decide) (by decide) rfl (NB_a _ _ _) ?_
  refine ent_trans (Q := iprop(Gam I K ∗ ow c 63 ∗ WF I c 38 15 0 ∗ (WF I c 8 15 15 ∗ R))) ?_ ?_
  · iintro ⟨A, B, C, D, E⟩; iframe
  refine end_step 38 15 0 (by decide) (by decide) (by decide) rfl (NB_g _ _ _) ?_
  refine end_step 38 15 1 (by decide) (by decide) (by decide) rfl (NB_g _ _ _) ?_
  refine done (ent_trans ?_ (h _))
  iintro ⟨A, B, C, D, E⟩; iframe

theorem p54 :
    DoesF I K c (onBufs (k0_part54 (F := F)) c) 63 (WF I c 38 15 2) 63 (WF I c 38 15 8) := by
  intro Q R h
  rw [k0_part54_eq_skeleton]; unfold k0_part54_skel
  refine end_step 38 15 2 (by decide) (by decide) (by decide) rfl (NB_g _ _ _) ?_
  refine end_step 38 15 3 (by decide) (by decide) (by decide) rfl (NB_g _ _ _) ?_
  refine end_step 38 15 4 (by decide) (by decide) (by decide) rfl (NB_g _ _ _) ?_
  refine end_step 38 15 5 (by decide) (by decide) (by decide) rfl (NB_g _ _ _) ?_
  refine end_step 38 15 6 (by decide) (by decide) (by decide) rfl (NB_g _ _ _) ?_
  refine end_step 38 15 7 (by decide) (by decide) (by decide) rfl (NB_g _ _ _) ?_
  exact done (h _)

theorem p55 :
    DoesF I K c (onBufs (k0_part55 (F := F)) c) 63 (WF I c 38 15 8) 63 (WF I c 38 15 14) := by
  intro Q R h
  rw [k0_part55_eq_skeleton]; unfold k0_part55_skel
  refine end_step 38 15 8 (by decide) (by decide) (by decide) rfl (NB_g _ _ _) ?_
  refine end_step 38 15 9 (by decide) (by decide) (by decide) rfl (NB_g _ _ _) ?_
  refine end_step 38 15 10 (by decide) (by decide) (by decide) rfl (NB_g _ _ _) ?_
  refine end_step 38 15 11 (by decide) (by decide) (by decide) rfl (NB_g _ _ _) ?_
  refine end_step 38 15 12 (by decide) (by decide) (by decide) rfl (NB_g _ _ _) ?_
  refine end_step 38 15 13 (by decide) (by decide) (by decide) rfl (NB_g _ _ _) ?_
  exact done (h _)

theorem p56 :
    DoesF I K c (onBufs (k0_part56 (F := F)) c) 63 iprop(WF I c 38 15 14 ∗ WF I c 68 16 0) 63 iprop(WF I c 38 15 15 ∗ WF I c 68 16 5) := by
  intro Q R h
  rw [k0_part56_eq_skeleton]; unfold k0_part56_skel
  refine ent_trans (Q := iprop(Gam I K ∗ ow c 63 ∗ WF I c 38 15 14 ∗ (WF I c 68 16 0 ∗ R))) ?_ ?_
  · iintro ⟨A, B, ⟨C, D⟩, E⟩; iframe
  refine end_step 38 15 14 (by decide) (by decide) (by decide) rfl (NB_g _ _ _) ?_
  refine ent_trans (Q := iprop(Gam I K ∗ ow c 63 ∗ WF I c 68 16 0 ∗ (WF I c 38 15 15 ∗ R))) ?_ ?_
  · iintro ⟨A, B, C, D, E⟩; iframe
  refine end_step 68 16 0 (by decide) (by decide) (by decide) rfl (NB_g _ _ _) ?_
  refine end_step 68 16 1 (by decide) (by decide) (by decide) rfl (NB_g _ _ _) ?_
  refine end_step 68 16 2 (by decide) (by decide) (by decide) rfl (NB_g _ _ _) ?_
  refine end_step 68 16 3 (by decide) (by decide) (by decide) rfl (NB_g _ _ _) ?_
  refine end_step 68 16 4 (by decide) (by decide) (by decide) rfl (NB_g _ _ _) ?_
  refine done (ent_trans ?_ (h _))
  iintro ⟨A, B, C, D, E⟩; iframe

theorem p57 :
    DoesF I K c (onBufs (k0_part57 (F := F)) c) 63 (WF I c 68 16 5) 63 (WF I c 68 16 11) := by
  intro Q R h
  rw [k0_part57_eq_skeleton]; unfold k0_part57_skel
  refine end_step 68 16 5 (by decide) (by decide) (by decide) rfl (NB_g _ _ _) ?_
  refine end_step 68 16 6 (by decide) (by decide) (by decide) rfl (NB_g _ _ _) ?_
  refine end_step 68 16 7 (by decide) (by decide) (by decide) rfl (NB_g _ _ _) ?_
  refine end_step 68 16 8 (by decide) (by decide) (by decide) rfl (NB_g _ _ _) ?_
  refine end_step 68 16 9 (by decide) (by decide) (by decide) rfl (NB_g _ _ _) ?_
  refine end_step 68 16 10 (by decide) (by decide) (by decide) rfl (NB_g _ _ _) ?_
  exact done (h _)

end Parts

end Cert.KI

end
-- ==== Proof.Phase.lean ====
/-
The kernel's body: what it starts from, what it leaves, and its run from part to part.
-/
module

public import proofs.«01_k».proof.Proof.Move3

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable {I : Dev nD → Inp F} {K : GSem nD τ sig → ℕ}

theorem big_mono {T : Type} {s : Finset T} {Φ Ψ : T → sProp (MT nD τ sig Unit (Elt F) ℕ UU ℕ)} (h : ∀ t ∈ s, Φ t ⊢ Ψ t) : bigSep s Φ ⊢ bigSep s Ψ := bigSep_mono h
theorem both_mono {A B A' B' : sProp (MT nD τ sig Unit (Elt F) ℕ UU ℕ)} (h : A ⊢ A') (h' : B ⊢ B') : iprop(A ∗ B) ⊢ iprop(A' ∗ B') := BI.sep_mono h h'

theorem g_toks (c : Dev nD) (S : Finset S512x768.Idx) (f : (cc0_scratch4 : Ref sig .tc).ty.Contents (Elt F)) :
    (gP c S fullShare f : sProp 𝕄) ⊣⊢ iprop(gP c S (shareDrop fullShare 16) f ∗ gP c S (shareTokN fullShare 15) f ∗ bigSep (Finset.range 15) fun k => gP c S (shareTokN fullShare k) f) := by
  rw [← bigSep_range_succ 15 (fun k => (gP c S (shareTokN fullShare k) f : sProp 𝕄))]
  exact pointsTo_toks_range fullShare 16
theorem a_join (c : Dev nD) (S S' : Finset S1024x768.Idx) (f g : (cc0_scratch0 : Ref sig .tc).ty.Contents (Elt F)) (h : Disjoint S S') :
    iprop(aP c S f ∗ aP c S' g) ⊢ (iprop(∃ f, aP c (S ∪ S') f) : sProp 𝕄) := by
  refine ent_trans (pointsTo_join h) ?_
  iintro H; iexists _; iexact H

/-! ## What a device starts from -/

/-- The right to copy, but for knowing that the target has entered. -/
def tk (c : Dev nD) (n : ℕ) (c' : Dev nD) (n' : ℕ) : sProp 𝕄 :=
  iprop(dutyTok ER (dCell c n) 0 0 ∗ reached ER (dCell c n) 0 ∗ dutyTok ER (dCell c' n') 0 0)
/-- The place of a device at one of its own semaphores. -/
abbrev at0 (c : Dev nD) (n : ℕ) : sProp 𝕄 := atPos ER (dCell c n) 0 ∅ 0

/-- The tokens of a device's copies. -/
def toks (c : Dev nD) : sProp 𝕄 :=
  iprop(tk c 6 (pr c) 7 ∗ (bigSep (Finset.range 15) fun k => tk c (8 + k) (nb c (k + 1)) (23 + k))
    ∗ (bigSep (Finset.range 15) fun k => tk c (38 + k) (nb c (k + 1)) (53 + k)) ∗ bigSep (Finset.range 16) fun k => tk c (68 + k) (pr c) (84 + k))
/-- The landings a device waits for. -/
def lands (c : Dev nD) : sProp 𝕄 :=
  iprop(wT c 7 NA ∗ (bigSep (Finset.range 15) fun k => wT c (23 + k) NB) ∗ (bigSep (Finset.range 15) fun k => wT c (53 + k) NB)
    ∗ bigSep (Finset.range 16) fun k => wT c (84 + k) NB)
/-- Its places at the semaphores of its own copies. -/
def ats (c : Dev nD) : sProp 𝕄 :=
  iprop(at0 c 6 ∗ (bigSep (Finset.range 15) fun k => at0 c (8 + k)) ∗ (bigSep (Finset.range 15) fun k => at0 c (38 + k)) ∗ bigSep (Finset.range 16) fun k => at0 c (68 + k))
/-- Its own row block of the gather buffer, its accumulator's halves and its result. -/
def bufs (c : Dev nD) : sProp 𝕄 :=
  iprop((∃ g, gP c (bandG (32 * grp c) 32) fullShare g) ∗ (∃ g, aP c (bandA (512 * (1 - par c).val) 512) g) ∗ (∃ g, aP c (bandA (512 * (par c).val) 512) g) ∗ ∃ f, uP c f)

def In (I : Dev nD → Inp F) (c : Dev nD) (f : (cc0_scratch1 : Ref sig .tc).ty.Contents (Elt F)) : sProp 𝕄 :=
  iprop(sgs c 0 ∗ cred (tallyAt (barCell c) () 16) ∗ atPos ER (barCell c) 0 ∅ 0 ∗ Cst (I c) c f ∗ toks c ∗ lands c ∗ ats c ∗ bufs c)

/-- What the handshake gives. -/
theorem after_bar (c : Dev nD) : iprop(toks c ∗ bigSep (Finset.range 16) (fun d => barPay c d))
    ⊢ (iprop(((∃ f, pP (pr c) f) ∗ sT c 6 (pr c) 7) ∗ (bigSep (Finset.range 15) fun k => iprop((∃ f, rP (nb c (k + 1)) (bandR k 1) f) ∗ sT c (8 + k) (nb c (k + 1)) (23 + k)))
      ∗ (bigSep (Finset.range 15) fun k => agR c k) ∗ bigSep (Finset.range 16) fun k => fR c k) : sProp 𝕄) := by
  have e : (bigSep (Finset.range 16) (fun d => barPay c d) : sProp 𝕄) ⊢ iprop(barPay0 c ∗ bigSep (Finset.range 15) fun k => barPayN c k) := by
    have e1 : (Finset.range 16) = insert 0 ((Finset.range 15).image fun k => 15 - k) := by decide
    rw [e1, bigSep_insert (by decide), bigSep_image_of_injOn (by intro a ha b hb h; simp only [Finset.coe_range, Set.mem_Iio] at ha hb h; omega)]
    refine both_mono (Entails.of_eq (by unfold barPay; rw [if_pos rfl])) (big_mono fun k hk => ?_)
    have hk := Finset.mem_range.mp hk
    unfold barPay; rw [if_neg (by omega), show 15 - (15 - k) = k by omega]

  have eR : (bigSep (Finset.range 15) fun k => iprop((∃ f, rP (nb c (k + 1)) (bandR k 1) f) ∗ sT c (8 + k) (nb c (k + 1)) (23 + k)) : sProp 𝕄)
      = iprop((bigSep (Finset.range 15) fun k => iprop(∃ f, rP (nb c (k + 1)) (bandR k 1) f)) ∗ bigSep (Finset.range 15) fun k => sT c (8 + k) (nb c (k + 1)) (23 + k)) := bigSep_sep' _ _ _
  refine ent_trans (both_mono .rfl e) ?_
  have ex : (iprop(∃ f, oP (pr c) Finset.univ f) : sProp 𝕄) ⊢ bigSep (Finset.range 16) fun k => iprop(∃ f, oP (pr c) (bandG (32 * fch c k) 32) f) := by
    iintro ⟨%f, H⟩
    ihave H := Entails.of_eq (o_pieces (c := c) (pr c) f) $$ H
    have m : (bigSep (Finset.range 16) fun k => oP (pr c) (bandG (32 * fch c k) 32) f : sProp 𝕄) ⊢ bigSep (Finset.range 16) fun k => iprop(∃ f, oP (pr c) (bandG (32 * fch c k) 32) f) :=
      big_mono fun k _ => by iintro H; iexists f; iexact H
    iapply m $$ H
  unfold toks barPay0 barPayN agR fR sT tk
  rw [bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep', bigSep_sep']
  iintro ⟨⟨⟨A1, A2, A3⟩, ⟨B1, B2, B3⟩, ⟨C1, C2, C3⟩, D1, D2, D3⟩, ⟨E1, E2, E3, E4⟩, F1, F2, F3, F4⟩
  ihave E2 := ex $$ E2
  iframe

/-! ## Between the phases -/

theorem rs_start (c : Dev nD) : iprop(aP c (bandA (512 * (par c).val) 512) (lift (M I c))
      ∗ bigSep (Finset.range 15) fun k => iprop((∃ f, rP (nb c (k + 1)) (bandR k 1) f) ∗ sT c (8 + k) (nb c (k + 1)) (23 + k)))
    ⊢ (iprop(RS I c 0 ∗ aP c (bandA (512 * (par c).val + 32 * grp c) 32) (lift (M I c))) : sProp 𝕄) := by
  unfold RS rsS
  rw [← Finset.range_eq_Ico, bigSep_sep', bigSep_sep', bigSep_sep', Finset.range_zero, bigSep_empty]
  iintro ⟨H, H1, H2⟩
  ihave H := (a_pieces (lift (M I c))).1 $$ H
  icases H with ⟨Ho, Hc⟩
  isplitr [Ho]
  · isplitl [Hc H1 H2]
    · iframe
    · iempintro
  iexact Ho

theorem fch_zero (c : Dev nD) : fch c 0 = grp c := by have := grp_lt c; unfold fch; omega

theorem ag_start (c : Dev nD) : iprop(gP c (bandG (32 * grp c) 32) fullShare (ghAll I c) ∗ (bigSep (Finset.range 15) fun k => agR c k)
      ∗ (bigSep (Finset.range 15) fun k => wT c (53 + k) NB) ∗ bigSep (Finset.range 16) fun k => fR c k)
    ⊢ (iprop(AG I c 0 ∗ AF I c 0 0) : sProp 𝕄) := by
  unfold AG AF agS
  rw [← Finset.range_eq_Ico, ← Finset.range_eq_Ico, ← Finset.range_eq_Ico, bigSep_sep', Finset.range_zero, bigSep_empty, bigSep_empty, bigSep_empty, Finset.range_one, bigSep_singleton]
  unfold hv kp
  rw [if_pos rfl, fch_zero]
  iintro ⟨H, A, B, C⟩
  ihave H := (g_toks c _ _).1 $$ H
  icases H with ⟨Hd, Ht, Hts⟩
  isplitl [Hts A]
  · isplitl [Hts A]
    · isplitl [Hts]; · iexact Hts
      iexact A
    · iempintro
  isplitl [B]; · iexact B
  isplitr [C Ht Hd]; · iempintro
  isplitl [C]; · iexact C
  isplitr [Ht Hd]; · iempintro
  isplitl [Ht]; · iexact Ht
  isplitl [Hd]; · iexact Hd
  iempintro

/-- Waiting for one's own copies, all issued. -/
theorem wf_start (c : Dev nD) (b m : ℕ) : iprop((bigSep (Finset.range m) fun k => cred (tallyAt (dCell c (b + k)) () NB)) ∗ bigSep (Finset.range m) fun k => at0 c (b + k))
    ⊢ (WF I c b m 0 : sProp 𝕄) := by
  unfold WF wT
  rw [← Finset.range_eq_Ico, bigSep_sep', Finset.range_zero, bigSep_empty]
  exact Laws.sep_emp.2
theorem wf_start' (c : Dev nD) (b m : ℕ) : (bigSep (Finset.range m) fun k => wT c (b + k) NB) ⊢ (WF I c b m 0 : sProp 𝕄) := by
  unfold WF
  rw [← Finset.range_eq_Ico, Finset.range_zero, bigSep_empty]
  exact Laws.sep_emp.2

/-! ## What a device leaves -/

/-- Its semaphores, all waited for. -/
def dns (c : Dev nD) : sProp 𝕄 :=
  iprop(dn c 6 ∗ dn c 7 ∗ (bigSep (Finset.range 15) fun k => dn c (8 + k)) ∗ (bigSep (Finset.range 15) fun k => dn c (23 + k))
    ∗ (bigSep (Finset.range 15) fun k => dn c (38 + k)) ∗ (bigSep (Finset.range 15) fun k => dn c (53 + k))
    ∗ (bigSep (Finset.range 16) fun k => dn c (68 + k)) ∗ bigSep (Finset.range 16) fun k => dn c (84 + k))

def Out (I : Dev nD → Inp F) (c : Dev nD) : sProp 𝕄 :=
  iprop(atPos ER (barCell c) (0 + 1) ∅ 0 ∗ dns c ∗ Cst (I c) c (cat (I c) (par c)) ∗ uP c (outAll I c) ∗ pP c (P (I (pr c)) (par c)) ∗ rP c Finset.univ (rsAll I c)
    ∗ oP c Finset.univ (ghAll I (pr c)) ∗ gP c Finset.univ fullShare (ghAll I c) ∗ (∃ f, aP c Finset.univ f))

theorem g_whole (c : Dev nD) : iprop(gP c Finset.univ (shareDrop fullShare 16) (ghAll I c) ∗ kps I c
      ∗ (bigSep (Finset.range 15) fun k => gP c (bandG (32 * grp c) 32) (shareTokN fullShare k) (ghAll I c))
      ∗ bigSep (Finset.range 16) fun k => gP c (bandG (32 * fch c k) 32) (shareTokN fullShare 15) (ghAll I c))
    ⊢ (gP c Finset.univ fullShare (ghAll I c) : sProp 𝕄) := by
  have one (k : ℕ) : iprop((bigSep (Finset.range 15) fun i => gP c (bandG (32 * fch c k) 32) (shareTokN fullShare i) (ghAll I c))
      ∗ gP c (bandG (32 * fch c k) 32) (shareTokN fullShare 15) (ghAll I c) ∗ gP c (bandG (32 * fch c k) 32) (shareDrop fullShare 16) (ghAll I c))
      ⊢ (gP c (bandG (32 * fch c k) 32) fullShare (ghAll I c) : sProp 𝕄) := by
    refine ent_trans ?_ (g_toks c _ _).2
    iintro ⟨A, B, C⟩
    iframe
  have kz : iprop(kps I c ∗ (bigSep (Finset.range 15) fun k => gP c (bandG (32 * grp c) 32) (shareTokN fullShare k) (ghAll I c)))
      ⊢ (bigSep (Finset.range 16) fun k => bigSep (Finset.range 15) fun i => gP c (bandG (32 * fch c k) 32) (shareTokN fullShare i) (ghAll I c) : sProp 𝕄) := by
    unfold kps
    rw [show Finset.range 16 = Finset.Ico 0 16 from Finset.range_eq_Ico 16, bigSep_Ico_succ_bot (by decide), if_pos rfl,
      bigSep_Ico_succ_bot (by decide) (fun k => (bigSep (Finset.range 15) fun i => gP c (bandG (32 * fch c k) 32) (shareTokN fullShare i) (ghAll I c) : sProp 𝕄)), fch_zero]
    iintro ⟨⟨-, A⟩, B⟩
    isplitl [B]; · iexact B
    have m : (bigSep (Finset.Ico (0 + 1) 16) fun k => iprop(if k = 0 then emp else bigSep (Finset.range 15) fun i => gP c (bandG (32 * fch c k) 32) (shareTokN fullShare i) (ghAll I c)) : sProp 𝕄)
        ⊢ bigSep (Finset.Ico (0 + 1) 16) fun k => bigSep (Finset.range 15) fun i => gP c (bandG (32 * fch c k) 32) (shareTokN fullShare i) (ghAll I c) :=
      big_mono fun k hk => Entails.of_eq (if_neg (by have := (Finset.mem_Ico.mp hk).1; omega))
    iapply m $$ A
  rw [g_pieces, g_pieces]
  have m := big_mono (s := Finset.range 16) (fun k _ => one k)
  rw [bigSep_sep', bigSep_sep'] at m
  refine ent_trans ?_ m
  iintro ⟨A, B, C, D⟩
  ihave B := kz $$ [B C]
  · isplitl [B]; · iexact B
    iexact C
  isplitl [B]; · iexact B
  isplitl [D]; · iexact D
  iexact A

theorem halves (b : Fin 2) : Disjoint (bandA (512 * b.val) 512) (bandA (512 * (1 - b).val) 512) ∧ bandA (512 * b.val) 512 ∪ bandA (512 * (1 - b).val) 512 = Finset.univ := by
  have hb := b.isLt
  have h1 : (1 - b : Fin 2).val = 1 - b.val := by revert b; decide
  refine ⟨band_disjoint (by omega), Finset.eq_univ_of_forall fun i => ?_⟩
  have h0 : (i 0).val < 1024 := (i 0).isLt
  rw [Finset.mem_union, mem_band, mem_band, h1]
  show (_ ≤ (i 0).val ∧ (i 0).val < _) ∨ (_ ≤ (i 0).val ∧ (i 0).val < _)
  omega

theorem a_whole (c : Dev nD) : iprop(dmaPay I c 6 ∗ aP c (bandA (512 * (par c).val + 32 * grp c) 32) (lift (M I c))
      ∗ bigSep (Finset.range 15) fun k => aP c (bandA (512 * (par c).val + 32 * ch c k) 32) (lift (M I c)))
    ⊢ (iprop(∃ f, aP c Finset.univ f) : sProp 𝕄) := by
  rw [pay6]
  iintro ⟨A, B⟩
  ihave B := (a_pieces (lift (M I c))).2 $$ B
  rw [← (halves (par c)).2]
  iapply (a_join c _ _ _ _ (halves (par c)).1)
  isplitl [B]; · iexact B
  iexact A

/-- Everything put together again. -/
theorem out_all (c : Dev nD) : iprop(WF I c 68 16 16 ∗ WF I c 38 15 15 ∗ WF I c 8 15 15 ∗ dn c 6 ∗ dmaPay I c 6 ∗ uP c (outAll I c) ∗ oP c Finset.univ (ghAll I (pr c))
      ∗ (bigSep (Finset.range 16) fun k => dn c (84 + k)) ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0)
    ⊢ (Out I c : sProp 𝕄) := by
  unfold Out dns
  iintro ⟨F, G, H, A1, A2, A3, A4, A5, A6, A7, A8, A9, B1, B2, B3, B4, B5, B6⟩
  ihave F := (WF_end 68 16).1 $$ F
  ihave G := (WF_end 38 15).1 $$ G
  ihave H := (WF_end 8 15).1 $$ H
  rw [bigSep_congr (fun k hk => payFS I c k (Finset.mem_range.mp hk)), bigSep_congr (fun k hk => payAgS I c k (Finset.mem_range.mp hk)),
    bigSep_congr (fun k hk => payRsS I c k (Finset.mem_range.mp hk))]
  icases F with ⟨F, F'⟩
  icases G with ⟨G, G'⟩
  icases H with ⟨H, H'⟩
  ihave X := (g_whole c) $$ [A6 A8 G' F']
  · iframe
  ihave Y := (a_whole c) $$ [A2 B2 H']
  · iframe
  iframe

end Cert.KI

end
-- ==== Proof.Body.lean ====
/-
The kernel's body, from part to part.
-/
module

public import proofs.«01_k».proof.Proof.Phase

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable {I : Dev nD → Inp F} {K : GSem nD τ sig → ℕ}

set_option maxRecDepth 65536 in
theorem main_part (c : Dev nD) (f : (cc0_scratch1 : Ref sig .tc).ty.Contents (Elt F)) (Q : Dev nD → sProp (MT nD τ sig Unit (Elt F) ℕ UU ℕ))
    (h : iprop(Gam I K ∗ ow c 63 ∗ WF I c 68 16 11 ∗ WF I c 38 15 15 ∗ WF I c 8 15 15 ∗ dn c 6 ∗ dmaPay I c 6 ∗ uP c (outAll I c) ∗ oP c Finset.univ (ghAll I (pr c))
      ∗ (bigSep (Finset.range 16) fun k => dn c (84 + k)) ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0) ⊢ Q c) :
    iprop(Gam I K ∗ ow c 0 ∗ In I c f) ⊢ wpc c (onBufs (k0_part58 (F := F))) Q := by
  rw [k0_part58_eq_skeleton]; unfold k0_part58_skel In
  -- the handshake
  refine bind_step (p1 _ _ fun v3 v6 v23 v24 v26 v27 v34 => ?_)
  refine bind_step (p2 _ _ _ _ _ _ _ fun r2 => ?_)
  refine bind_step (p3 _ _ _ _ _ _ fun r3 => ?_)
  refine bind_step (p4 _ _ _ _ _ _ fun ⟨r4, r4'⟩ => ?_)
  refine ent_trans (Q := iprop(Gam I K ∗ ow c 15 ∗ (sgs c 15 ∗ cred (tallyAt (barCell c) () 16) ∗ atPos ER (barCell c) 0 ∅ 0) ∗ (Cst (I c) c f ∗ toks c ∗ lands c ∗ ats c ∗ bufs c))) ?_ ?_
  · iintro ⟨A, B, C, D, E, G⟩; iframe
  refine bind_step (p5 _ _ _ _ _ _ ?_)
  -- attention over the partner's batch, and the exchange
  refine ent_trans (Q := iprop(Cst (I c) c f ∗ (Gam I K ∗ ow c 16 ∗ atPos ER (barCell c) (0 + 1) ∅ 0
      ∗ (((∃ f, pP (pr c) f) ∗ sT c 6 (pr c) 7) ∗ (bigSep (Finset.range 15) fun k => iprop((∃ f, rP (nb c (k + 1)) (bandR k 1) f) ∗ sT c (8 + k) (nb c (k + 1)) (23 + k)))
      ∗ (bigSep (Finset.range 15) fun k => agR c k) ∗ bigSep (Finset.range 16) fun k => fR c k) ∗ lands c ∗ ats c ∗ bufs c))) ?_ ?_
  · iintro ⟨A, B, ⟨C, D⟩, E, G, H⟩
    ihave X := (after_bar c) $$ [D G]
    · iframe
    iframe
  refine bind_step (p6 _ _ _ ?_)
  refine bind_step (p7 _ _ rfl _ _ ?_)
  refine bind_step (p8 _ _ _ ?_)
  refine bind_step (p9 _ _ _ ?_)
  refine bind_step (p10 _ _ _ ?_)
  unfold bufs
  refine ent_trans (Q := iprop((Cst (I c) c (ctxN (I c) (1 - par c) f 7) ∗ (∃ g, aP c (bandA (512 * (1 - par c).val) 512) g) ∗ Gam I K ∗ ow c 16 ∗ (∃ f, pP (pr c) f) ∗ sT c 6 (pr c) 7)
      ∗ (atPos ER (barCell c) (0 + 1) ∅ 0 ∗ (bigSep (Finset.range 15) fun k => iprop((∃ f, rP (nb c (k + 1)) (bandR k 1) f) ∗ sT c (8 + k) (nb c (k + 1)) (23 + k)))
      ∗ (bigSep (Finset.range 15) fun k => agR c k) ∗ (bigSep (Finset.range 16) fun k => fR c k) ∗ lands c ∗ ats c
      ∗ (∃ g, gP c (bandG (32 * grp c) 32) fullShare g) ∗ (∃ g, aP c (bandA (512 * (par c).val) 512) g) ∗ ∃ f, uP c f))) ?_ ?_
  · iintro ⟨A, B, C, D, ⟨⟨E1, E2⟩, E3, E4, E5⟩, G, H, J1, J2, J3, J4⟩; iframe
  refine bind_step (p11 _ _ _ _ _ ?_)
  -- attention over the own batch
  refine ent_trans sep_assoc.1 ?_
  refine bind_step (p12 (f := cat (I c) (1 - par c)) _ _ _ ?_)
  refine bind_step (p13 _ _ _ ?_)
  refine bind_step (p14 _ _ _ ?_)
  refine bind_step (p15 _ _ _ ?_)
  refine bind_step (p16 _ _ _ ?_)
  unfold lands
  refine ent_trans (Q := iprop((Cst (I c) c (cat (I c) (par c)) ∗ (∃ g, aP c (bandA (512 * (par c).val) 512) g) ∗ Gam I K ∗ ow c 17 ∗ wT c 7 NA)
      ∗ (cred (tallyAt (dCell c 6) () NA) ∗ atPos ER (barCell c) (0 + 1) ∅ 0 ∗ (bigSep (Finset.range 15) fun k => iprop((∃ f, rP (nb c (k + 1)) (bandR k 1) f) ∗ sT c (8 + k) (nb c (k + 1)) (23 + k)))
      ∗ (bigSep (Finset.range 15) fun k => agR c k) ∗ (bigSep (Finset.range 16) fun k => fR c k)
      ∗ (bigSep (Finset.range 15) fun k => wT c (23 + k) NB) ∗ (bigSep (Finset.range 15) fun k => wT c (53 + k) NB) ∗ (bigSep (Finset.range 16) fun k => wT c (84 + k) NB)
      ∗ ats c ∗ (∃ g, gP c (bandG (32 * grp c) 32) fullShare g) ∗ ∃ f, uP c f))) ?_ ?_
  · iintro ⟨A, ⟨B1, B2, B3⟩, C, D, E, G, ⟨H1, H2, H3, H4⟩, J, N1, N2, N3⟩; iframe
  refine bind_step (p17 _ _ _ _ _ _ fun r17 => ?_)
  -- the reduce-scatter
  refine ent_trans (Q := iprop(Gam I K ∗ ow c 17 ∗ RS I c 0 ∗ (WF I c 23 15 0 ∗ aP c (bandA (512 * (par c).val + 32 * grp c) 32) (lift (M I c))
      ∗ Cst (I c) c (cat (I c) (par c)) ∗ dn c 7 ∗ pP c (P (I (pr c)) (par c)) ∗ cred (tallyAt (dCell c 6) () NA) ∗ atPos ER (barCell c) (0 + 1) ∅ 0
      ∗ (bigSep (Finset.range 15) fun k => agR c k) ∗ (bigSep (Finset.range 16) fun k => fR c k)
      ∗ (bigSep (Finset.range 15) fun k => wT c (53 + k) NB) ∗ (bigSep (Finset.range 16) fun k => wT c (84 + k) NB)
      ∗ ats c ∗ (∃ g, gP c (bandG (32 * grp c) 32) fullShare g) ∗ ∃ f, uP c f))) ?_ ?_
  · iintro ⟨⟨A1, A2, A3, A4, A5, A6⟩, B, C, D, E, G, H, J, N, L⟩
    ihave X := (rs_start c) $$ [A2 D]
    · iframe
    ihave H := (wf_start' c 23 15) $$ H
    icases X with ⟨X, X'⟩
    iframe
  refine bind_step (p18 _ _ _ _ _ fun ⟨r18, r18'⟩ => ?_)
  refine bind_step (p19 _ _ _ _ _ fun ⟨r19, r19'⟩ => ?_)
  refine bind_step (p20 _ _ _ _ _ fun ⟨r20, r20', r20''⟩ => ?_)
  refine bind_step (p21 _ _ _ _ _ _ fun ⟨r21, r21', r21'', r21z⟩ => ?_)
  refine bind_step (p22 _ _ _ _ _ _ _ fun ⟨r22, r22', r22''⟩ => ?_)
  refine bind_step (p23 _ _ _ _ _ _ fun ⟨r23, r23', r23'', r23z⟩ => ?_)
  refine ent_trans (Q := iprop(Gam I K ∗ ow c 30 ∗ (RS I c 13 ∗ WF I c 23 15 0) ∗ (aP c (bandA (512 * (par c).val + 32 * grp c) 32) (lift (M I c))
      ∗ Cst (I c) c (cat (I c) (par c)) ∗ dn c 7 ∗ pP c (P (I (pr c)) (par c)) ∗ cred (tallyAt (dCell c 6) () NA) ∗ atPos ER (barCell c) (0 + 1) ∅ 0
      ∗ (bigSep (Finset.range 15) fun k => agR c k) ∗ (bigSep (Finset.range 16) fun k => fR c k)
      ∗ (bigSep (Finset.range 15) fun k => wT c (53 + k) NB) ∗ (bigSep (Finset.range 16) fun k => wT c (84 + k) NB)
      ∗ ats c ∗ (∃ g, gP c (bandG (32 * grp c) 32) fullShare g) ∗ ∃ f, uP c f))) ?_ ?_
  · iintro ⟨A, B, C, D, E⟩; iframe
  refine bind_step (p24 _ _ _ _ _ _ _ _ fun ⟨r24, r24'⟩ => ?_)
  refine ent_trans (Q := iprop(Gam I K ∗ ow c 32 ∗ WF I c 23 15 1 ∗ (aP c (bandA (512 * (par c).val + 32 * grp c) 32) (lift (M I c)) ∗ RS I c 15
      ∗ Cst (I c) c (cat (I c) (par c)) ∗ dn c 7 ∗ pP c (P (I (pr c)) (par c)) ∗ cred (tallyAt (dCell c 6) () NA) ∗ atPos ER (barCell c) (0 + 1) ∅ 0
      ∗ (bigSep (Finset.range 15) fun k => agR c k) ∗ (bigSep (Finset.range 16) fun k => fR c k)
      ∗ (bigSep (Finset.range 15) fun k => wT c (53 + k) NB) ∗ (bigSep (Finset.range 16) fun k => wT c (84 + k) NB)
      ∗ ats c ∗ (∃ g, gP c (bandG (32 * grp c) 32) fullShare g) ∗ ∃ f, uP c f))) ?_ ?_
  · iintro ⟨A, B, ⟨C, D⟩, E, G⟩; iframe
  refine bind_step (p25 _ _ _ _ _ _ _ fun r25 => ?_)
  refine bind_step (p26 _ _ _ _ _ _ fun r26 => ?_)
  refine bind_step (p27 _ _ _ _ _ _ fun r27 => ?_)
  -- the reduction
  refine bind_step (p28 _ _ _ _ _ ?_)
  refine bind_step (p29 _ _ _ ?_)
  refine ent_trans (Q := iprop(rP c Finset.univ (rsAll I c) ∗ (∃ g, gP c (bandG (32 * grp c) 32) fullShare g) ∗ (Gam I K ∗ ow c 32 ∗ (bigSep (Finset.range 15) fun k => dn c (23 + k))
      ∗ aP c (bandA (512 * (par c).val + 32 * grp c) 32) (lift (M I c)) ∗ RS I c 15
      ∗ Cst (I c) c (cat (I c) (par c)) ∗ dn c 7 ∗ pP c (P (I (pr c)) (par c)) ∗ cred (tallyAt (dCell c 6) () NA) ∗ atPos ER (barCell c) (0 + 1) ∅ 0
      ∗ (bigSep (Finset.range 15) fun k => agR c k) ∗ (bigSep (Finset.range 16) fun k => fR c k)
      ∗ (bigSep (Finset.range 15) fun k => wT c (53 + k) NB) ∗ (bigSep (Finset.range 16) fun k => wT c (84 + k) NB)
      ∗ ats c ∗ ∃ f, uP c f))) ?_ ?_
  · iintro ⟨A, B, C, D, E, G, H, J, N, L, M, S, T, U, V, W, X, Y⟩; iframe
  refine bind_step (p30 _ _ _ _ _ _ rfl fun r30 => ?_)
  -- the all-gather
  refine ent_trans (Q := iprop(Gam I K ∗ ow c 32 ∗ AG I c 0 ∗ (AF I c 0 0 ∗ rP c Finset.univ (rsAll I c) ∗ (bigSep (Finset.range 15) fun k => dn c (23 + k))
      ∗ aP c (bandA (512 * (par c).val + 32 * grp c) 32) (lift (M I c)) ∗ RS I c 15
      ∗ Cst (I c) c (cat (I c) (par c)) ∗ dn c 7 ∗ pP c (P (I (pr c)) (par c)) ∗ cred (tallyAt (dCell c 6) () NA) ∗ atPos ER (barCell c) (0 + 1) ∅ 0
      ∗ WF I c 84 16 0 ∗ ats c ∗ ∃ f, uP c f))) ?_ ?_
  · iintro ⟨A, B, C, D, E, G, H, J, N, L, M, S, T, U, V, W, X, Y⟩
    ihave Z := (ag_start c) $$ [A T U V]
    · iframe
    ihave W := (wf_start' c 84 16) $$ W
    icases Z with ⟨Z, Z'⟩
    iframe
  refine bind_step (p31 _ _ _ _ fun ⟨r31, r31', r31''⟩ => ?_)
  refine bind_step (p32 _ _ _ _ _ fun ⟨r32, r32', r32''⟩ => ?_)
  refine bind_step (p33 _ _ _ _ _ fun ⟨r33, r33'⟩ => ?_)
  refine bind_step (p34 _ _ _ _ fun ⟨r34, r34', r34''⟩ => ?_)
  refine bind_step (p35 _ _ _ _ _ fun ⟨r35, r35', r35''⟩ => ?_)
  refine bind_step (p36 _ _ _ _ _ fun ⟨r36, r36', r36''⟩ => ?_)
  refine bind_step (p37 _ _ _ fun r37 => ?_)
  refine bind_step (p38 _ _ _ _ _ _ fun r38 => ?_)
  -- forwarding what arrives
  refine ent_trans (Q := iprop(Gam I K ∗ ow c 47 ∗ AF I c 0 0 ∗ (AG I c 15 ∗ rP c Finset.univ (rsAll I c) ∗ (bigSep (Finset.range 15) fun k => dn c (23 + k))
      ∗ aP c (bandA (512 * (par c).val + 32 * grp c) 32) (lift (M I c)) ∗ RS I c 15
      ∗ Cst (I c) c (cat (I c) (par c)) ∗ dn c 7 ∗ pP c (P (I (pr c)) (par c)) ∗ cred (tallyAt (dCell c 6) () NA) ∗ atPos ER (barCell c) (0 + 1) ∅ 0
      ∗ WF I c 84 16 0 ∗ ats c ∗ ∃ f, uP c f))) ?_ ?_
  · iintro ⟨A, B, C, D, E⟩; iframe
  refine bind_step (p39 _ _ _ _ _ fun r39 => ?_)
  refine bind_step (p40 _ _ _ _ _ _ fun ⟨r40, r40'⟩ => ?_)
  refine bind_step (p41 _ _ _ _ _ _ _ fun r41 => ?_)
  refine bind_step (p42 _ _ _ _ _ fun r42 => ?_)
  refine bind_step (p43 _ _ _ _ _ fun r43 => ?_)
  refine bind_step (p44 _ _ _ _ _ _ fun r44 => ?_)
  refine bind_step (p45 _ _ _ _ _ fun r45 => ?_)
  refine ent_trans (Q := iprop(Gam I K ∗ ow c 61 ∗ (AF I c 14 14 ∗ (∃ f, uP c f) ∗ WF I c 84 16 0) ∗ (AG I c 15 ∗ rP c Finset.univ (rsAll I c) ∗ (bigSep (Finset.range 15) fun k => dn c (23 + k))
      ∗ aP c (bandA (512 * (par c).val + 32 * grp c) 32) (lift (M I c)) ∗ RS I c 15
      ∗ Cst (I c) c (cat (I c) (par c)) ∗ dn c 7 ∗ pP c (P (I (pr c)) (par c)) ∗ cred (tallyAt (dCell c 6) () NA) ∗ atPos ER (barCell c) (0 + 1) ∅ 0
      ∗ ats c))) ?_ ?_
  · iintro ⟨A, B, C, D, E, G, H, J, N, L, M, S, T, U, V, W⟩; iframe
  refine bind_step (p46 _ _ _ _ _ fun r46 => ?_)
  refine ent_trans (Q := iprop(Gam I K ∗ ow c 63 ∗ WF I c 84 16 1 ∗ ((∃ f, uP c (putH (par c) (k0_pay49 (ghAll I c)) f)) ∗ (gP c Finset.univ (shareDrop fullShare 16) (ghAll I c) ∗ AE I c)
      ∗ AG I c 15 ∗ rP c Finset.univ (rsAll I c) ∗ (bigSep (Finset.range 15) fun k => dn c (23 + k))
      ∗ aP c (bandA (512 * (par c).val + 32 * grp c) 32) (lift (M I c)) ∗ RS I c 15
      ∗ Cst (I c) c (cat (I c) (par c)) ∗ dn c 7 ∗ pP c (P (I (pr c)) (par c)) ∗ cred (tallyAt (dCell c 6) () NA) ∗ atPos ER (barCell c) (0 + 1) ∅ 0
      ∗ ats c))) ?_ ?_
  · iintro ⟨A, B, ⟨C, D, E⟩, G⟩; iframe
  refine bind_step (p47 _ _ _ fun r47 => ?_)
  refine bind_step (p48 _ _ _ _ fun r48 => ?_)
  refine bind_step (p49 _ _ _ fun r49 => ?_)
  unfold RS AG AE ats
  refine ent_trans (Q := iprop(Gam I K ∗ ow c 63 ∗ (WF I c 84 16 15 ∗ (∃ f, uP c (putH (par c) (k0_pay49 (ghAll I c)) f)) ∗ wT c 6 NA ∗ WF I c 8 15 0) ∗ (WF I c 38 15 0 ∗ WF I c 68 16 0
      ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0))) ?_ ?_
  · iintro ⟨A, B, C, D, ⟨E1, E2, E3, E4⟩, ⟨-, G⟩, H, J, N, ⟨-, L⟩, M, S, T, U, V, W1, W2, W3, W4⟩
    ihave X1 := (wf_start c 8 15) $$ [L W2]
    · iframe
    ihave X2 := (wf_start c 38 15) $$ [G W3]
    · iframe
    ihave X3 := (wf_start c 68 16) $$ [E3 W4]
    · iframe
    unfold wT
    iframe
  refine bind_step (p50 _ _ _ fun r50 => ?_)
  refine ent_trans (Q := iprop(Gam I K ∗ ow c 63 ∗ WF I c 8 15 2 ∗ (WF I c 38 15 0 ∗ WF I c 68 16 0
      ∗ (dn c 6 ∗ dmaPay I c 6 ∗ uP c (outAll I c) ∗ oP c Finset.univ (ghAll I (pr c)) ∗ (bigSep (Finset.range 16) fun k => dn c (84 + k)))
      ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0))) ?_ ?_
  · iintro ⟨A, B, ⟨C, D⟩, E, G, H⟩; iframe
  refine bind_step (p51 _ _ fun r51 => ?_)
  refine bind_step (p52 _ _ fun r52 => ?_)
  refine ent_trans (Q := iprop(Gam I K ∗ ow c 63 ∗ (WF I c 8 15 12 ∗ WF I c 38 15 0) ∗ (WF I c 68 16 0
      ∗ (dn c 6 ∗ dmaPay I c 6 ∗ uP c (outAll I c) ∗ oP c Finset.univ (ghAll I (pr c)) ∗ (bigSep (Finset.range 16) fun k => dn c (84 + k)))
      ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0))) ?_ ?_
  · iintro ⟨A, B, C, D, E⟩; iframe
  refine bind_step (p53 _ _ fun r53 => ?_)
  refine ent_trans (Q := iprop(Gam I K ∗ ow c 63 ∗ WF I c 38 15 2 ∗ (WF I c 68 16 0 ∗ WF I c 8 15 15
      ∗ (dn c 6 ∗ dmaPay I c 6 ∗ uP c (outAll I c) ∗ oP c Finset.univ (ghAll I (pr c)) ∗ (bigSep (Finset.range 16) fun k => dn c (84 + k)))
      ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0))) ?_ ?_
  · iintro ⟨A, B, ⟨C, D⟩, E, G⟩; iframe
  refine bind_step (p54 _ _ fun r54 => ?_)
  refine bind_step (p55 _ _ fun r55 => ?_)
  refine ent_trans (Q := iprop(Gam I K ∗ ow c 63 ∗ (WF I c 38 15 14 ∗ WF I c 68 16 0) ∗ (WF I c 8 15 15
      ∗ (dn c 6 ∗ dmaPay I c 6 ∗ uP c (outAll I c) ∗ oP c Finset.univ (ghAll I (pr c)) ∗ (bigSep (Finset.range 16) fun k => dn c (84 + k)))
      ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0))) ?_ ?_
  · iintro ⟨A, B, C, D, E⟩; iframe
  refine bind_step (p56 _ _ fun r56 => ?_)
  refine ent_trans (Q := iprop(Gam I K ∗ ow c 63 ∗ WF I c 68 16 5 ∗ (WF I c 38 15 15 ∗ WF I c 8 15 15
      ∗ (dn c 6 ∗ dmaPay I c 6 ∗ uP c (outAll I c) ∗ oP c Finset.univ (ghAll I (pr c)) ∗ (bigSep (Finset.range 16) fun k => dn c (84 + k)))
      ∗ gP c Finset.univ (shareDrop fullShare 16) (ghAll I c) ∗ (bigSep (Finset.range 15) fun k => dn c (53 + k)) ∗ kps I c
      ∗ rP c Finset.univ (rsAll I c) ∗ (bigSep (Finset.range 15) fun k => dn c (23 + k)) ∗ aP c (bandA (512 * (par c).val + 32 * grp c) 32) (lift (M I c))
      ∗ dn c 7 ∗ pP c (P (I (pr c)) (par c)) ∗ Cst (I c) c (cat (I c) (par c)) ∗ atPos ER (barCell c) (0 + 1) ∅ 0))) ?_ ?_
  · iintro ⟨A, B, ⟨C, D⟩, E, G⟩; iframe
  refine bind_step (p57 _ _ fun r57 => ?_)
  refine done (ent_trans ?_ h)
  iintro ⟨A, B, C, D, E, ⟨G1, G2, G3, G4, G5⟩, H⟩; iframe

set_option maxRecDepth 65536 in
/-- The body leaves everything whole and the two batches in the result. -/
theorem body_run (c : Dev nD) (f : (cc0_scratch1 : Ref sig .tc).ty.Contents (Elt F)) (Q : PUnit → sProp (MT nD τ sig Unit (Elt F) ℕ UU ℕ))
    (h : iprop(Gam I K ∗ ow c 63 ∗ Out I c) ⊢ iprop(|={Set.univ}=> Q ⟨⟩)) : iprop(Gam I K ∗ ow c 0 ∗ In I c f) ⊢ wpc c (onBufs (cc0_body (F := F))) Q := by
  rw [cc0_body_eq_skeleton]; unfold cc0_body_skel
  refine bind_step (main_part c f _ ?_)
  refine end_step 68 16 11 (by decide) (by decide) (by decide) rfl (NB_g _ _ _) ?_
  refine end_step 68 16 12 (by decide) (by decide) (by decide) rfl (NB_g _ _ _) ?_
  refine end_step 68 16 13 (by decide) (by decide) (by decide) rfl (NB_g _ _ _) ?_
  refine end_step 68 16 14 (by decide) (by decide) (by decide) rfl (NB_g _ _ _) ?_
  refine end_step 68 16 15 (by decide) (by decide) (by decide) rfl (NB_g _ _ _) ?_
  refine ent_trans ?_ h
  refine both_mono .rfl (both_mono .rfl ?_)
  exact out_all c

end Cert.KI

end
-- ==== Proof.Enter.lean ====
/-
From what the launch deals to what the body starts from, and from what it leaves to closed cells.
-/
module

public import proofs.«01_k».proof.Proof.Body
public import Idealize.ShloMosaic.Lib.Rounds.Family

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Index sets -/

section
variable {M : Type} [URA M] (Φ : ℕ → sProp M)

theorem range16_up : bigSep (Finset.range 16) Φ = iprop(Φ 0 ∗ bigSep (Finset.range 15) fun k => Φ (k + 1)) := by
  have e1 : (Finset.range 16) = insert 0 ((Finset.range 15).image fun k => k + 1) := by decide
  rw [e1, bigSep_insert (by decide), bigSep_image_of_injOn (by intro a ha b hb h; simpa using h)]; rfl
theorem range16_down : bigSep (Finset.range 16) Φ = iprop(Φ 0 ∗ bigSep (Finset.range 15) fun k => Φ (15 - k)) := by
  have e1 : (Finset.range 16) = insert 0 ((Finset.range 15).image fun k => 15 - k) := by decide
  rw [e1, bigSep_insert (by decide), bigSep_image_of_injOn (by intro a ha b hb h; simp only [Finset.coe_range, Set.mem_Iio] at ha hb h; omega)]; rfl
theorem ico_cut (a m b : ℕ) (h : a + m ≤ b) : bigSep (Finset.Ico a b) Φ = iprop((bigSep (Finset.range m) fun k => Φ (a + k)) ∗ bigSep (Finset.Ico (a + m) b) Φ) := by
  have e : Finset.Ico a b = ((Finset.range m).image fun k => a + k) ∪ Finset.Ico (a + m) b := by
    ext i; simp only [Finset.mem_union, Finset.mem_image, Finset.mem_range, Finset.mem_Ico]
    constructor
    · intro hi
      by_cases h' : i < a + m
      · exact .inl ⟨i - a, by omega, by omega⟩
      · exact .inr (by omega)
    · rintro (⟨k, hk, rfl⟩ | hi) <;> omega
  have d : Disjoint ((Finset.range m).image fun k => a + k) (Finset.Ico (a + m) b) := by
    rw [Finset.disjoint_left]; intro i h1 h2
    obtain ⟨k, hk, rfl⟩ := Finset.mem_image.mp h1
    rw [Finset.mem_range] at hk; rw [Finset.mem_Ico] at h2; omega
  rw [e, bigSep_union d, bigSep_image_of_injOn (by intro x hx y hy h; simpa using h)]; rfl
/-- The semaphores of the copies, by what they are for. -/
theorem sems_eq : (bigSep Finset.univ fun k : Fin 94 => Φ (6 + k.val)) = iprop(Φ 6 ∗ Φ 7 ∗ (bigSep (Finset.range 15) fun k => Φ (8 + k)) ∗ (bigSep (Finset.range 15) fun k => Φ (23 + k))
    ∗ (bigSep (Finset.range 15) fun k => Φ (38 + k)) ∗ (bigSep (Finset.range 15) fun k => Φ (53 + k))
    ∗ (bigSep (Finset.range 16) fun k => Φ (68 + k)) ∗ bigSep (Finset.range 16) fun k => Φ (84 + k)) := by
  have e : Finset.Ico 6 100 = (Finset.univ : Finset (Fin 94)).image fun k => 6 + k.val := by
    ext i; simp only [Finset.mem_image, Finset.mem_Ico, Finset.mem_univ, true_and]
    exact ⟨fun h => ⟨⟨i - 6, by omega⟩, by show 6 + (i - 6) = i; omega⟩, by rintro ⟨k, rfl⟩; have := k.isLt; omega⟩
  have e0 : (bigSep Finset.univ fun k : Fin 94 => Φ (6 + k.val)) = bigSep (Finset.Ico 6 100) Φ := by
    rw [e, bigSep_image_of_injOn (by intro x hx y hy h; exact Fin.ext (by simpa using h))]
  rw [e0, bigSep_Ico_succ_bot (by decide), bigSep_Ico_succ_bot (by decide), ico_cut Φ 8 15 100 (by decide), ico_cut Φ 23 15 100 (by decide), ico_cut Φ 38 15 100 (by decide),
    ico_cut Φ 53 15 100 (by decide), ico_cut Φ 68 16 100 (by decide), show (68 + 16 : ℕ) = 84 from rfl, show Finset.Ico 84 100 = (Finset.range 16).image fun k => 84 + k from by decide,
    bigSep_image_of_injOn (by intro x hx y hy h; simpa using h)]
end

/-! ## Entering -/

/-- The tokens of a device's copies: for each, the own completion's and the landing's. -/
def dtk (c : Dev nD) : sProp 𝕄 :=
  iprop(dutyTok ER (dCell c 6) 0 0 ∗ dutyTok ER (dCell (pr c) 7) 0 0
    ∗ (bigSep (Finset.range 15) fun k => dutyTok ER (dCell c (8 + k)) 0 0) ∗ (bigSep (Finset.range 15) fun k => dutyTok ER (dCell (nb c (k + 1)) (23 + k)) 0 0)
    ∗ (bigSep (Finset.range 15) fun k => dutyTok ER (dCell c (38 + k)) 0 0) ∗ (bigSep (Finset.range 15) fun k => dutyTok ER (dCell (nb c (k + 1)) (53 + k)) 0 0)
    ∗ (bigSep (Finset.range 16) fun k => dutyTok ER (dCell c (68 + k)) 0 0) ∗ bigSep (Finset.range 16) fun k => dutyTok ER (dCell (pr c) (84 + k)) 0 0)
/-- What is dealt to a device besides its own places: the tokens of its signals and copies, and that every barrier it signals is open. -/
def rights (c : Dev nD) : sProp 𝕄 :=
  iprop((bigSep (Finset.range 16) fun d => dutyTok ER (barCell (tgt c d)) 0 d) ∗ (bigSep (Finset.range 16) fun d => reached ER (barCell (tgt c d)) 0) ∗ dtk c)
/-- The units it will be paid. -/
def creds (c : Dev nD) : sProp 𝕄 :=
  iprop(cred (tallyAt (barCell c) () 16) ∗ cred (tallyAt (dCell c 7) () NA) ∗ (bigSep (Finset.range 15) fun k => cred (tallyAt (dCell c (23 + k)) () NB))
    ∗ (bigSep (Finset.range 15) fun k => cred (tallyAt (dCell c (53 + k)) () NB)) ∗ bigSep (Finset.range 16) fun k => cred (tallyAt (dCell c (84 + k)) () NB))
/-- With its semaphores open. -/
def opened (c : Dev nD) : sProp 𝕄 :=
  iprop(atPos ER (barCell c) 0 ∅ 0 ∗ (bigSep Finset.univ fun k : Fin 94 => iprop(at0 c (6 + k.val) ∗ reached ER (dCell c (6 + k.val)) 0)) ∗ rights c ∗ creds c)

theorem pays_of (c : Dev nD) : iprop((∃ f, pP c f) ∗ (∃ f, oP c Finset.univ f) ∗ (∃ f, rP c Finset.univ f)
      ∗ (bigSep (Finset.range 15) fun k => iprop(∃ f, gP c (bandG (32 * fch c (k + 1)) 32) fullShare f))
      ∗ reached ER (dCell c 7) 0 ∗ (bigSep (Finset.range 15) fun k => reached ER (dCell c (23 + k)) 0) ∗ (bigSep (Finset.range 15) fun k => reached ER (dCell c (53 + k)) 0)
      ∗ bigSep (Finset.range 16) fun k => reached ER (dCell c (84 + k)) 0)
    ⊢ (bigSep (Finset.range 16) fun d => barPay (tgt c d) d : sProp 𝕄) := by
  have e0 : (barPay (tgt c 0) 0 : sProp 𝕄) = iprop((∃ f, pP c f) ∗ (∃ f, oP c Finset.univ f) ∗ reached ER (dCell c 7) 0 ∗ bigSep (Finset.range 16) fun k => reached ER (dCell c (84 + k)) 0) := by
    unfold barPay tgt barPay0; rw [if_pos rfl, if_pos rfl, pr_pr]
  have eN : (bigSep (Finset.range 15) fun k => barPay (tgt c (15 - k)) (15 - k) : sProp 𝕄)
      = bigSep (Finset.range 15) fun k => iprop((∃ f, rP c (bandR k 1) f) ∗ (∃ f, gP c (bandG (32 * fch c (k + 1)) 32) fullShare f)
        ∗ reached ER (dCell c (23 + k)) 0 ∗ reached ER (dCell c (53 + k)) 0) := bigSep_congr fun k hk => by
    have hk := Finset.mem_range.mp hk
    have hg := grp_lt c
    unfold barPay tgt barPayN
    rw [if_neg (by omega), if_neg (by omega), show 15 - (15 - k) = k by omega, nb_nb c _ _ (by omega), grp_nb, show (grp c + (15 - k)) % 16 = fch c (k + 1) by unfold fch; omega]
  have er : (iprop(∃ f, rP c Finset.univ f) : sProp 𝕄) ⊢ bigSep (Finset.range 15) fun k => iprop(∃ f, rP c (bandR k 1) f) := by
    iintro ⟨%f, H⟩
    ihave H := Entails.of_eq (r_pieces (c := c) f) $$ H
    have m : (bigSep (Finset.range 15) fun k => rP c (bandR k 1) f : sProp 𝕄) ⊢ bigSep (Finset.range 15) fun k => iprop(∃ f, rP c (bandR k 1) f) :=
      big_mono fun k _ => by iintro H; iexists f; iexact H
    iapply m $$ H
  rw [range16_down (fun d => barPay (tgt c d) d), e0, eN, bigSep_sep', bigSep_sep', bigSep_sep']
  iintro ⟨A, B, C, D, E, G, H, J⟩
  ihave C := er $$ C
  iframe

theorem enter (I : Dev nD → Inp F) (c : Dev nD) : iprop(opened c ∗ ((∃ f, aP c Finset.univ f) ∗ (∃ f, cP c f) ∗ (∃ f, pP c f) ∗ (∃ f, rP c Finset.univ f) ∗ (∃ f, gP c Finset.univ fullShare f) ∗ (∃ f, oP c Finset.univ f))
      ∗ xP c (I c).x ∗ qP c (I c).wq ∗ kP c (I c).k ∗ vP c (I c).v ∗ wP c (I c).wo ∗ (∃ f, uP c f))
    ⊢ (iprop(∃ f, In I c f) : sProp 𝕄) := by
  have ea : (iprop(∃ f, aP c Finset.univ f) : sProp 𝕄) ⊢ iprop((∃ g, aP c (bandA (512 * (1 - par c).val) 512) g) ∗ (∃ g, aP c (bandA (512 * (par c).val) 512) g)) := by
    iintro ⟨%f, H⟩
    rw [← (halves (par c)).2]
    ihave H := (pointsTo_union (halves (par c)).1).1 $$ H
    icases H with ⟨H, H'⟩
    isplitl [H']
    · iexists f; iexact H'
    · iexists f; iexact H
  have eg : (iprop(∃ f, gP c Finset.univ fullShare f) : sProp 𝕄)
      ⊢ iprop((∃ g, gP c (bandG (32 * grp c) 32) fullShare g) ∗ bigSep (Finset.range 15) fun k => iprop(∃ f, gP c (bandG (32 * fch c (k + 1)) 32) fullShare f)) := by
    iintro ⟨%f, H⟩
    ihave H := Entails.of_eq ((g_pieces (c := c) fullShare f).trans (range16_up _)) $$ H
    rw [fch_zero]
    icases H with ⟨H, H'⟩
    isplitl [H]; · iexists f; iexact H
    have m : (bigSep (Finset.range 15) fun k => gP c (bandG (32 * fch c (k + 1)) 32) fullShare f : sProp 𝕄) ⊢ bigSep (Finset.range 15) fun k => iprop(∃ f, gP c (bandG (32 * fch c (k + 1)) 32) fullShare f) :=
      big_mono fun k _ => by iintro H; iexists f; iexact H
    iapply m $$ H'
  have es : iprop((bigSep (Finset.range 16) fun d => dutyTok ER (barCell (tgt c d)) 0 d) ∗ (bigSep (Finset.range 16) fun d => reached ER (barCell (tgt c d)) 0)
      ∗ bigSep (Finset.range 16) fun d => barPay (tgt c d) d) ⊢ (sgs c 0 : sProp 𝕄) := by
    unfold sgs sg
    rw [← Finset.range_eq_Ico, bigSep_sep', bigSep_sep']
  unfold opened
  rw [bigSep_sep', sems_eq (fun n => at0 c n), sems_eq (fun n => reached ER (dCell c n) 0)]
  unfold rights dtk creds
  iintro ⟨⟨A, ⟨⟨P6, P7, P8, P23, P38, P53, P68, P84⟩, R6, R7, R8, R23, R38, R53, R68, R84⟩, ⟨T, TR, D6, D7, D8, D23, D38, D53, D68, D84⟩, C, C7, C23, C53, C84⟩,
    ⟨Ba, ⟨%f, Bc⟩, Bp, Br, Bg, Bo⟩, Sx, Sq, Sk, Sv, Sw, Su⟩
  iexists f
  ihave Ba := ea $$ Ba
  ihave Bg := eg $$ Bg
  icases Bg with ⟨Bg, Bg'⟩
  ihave Bp := (pays_of c) $$ [Bp Bo Br Bg' R7 R23 R53 R84]
  · iframe
  ihave T := es $$ [T TR Bp]
  · iframe
  unfold In Cst toks lands ats bufs tk wT
  rw [bigSep_sep', bigSep_sep', bigSep_sep', bigSep_sep', bigSep_sep', bigSep_sep', bigSep_sep', bigSep_sep', bigSep_sep']
  iframe

/-! ## Leaving -/

theorem close_all (I : Dev nD → Inp F) (K : GSem nD τ sig → ℕ) (c : Dev nD) : iprop(invs I K ∗ atPos ER (barCell c) (0 + 1) ∅ 0 ∗ dns c)
    ⊢ (|={Set.univ}=> iprop(semVal (barCell c) 0 ∗ bigSep Finset.univ fun k : Fin 94 => semVal (dCell c (6 + k.val)) 0) : sProp 𝕄) := by
  have hd : (dns c : sProp 𝕄) = bigSep Finset.univ fun k : Fin 94 => dn c (6 + k.val) := by unfold dns; rw [sems_eq (fun n => dn c n)]
  rw [hd]
  have hi : iprop(invs I K ∗ bigSep Finset.univ fun k : Fin 94 => dn c (6 + k.val))
      ⊢ (bigSep Finset.univ fun k : Fin 94 => iprop(cellInv ER (Rd I) (K (dCell c (6 + k.val))) (dCell c (6 + k.val)) ∗ dn c (6 + k.val)) : sProp 𝕄) :=
    bigSep_with_persistent fun k _ => both_mono (inv_dma c (6 + k.val) (by omega) (by have := k.isLt; omega)) .rfl
  iintro ⟨#Hi, Hb, Hd⟩
  ihave Hd := hi $$ [Hd]
  · isplitr; · iexact Hi
    iexact Hd
  imod (Rounds.cell_close ER (Rd I) (g := barCell c) (R := 0 + 1) (Set.mem_univ (K (barCell c))) id (duties_later I (barCell c))) $$ [Hb] with Hb
  · isplitr; · iapply (inv_bar c); iexact Hi
    iexact Hb
  imod (Rounds.cells_close ER (Rd I) Finset.univ (fun k : Fin 94 => dCell c (6 + k.val)) (fun k : Fin 94 => K (dCell c (6 + k.val))) (fun k _ => Set.mem_univ _)
    (fun k _ => id) (fun _ => 0 + 1) (fun k _ => duties_later I _)) $$ Hd with Hd
  imodintro
  isplitl [Hb]; · iexact Hb
  iexact Hd

end Cert.KI

end
-- ==== Proof.Region.lean ====
/-
The kernel's region: its data, its body at the one point, and its record.
-/
module

public import proofs.«01_k».proof.Proof.Enter
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

open Idealize.ShloMosaic.Pipeline (Dat BodyObligation)

local notation "𝕄" => MT nD τ sig Unit (Elt F) ℕ UU ℕ

variable (m : (ℓ : Loc nD τ sig) → Buf (Elt F) ℓ)

/-- The operands a device's kernel is called with. -/
def ops (c : Dev nD) : Inp F := ⟨V1 m c main_v17, V1 m c main_v10, V1 m c main_v18, V1 m c main_v19, V1 m c main_v16⟩

/-- What the region leaves. -/
def outs : Outs (F := F) := fun _ r c => Function.update (V1 m c) (Proc.devRef .tc main_v20) (outAll (ops m) c) (Proc.devRef .tc r)

/-- The kernel's own semaphores. -/
abbrev osem (k : Fin 94) : SemLoc sig := .dma (dS (6 + k.val))

/-- The scratch buffers, at any contents. -/
def scr (c : Dev nD) : sProp 𝕄 :=
  iprop((∃ f, aP c Finset.univ f) ∗ (∃ f, cP c f) ∗ (∃ f, pP c f) ∗ (∃ f, rP c Finset.univ f) ∗ (∃ f, gP c Finset.univ fullShare f) ∗ (∃ f, oP c Finset.univ f))
/-- What the body starts from, -/
def before (c : Dev nD) : sProp 𝕄 := iprop((∃ K, Gam (ops m) K ∗ opened c) ∗ scr c ∗ ∃ r, prngReg c r)
/-- and what it leaves. -/
def left (c : Dev nD) : sProp 𝕄 :=
  iprop((semVal (barCell c) 0 ∗ bigSep Finset.univ fun k : Fin 94 => semVal (dCell c (6 + k.val)) 0) ∗ scr c ∗ ∃ r, prngReg c r)

def aft (c : Dev nD) : (w : Fin cfg0.W) → (cfg0.win w).block.Idx → Elt F (cfg0.win w).elt
  | ⟨0, _⟩ => (ops m c).x
  | ⟨1, _⟩ => (ops m c).wq
  | ⟨2, _⟩ => (ops m c).k
  | ⟨3, _⟩ => (ops m c).v
  | ⟨4, _⟩ => (ops m c).wo
  | ⟨5, _⟩ => outAll (ops m) c
  | ⟨_ + 6, h⟩ => absurd h (Nat.not_lt.2 (Nat.le_add_left _ _))

def dat (c : Dev nD) : Dat τ (Elt F) Unit ℕ UU ℕ cfg0 c where
  A w := V1 m c (Proc.devRef .tc (Pipeline.arrRef spec0 w))
  after w _ := aft m c w
  Φ t := if t.val = 0 then before m c else left c
  q _ := fullShare
  owed t := if t.val = 0 then due c 0 else 0

def pdats : (p : Fin 1) → (c : Dev nD) → Dat τ (Elt F) Unit ℕ UU ℕ (cfgs p) c := fun _ => dat m

theorem owes_in {c : Dev nD} (t : Fin (cfg0.N + 1)) (O : CellTallies nD τ sig Unit) (h0 : (dat m c).owed t = O) (W : Waits sig Unit) :
    (owes (c : Thread nD τ) O W : sProp 𝕄) ⊢ (dat m c).owesAt () t := by
  unfold Dat.owesAt Pipeline.owesWithin Dat.bound; rw [h0, show (dat m c).recorded t = Set.univ from rfl]
  iintro HO; iexists W; isplitr; · ipureintro; exact fun _ _ => Or.inl trivial
  iexact HO
theorem owes_out {c : Dev nD} (t : Fin (cfg0.N + 1)) (O : CellTallies nD τ sig Unit) (h0 : (dat m c).owed t = O) :
    (dat m c).owesAt () t ⊢ (iprop(∃ W, owes (c : Thread nD τ) O W) : sProp 𝕄) := by
  unfold Dat.owesAt Pipeline.owesWithin; rw [h0]
  iintro ⟨%W, -, HO⟩; iexists W; iexact HO

theorem owed_first (c : Dev nD) : (dat m c).owed t0_0.castSucc = due c 0 := rfl
theorem owed_last (c : Dev nD) : (dat m c).owed t0_0.succ = 0 := rfl

theorem blk_at (n k : ℕ) : 0 * n + 1 * k = k := by omega
theorem before_0 (c : Dev nD) (d) : (dat m c).before 0 t0_0 d = (ops m c).x := ((dat m c).before_fetched 0 t0_0 (fetch0_0 _) d).trans (funext fun j => congrArg (V1 m c main_v17) (funext fun a => Fin.ext (blk_at _ _)))
theorem before_1 (c : Dev nD) (d) : (dat m c).before 1 t0_0 d = (ops m c).wq := ((dat m c).before_fetched 1 t0_0 (fetch0_1 _) d).trans (funext fun j => congrArg (V1 m c main_v10) (funext fun a => Fin.ext (blk_at _ _)))
theorem before_2 (c : Dev nD) (d) : (dat m c).before 2 t0_0 d = (ops m c).k := ((dat m c).before_fetched 2 t0_0 (fetch0_2 _) d).trans (funext fun j => congrArg (V1 m c main_v18) (funext fun a => Fin.ext (blk_at _ _)))
theorem before_3 (c : Dev nD) (d) : (dat m c).before 3 t0_0 d = (ops m c).v := ((dat m c).before_fetched 3 t0_0 (fetch0_3 _) d).trans (funext fun j => congrArg (V1 m c main_v19) (funext fun a => Fin.ext (blk_at _ _)))
theorem before_4 (c : Dev nD) (d) : (dat m c).before 4 t0_0 d = (ops m c).wo := ((dat m c).before_fetched 4 t0_0 (fetch0_4 _) d).trans (funext fun j => congrArg (V1 m c main_v16) (funext fun a => Fin.ext (blk_at _ _)))

/-- The staging buffers at the one point. -/
def stg (c : Dev nD) (i : Inp F) : sProp 𝕄 := iprop(xP c i.x ∗ qP c i.wq ∗ kP c i.k ∗ vP c i.v ∗ wP c i.wo)

theorem run_one (c : Dev nD) (Q : PUnit → sProp (MT nD τ sig Unit (Elt F) ℕ UU ℕ))
    (h : iprop(left c ∗ (∃ W, owes (c : Thread nD τ) (0 : CellTallies nD τ sig Unit) W) ∗ stg c (ops m c) ∗ uP c (outAll (ops m) c)) ⊢ Q ⟨⟩) :
    iprop(before m c ∗ (∃ W, owes (c : Thread nD τ) (due c 0) W) ∗ stg c (ops m c) ∗ ∃ f, uP c f) ⊢ wpc c (onBufs (cc0_body (F := F))) Q := by
  unfold before
  iintro ⟨⟨⟨%K, #HG, Ho⟩, Hs, Hr⟩, HO, Hst, Hu⟩
  ihave Hin := (enter (ops m) c) $$ [Ho Hs Hst Hu]
  · unfold scr stg
    isplitl [Ho]; · iexact Ho
    isplitl [Hs]; · iexact Hs
    icases Hst with ⟨S0, S1, S2, S3, S4⟩
    iframe
  icases Hin with ⟨%f, Hin⟩
  have hq : iprop(Gam (ops m) K ∗ ow c 63 ∗ Out (ops m) c) ⊢ (|={Set.univ}=> iprop((∃ r, prngReg c r) -∗ Q ⟨⟩) : sProp 𝕄) := by
    unfold Out Gam Cst ow
    rw [due_last]
    iintro ⟨⟨#Hi, -⟩, HO, Hb, Hd, ⟨Sx, Sq, Sk, Sv, Sw, Sc⟩, Hu, Hp, Hrs, Hoh, Hg, Ha⟩
    imod (close_all (ops m) K c) $$ [Hb Hd] with Hz
    · isplitr; · iexact Hi
      isplitl [Hb]; · iexact Hb
      iexact Hd
    imodintro
    iintro Hr
    iapply h
    unfold left scr stg
    isplitl [Hz Hr Sc Hp Hrs Hoh Hg Ha]
    · isplitl [Hz]; · iexact Hz
      isplitr [Hr]
      · isplitl [Ha]; · iexact Ha
        isplitl [Sc]; · iexists _; iexact Sc
        isplitl [Hp]; · iexists _; iexact Hp
        isplitl [Hrs]; · iexists _; iexact Hrs
        isplitl [Hg]; · iexists _; iexact Hg
        iexists _; iexact Hoh
      iexact Hr
    isplitl [HO]; · iexact HO
    isplitr [Hu]
    · iframe
    iexact Hu
  have hb := body_run c f (fun _ => iprop((∃ r, prngReg c r) -∗ Q ⟨⟩)) hq
  ihave Hw := hb $$ [HG HO Hin]
  · isplitr; · iexact HG
    isplitl [HO]; · unfold ow; iexact HO
    iexact Hin
  iapply (wp_wand frame (wpE (defs₀ (F := F)) 𝒱₀ (c : Thread nD τ) none) Set.univ (Q := fun _ => iprop((∃ r, prngReg c r) -∗ Q ⟨⟩))) $$ [Hw]
  · iexact Hw
  iintro %a H
  iapply H
  iexact Hr

/-- The body at the one point. -/
theorem body (c : Dev nD) : BodyObligation (dat m c) defs₀ 𝒱₀ () Set.univ := fun t => by
  obtain rfl := fin_N0 t
  rw [bigSep_W0, bigSep_W0]
  rw [show (dat m c).Φ t0_0.castSucc = before m c from rfl, show (dat m c).Φ t0_0.succ = left c from rfl]
  simp only [before_0, before_1, before_2, before_3, before_4]
  iintro ⟨HB, HO, ⟨%_, S0⟩, ⟨%_, S1⟩, ⟨%_, S2⟩, ⟨%_, S3⟩, ⟨%_, S4⟩, ⟨%f, S5⟩⟩
  ihave HO := (owes_out m _ _ (owed_first m c)) $$ HO
  iapply (run_one m c _ ?h)
  case h =>
    iintro ⟨HL, ⟨%W, HO⟩, Hst, Hu⟩
    unfold stg
    icases Hst with ⟨S0, S1, S2, S3, S4⟩
    isplitl [HL]; · iexact HL
    isplitl [HO]; · iapply (owes_in m _ _ (owed_last m c) W) $$ HO
    isplitl [S0]; · iapply (Entails.of_eq (owns_whole c cc0_stg0_0 fullShare _).symm) $$ S0
    isplitl [S1]; · iapply (Entails.of_eq (owns_whole c cc0_stg1_0 fullShare _).symm) $$ S1
    isplitl [S2]; · iapply (Entails.of_eq (owns_whole c cc0_stg2_0 fullShare _).symm) $$ S2
    isplitl [S3]; · iapply (Entails.of_eq (owns_whole c cc0_stg3_0 fullShare _).symm) $$ S3
    isplitl [S4]; · iapply (Entails.of_eq (owns_whole c cc0_stg4_0 fullShare _).symm) $$ S4
    iapply (Entails.of_eq (owns_whole c cc0_stg5_0 fullShare _).symm) $$ Hu
  isplitl [HB]; · iexact HB
  isplitl [HO]; · iexact HO
  unfold stg
  isplitr [S5]
  · isplitl [S0]; · iapply (Entails.of_eq (owns_whole c cc0_stg0_0 fullShare _)) $$ S0
    isplitl [S1]; · iapply (Entails.of_eq (owns_whole c cc0_stg1_0 fullShare _)) $$ S1
    isplitl [S2]; · iapply (Entails.of_eq (owns_whole c cc0_stg2_0 fullShare _)) $$ S2
    isplitl [S3]; · iapply (Entails.of_eq (owns_whole c cc0_stg3_0 fullShare _)) $$ S3
    iapply (Entails.of_eq (owns_whole c cc0_stg4_0 fullShare _)) $$ S4
  iexists _
  iapply (Entails.of_eq (owns_whole c cc0_stg5_0 fullShare _)) $$ S5

/-! ## The region's record -/

theorem arr_in (c : Dev nD) : ∀ w, (dat m c).arrAt w 0 = V1 m c (Proc.devRef .tc (Pipeline.arrRef spec0 w)) := fun _ => rfl
theorem V2_out (c : Dev nD) : V2 m (outs m) c main_v20 = outAll (ops m) c :=
  (Function.update_self ..).trans (Function.update_self ..)
theorem arr_out5 (c : Dev nD) : (dat m c).arrAt 5 cfg0.N = outAll (ops m) c := by
  refine (dat m c).arrAt_eq_of_after_last 5 t0_0 (by decide +kernel) _ fun j => ?_
  rfl
theorem arr_out (c : Dev nD) : ∀ w, (dat m c).arrAt w cfg0.N = V2 m (outs m) c (Proc.devRef .tc (Pipeline.arrRef spec0 w))
  | ⟨0, _⟩ => ((dat m c).arrAt_in 0 rfl _).trans (V2_of m (outs m) c main_v17 (by decide)).symm
  | ⟨1, _⟩ => ((dat m c).arrAt_in 1 rfl _).trans (V2_of m (outs m) c main_v10 (by decide)).symm
  | ⟨2, _⟩ => ((dat m c).arrAt_in 2 rfl _).trans (V2_of m (outs m) c main_v18 (by decide)).symm
  | ⟨3, _⟩ => ((dat m c).arrAt_in 3 rfl _).trans (V2_of m (outs m) c main_v19 (by decide)).symm
  | ⟨4, _⟩ => ((dat m c).arrAt_in 4 rfl _).trans (V2_of m (outs m) c main_v16 (by decide)).symm
  | ⟨5, _⟩ => (arr_out5 m c).trans (V2_out m c).symm
  | ⟨_ + 6, h⟩ => absurd h (Nat.not_lt.2 (Nat.le_add_left _ _))

/-- The own semaphores, at zero. -/
theorem own_eq (c : Dev nD) : (Pipeline.ownSems0 osem c : sProp 𝕄) = bigSep Finset.univ fun k : Fin 94 => semVal (dCell c (6 + k.val)) 0 := rfl

/-- What the launch deals to a device, -/
def dealt (c : Dev nD) : sProp 𝕄 :=
  iprop(∃ K, invs (ops m) K ∗ atPos ER (barCell c) 0 ∅ 0 ∗ (bigSep Finset.univ fun k : Fin 94 => openTok ER (dCell c (6 + k.val))) ∗ rights c ∗ creds c)
/-- and the same once the own cells are open. -/
def ready (c : Dev nD) : sProp 𝕄 := iprop(∃ K, Gam (ops m) K ∗ opened c)

theorem open_all (c : Dev nD) : iprop(dealt m c ∗ Pipeline.ownSems0 osem c ∗ levAts L lv) ⊢ (|={Set.univ}=> ready m c : sProp 𝕄) := by
  rw [own_eq]
  unfold dealt ready opened
  have hi (K : GSem nD τ sig → ℕ) : iprop(invs (ops m) K ∗ bigSep Finset.univ fun k : Fin 94 => openTok ER (dCell c (6 + k.val)))
      ⊢ (bigSep Finset.univ fun k : Fin 94 => iprop(cellInv ER (Rd (ops m)) (K (dCell c (6 + k.val))) (dCell c (6 + k.val)) ∗ openTok ER (dCell c (6 + k.val))) : sProp 𝕄) :=
    bigSep_with_persistent fun k _ => both_mono (inv_dma c (6 + k.val) (by omega) (by have := k.isLt; omega)) .rfl
  iintro ⟨⟨%K, #Hi, Hb, Ho, Hr, Hc⟩, Hs, #Hl⟩
  ihave Ho := (hi K) $$ [Ho]
  · isplitr; · iexact Hi
    iexact Ho
  imod (Rounds.cells_open ER (Rd (ops m)) Finset.univ (fun k : Fin 94 => dCell c (6 + k.val)) (fun k : Fin 94 => K (dCell c (6 + k.val))) (fun k _ => Set.mem_univ _)) $$ [Ho Hs] with Ho
  · isplitl [Ho]; · iexact Ho
    iexact Hs
  imodintro
  iexists K
  unfold Gam
  isplitr
  · isplitr; · iexact Hi
    iexact Hl
  isplitl [Hb]; · iexact Hb
  isplitl [Ho]; · iexact Ho
  isplitl [Hr]; · iexact Hr
  iexact Hc

abbrev done0 (c : Dev nD) : sProp 𝕄 := semVal (barCell c) 0

theorem scr_eq (c : Dev nD) : (Pipeline.scopedRest (Pipeline.pin (pcfgs (F := F)) adm 0).spec c : sProp 𝕄) = scr c := scopedRest0_eq c

theorem go_in (c : Dev nD) : iprop(Pipeline.scopedRest (Pipeline.pin (pcfgs (F := F)) adm 0).spec c ∗ (∃ r, prngReg c r) ∗ StableHlo.held (c.tc : Thread nD τ) ∅ (V1 m c) ∗ ready m c)
    ⊢ (pdats m 0 c).Φ 0 := by
  rw [show (pdats m 0 c).Φ 0 = before m c from rfl, scr_eq]
  unfold before ready
  iintro ⟨Hs, Hp, -, HK⟩
  isplitl [HK]; · iexact HK
  isplitl [Hs]; · iexact Hs
  iexact Hp
theorem go_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c) ∗ Pipeline.ownSems0 osem c ∗ done0 c) := by
  rw [show (pdats m 0 c).Φ (Fin.last _) = left c from rfl, scr_eq, own_eq, show (StableHlo.held (c.tc : Thread nD τ) ∅ (V2 m (outs m) c) : sProp 𝕄) = BI.emp from bigSep_empty]
  unfold left
  iintro ⟨⟨Hb, Hk⟩, Hs, Hp⟩
  isplitl [Hs]; · iexact Hs
  isplitl [Hp]; · iexact Hp
  isplitr; · iempintro
  isplitl [Hk]; · iexact Hk
  iexact Hb

theorem cut_owed (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then due c 0 else 0 := rfl
  rw [e] at h
  split at h
  · obtain ⟨n, -, hn, rfl⟩ := due_pos c 0 g i h
    exact ⟨dueCell_L _ _, by rw [dueCell_lv c n hn]; split_ifs <;> decide⟩
  · exact absurd h (Nat.lt_irrefl 0)

theorem stage_lv (c : Dev nD) (w : Fin 6) (s : Fin (spec0 w).nbuf) : () ∈ L ((c : Thread nD τ), .dma ((spec0 w).sem s)) ∧ lv ((c : Thread nD τ), .dma ((spec0 w).sem s)) () ≤ 0 := by
  have h : ∀ (w : Fin 6) (s : Fin (spec0 w).nbuf), lvS (.dma ((spec0 w).sem s)) ≤ 0 := by decide
  exact ⟨by rw [L_tc]; exact Finset.mem_singleton_self _, h w s⟩

/-- The buffers the region leaves alone. -/
abbrev others : Finset (DevRef τ sig) := Pipeline.ucRefs τ sig \ Pipeline.arrRefs spec0

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (body m c).loose)
    (fun _ => 0) (fun c => due c 0) (fun c => (zero_add _).symm) (fun _ => rfl) (fun _ => rfl) (fun c w => by unfold Dat.share; split <;> rfl)
    (V1 m) (V2 m (outs m)) (fun c b hb => Function.update_of_ne (fun e => by
      subst e
      exact (Finset.mem_sdiff.mp (Finset.mem_sdiff.mp hb).1).2 (by decide)) _ _)
    (dealt m) done0 (ready m) done0 (open_all m) (go_in m) (go_out m)
    (fun c => by iintro H; imodintro; iexact H)
    (fun _ => 0)
    ⟨fun c w s => (stage_lv c w s).1, fun c w s => (stage_lv c w s).2, fun c t g i h => cut_owed m c t g i h⟩
    (fun _ => iprop(emp))
    (arr_in m) (arr_out m)

end Cert.KI

end
-- ==== Proof.Launch.lean ====
/-
The launch deals every device its tokens, places and units.
-/
module

public import proofs.«01_k».proof.Proof.Enter

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Renaming the devices in a family -/

theorem pr_perm : ∃ e : Dev nD ≃ Dev nD, ∀ c, e c = pr c := ⟨⟨pr, pr, pr_pr, pr_pr⟩, fun _ => rfl⟩
theorem nb_perm (d : ℕ) (h : d ≤ 16) : ∃ e : Dev nD ≃ Dev nD, ∀ c, e c = nb c d :=
  ⟨⟨fun c => nb c d, fun c => nb c (16 - d), fun c => nb_nb c d (16 - d) (by omega), fun c => nb_nb c (16 - d) d (by omega)⟩, fun _ => rfl⟩
theorem tgt_perm (d : ℕ) (h : d < 16) : ∃ e : Dev nD ≃ Dev nD, ∀ c, e c = tgt c d := by
  unfold tgt
  by_cases h0 : d = 0
  · simp only [if_pos h0]; exact pr_perm
  · simp only [if_neg h0]; exact nb_perm d (by omega)

section
variable {M : Type} [URA M]

theorem turn {t : Dev nD → Dev nD} (h : ∃ e : Dev nD ≃ Dev nD, ∀ c, e c = t c) (Φ : Dev nD → sProp M) :
    bigSep Finset.univ Φ = bigSep Finset.univ fun c => Φ (t c) := by
  obtain ⟨e, he⟩ := h
  rw [bigSep_univ_equiv e Φ]
  exact bigSep_congr fun c _ => by rw [he]
theorem turn_all (S : Finset ℕ) {t : ℕ → Dev nD → Dev nD} (h : ∀ k ∈ S, ∃ e : Dev nD ≃ Dev nD, ∀ c, e c = t k c) (Φ : ℕ → Dev nD → sProp M) :
    (bigSep Finset.univ fun c => bigSep S fun k => Φ k c) = bigSep Finset.univ fun c => bigSep S fun k => Φ k (t k c) := by
  induction S using Finset.induction_on with
  | empty => rfl
  | insert a S ha ih =>
    rw [bigSep_congr (Ψ := fun c => iprop(Φ a c ∗ bigSep S fun k => Φ k c)) fun c _ => bigSep_insert (Φ := fun k => Φ k c) ha, bigSep_congr (Ψ := fun c => iprop(Φ a (t a c) ∗ bigSep S fun k => Φ k (t k c))) fun c _ => bigSep_insert (Φ := fun k => Φ k (t k c)) ha, bigSep_sep', bigSep_sep',
      turn (h a (Finset.mem_insert_self a S)) (Φ a), ih fun k hk => h k (Finset.mem_insert_of_mem hk)]
theorem nb_all (Φ : ℕ → Dev nD → sProp M) :
    (bigSep Finset.univ fun c => bigSep (Finset.range 15) fun k => Φ k c) = bigSep Finset.univ fun c => bigSep (Finset.range 15) fun k => Φ k (nb c (k + 1)) :=
  turn_all _ (t := fun k c => nb c (k + 1)) (fun k hk => nb_perm _ (by have := Finset.mem_range.mp hk; omega)) Φ
theorem pr_all (S : Finset ℕ) (Φ : ℕ → Dev nD → sProp M) :
    (bigSep Finset.univ fun c => bigSep S fun k => Φ k c) = bigSep Finset.univ fun c => bigSep S fun k => Φ k (pr c) :=
  turn_all _ (t := fun _ c => pr c) (fun _ _ => pr_perm) Φ
theorem fin16 (Φ : ℕ → sProp M) : (bigSep Finset.univ fun k : Fin 16 => Φ k.val) = bigSep (Finset.range 16) Φ := by
  rw [show Finset.range 16 = (Finset.univ : Finset (Fin 16)).image fun k => k.val from by decide, bigSep_image_of_injOn (fun x _ y _ h => Fin.ext h)]
end

/-! ## The cells and the tokens -/

def barEmb : Dev nD ↪ GSem nD τ sig := ⟨fun c => barCell c, fun _ _ h => congrArg (fun g : GSem nD τ sig => g.1.1) h⟩
theorem sem_inj : Function.Injective fun k : Fin 94 => (SemLoc.dma (dS (6 + k.val)) : SemLoc sig) := by decide +kernel
def scEmb : Dev nD × Fin 94 ↪ GSem nD τ sig :=
  ⟨fun x => dCell x.1 (6 + x.2.val), fun _ _ h => Prod.ext (congrArg (fun g : GSem nD τ sig => g.1.1) h) (sem_inj (congrArg Prod.snd h))⟩
abbrev barCells : Finset (GSem nD τ sig) := Finset.univ.map barEmb
abbrev scCells : Finset (GSem nD τ sig) := Finset.univ.map scEmb

theorem apart : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact absurd (congrArg Prod.snd h) (fun h' => by cases h')

def barTok : Dev nD × Fin 16 ↪ GSem nD τ sig × ℕ × ℕ :=
  ⟨fun x => (barCell x.1, 0, x.2.val), fun _ _ h => Prod.ext (congrArg (fun t : GSem nD τ sig × ℕ × ℕ => t.1.1.1) h) (Fin.ext (congrArg (fun t : GSem nD τ sig × ℕ × ℕ => t.2.2) h))⟩
def scTok : Dev nD × Fin 94 ↪ GSem nD τ sig × ℕ × ℕ :=
  ⟨fun x => (dCell x.1 (6 + x.2.val), 0, 0), fun _ _ h => scEmb.injective (congrArg Prod.fst h)⟩
def tokens : Finset (GSem nD τ sig × ℕ × ℕ) := Finset.univ.map barTok ∪ Finset.univ.map scTok
theorem toks_apart : Disjoint (Finset.univ.map barTok) (Finset.univ.map scTok) := by
  rw [Finset.disjoint_left]
  rintro g h₁ h₂
  obtain ⟨c, -, rfl⟩ := Finset.mem_map.mp h₁
  obtain ⟨x, -, h⟩ := Finset.mem_map.mp h₂
  exact absurd (congrArg (fun t : GSem nD τ sig × ℕ × ℕ => t.1.2) h) (fun h' => by cases h')

/-- The tokens dealt: to each device those of the duties that it pays. -/
theorem toks_dealt : (bigSep tokens (fun x => dutyTok ER x.1 x.2.1 x.2.2) : sProp 𝕄)
    = bigSep Finset.univ fun c => iprop((bigSep (Finset.range 16) fun d => dutyTok ER (barCell (tgt c d)) 0 d) ∗ dtk c) := by
  have hb : (bigSep (Finset.univ.map barTok) (fun x => dutyTok ER x.1 x.2.1 x.2.2) : sProp 𝕄)
      = bigSep Finset.univ fun c => bigSep (Finset.range 16) fun d => dutyTok ER (barCell (tgt c d)) 0 d := by
    rw [bigSep_map, bigSep_univ_prod,
      ← turn_all (Finset.range 16) (t := fun d c => tgt c d) (fun d hd => tgt_perm d (Finset.mem_range.mp hd)) (fun d c => (dutyTok ER (barCell c) 0 d : sProp 𝕄))]
    exact bigSep_congr fun c _ => fin16 fun d => (dutyTok ER (barCell c) 0 d : sProp 𝕄)
  have hs : (bigSep (Finset.univ.map scTok) (fun x => dutyTok ER x.1 x.2.1 x.2.2) : sProp 𝕄) = bigSep Finset.univ fun c => dtk c := by
    rw [bigSep_map, bigSep_univ_prod]
    have e : ∀ c : Dev nD, (bigSep Finset.univ (fun b : Fin 94 => dutyTok ER (scTok (c, b)).1 (scTok (c, b)).2.1 (scTok (c, b)).2.2) : sProp 𝕄) = _ :=
      fun c => sems_eq fun n => dutyTok ER (dCell c n) 0 0
    rw [bigSep_congr fun c _ => e c]
    unfold dtk
    rw [bigSep_sep', bigSep_sep', bigSep_sep', bigSep_sep', bigSep_sep', bigSep_sep', bigSep_sep',
      bigSep_sep', bigSep_sep', bigSep_sep', bigSep_sep', bigSep_sep', bigSep_sep', bigSep_sep',
      turn pr_perm fun c => (dutyTok ER (dCell c 7) 0 0 : sProp 𝕄), nb_all fun k c => (dutyTok ER (dCell c (23 + k)) 0 0 : sProp 𝕄),
      nb_all fun k c => (dutyTok ER (dCell c (53 + k)) 0 0 : sProp 𝕄), pr_all _ fun k c => (dutyTok ER (dCell c (84 + k)) 0 0 : sProp 𝕄)]
  unfold tokens
  rw [bigSep_union toks_apart, hb, hs, bigSep_sep']
  rfl

/-! ## The units -/

/-- The semaphore of the `i`th payment, and the device paid. -/
def smI (i : ℕ) : SemLoc sig := if i < 16 then .reg barS else if i = 16 then .dma (dS 7) else if i < 32 then .dma (dS (i + 6)) else if i < 47 then .dma (dS (i + 21)) else .dma (dS (i + 37))
def tgI (c : Dev nD) (i : ℕ) : Dev nD := if i = 0 then pr c else if i < 16 then nb c i else if i = 16 then pr c else if i < 32 then nb c (i - 16) else if i < 47 then nb c (i - 31) else pr c
theorem due_at (c : Dev nD) (i : ℕ) : dueCell c i = ((tgI c i : Thread nD τ), smI i) := by
  unfold dueCell tgI smI
  by_cases h0 : i = 0
  · subst h0; rfl
  · rw [if_neg h0, if_neg h0]
    split_ifs <;> first | rfl | omega
theorem tgI_perm (i : ℕ) (h : i < 63) : ∃ e : Dev nD ≃ Dev nD, ∀ c, e c = tgI c i := by
  unfold tgI
  by_cases h0 : i = 0
  · simp only [if_pos h0]; exact pr_perm
  simp only [if_neg h0]
  by_cases h1 : i < 16
  · simp only [if_pos h1]; exact nb_perm i (by omega)
  simp only [if_neg h1]
  by_cases h2 : i = 16
  · simp only [if_pos h2]; exact pr_perm
  simp only [if_neg h2]
  by_cases h3 : i < 32
  · simp only [if_pos h3]; exact nb_perm _ (by omega)
  simp only [if_neg h3]
  by_cases h4 : i < 47
  · simp only [if_pos h4]; exact nb_perm _ (by omega)
  simp only [if_neg h4]; exact pr_perm

/-- All the units a cell is paid. -/
theorem due_sum (c : Dev nD) (sm : SemLoc sig) : (∑ d : Dev nD, due d 0 ((c : Thread nD τ), sm) ()) = ∑ i ∈ (Finset.Ico 0 63).filter (fun i => smI i = sm), dueAmt i := by
  have e : ∀ d : Dev nD, due d 0 ((c : Thread nD τ), sm) () = ∑ i ∈ Finset.Ico 0 63, if tgI d i = c ∧ smI i = sm then dueAmt i else 0 := fun d => by
    unfold due
    rw [Finset.sum_apply, Finsupp.finset_sum_apply]
    refine Finset.sum_congr rfl fun i _ => ?_
    rw [tallyAt_apply, due_at]
    refine if_congr ⟨fun ⟨h, _⟩ => ?_, fun ⟨h, h'⟩ => ⟨by rw [h, h'], rfl⟩⟩ rfl rfl
    exact ⟨(congrArg (fun g : GSem nD τ sig => g.1.1) h).symm, (congrArg Prod.snd h).symm⟩
  rw [Finset.sum_congr rfl fun d _ => e d, Finset.sum_comm, Finset.sum_filter]
  refine Finset.sum_congr rfl fun i hi => ?_
  obtain ⟨p, hp⟩ := tgI_perm i (Finset.mem_Ico.mp hi).2
  by_cases hs : smI i = sm
  · simp only [hs, and_true, if_true]
    rw [Finset.sum_congr rfl fun d _ => by rw [← hp d], Equiv.sum_comp p fun d => if d = c then dueAmt i else 0, Finset.sum_ite_eq' Finset.univ c fun _ => dueAmt i,
      if_pos (Finset.mem_univ c)]
  · simp only [hs, and_false, if_false, Finset.sum_const_zero]

theorem launch_at (c : Dev nD) (sm : SemLoc sig) (N : ℕ) (h : (∑ i ∈ (Finset.Ico 0 63).filter (fun i => smI i = sm), dueAmt i) = N) :
    tallyOn ((c : Thread nD τ), sm) (launchCredit (Pipeline.owing fun d => due d 0) 0 ((c : Thread nD τ), sm)) = (tallyAt ((c : Thread nD τ), sm) () N : CellTallies nD τ sig Unit) := by
  unfold tallyAt; refine congrArg _ (Finsupp.ext fun u => ?_); cases u
  rw [Pipeline.launchCredit_owing, Finsupp.single_eq_same, due_sum, h]

theorem amt_bar : (∑ i ∈ (Finset.Ico 0 63).filter (fun i => smI i = .reg barS), dueAmt i) = 16 := by
  rw [show (Finset.Ico 0 63).filter (fun i => smI i = .reg barS) = Finset.range 16 from by decide +kernel,
    Finset.sum_congr rfl fun i hi => show dueAmt i = 1 from if_pos (Finset.mem_range.mp hi)]
  rfl
theorem amt_one (n i : ℕ) (h : (Finset.Ico 0 63).filter (fun i => smI i = .dma (dS n)) = {i}) : (∑ i ∈ (Finset.Ico 0 63).filter (fun i => smI i = .dma (dS n)), dueAmt i) = dueAmt i := by
  rw [h, Finset.sum_singleton]
theorem amt_7 : (∑ i ∈ (Finset.Ico 0 63).filter (fun i => smI i = .dma (dS 7)), dueAmt i) = NA := amt_one 7 16 (by decide +kernel)
theorem amt_23 (k : ℕ) (hk : k < 15) : (∑ i ∈ (Finset.Ico 0 63).filter (fun i => smI i = .dma (dS (23 + k))), dueAmt i) = NB :=
  (amt_one _ (17 + k) ((by decide +kernel : ∀ k : Fin 15, (Finset.Ico 0 63).filter (fun i => smI i = .dma (dS (23 + k.val))) = {17 + k.val}) ⟨k, hk⟩)).trans (by unfold dueAmt; rw [if_neg (by omega), if_neg (by omega)])
theorem amt_53 (k : ℕ) (hk : k < 15) : (∑ i ∈ (Finset.Ico 0 63).filter (fun i => smI i = .dma (dS (53 + k))), dueAmt i) = NB :=
  (amt_one _ (32 + k) ((by decide +kernel : ∀ k : Fin 15, (Finset.Ico 0 63).filter (fun i => smI i = .dma (dS (53 + k.val))) = {32 + k.val}) ⟨k, hk⟩)).trans (by unfold dueAmt; rw [if_neg (by omega), if_neg (by omega)])
theorem amt_84 (k : ℕ) (hk : k < 16) : (∑ i ∈ (Finset.Ico 0 63).filter (fun i => smI i = .dma (dS (84 + k))), dueAmt i) = NB :=
  (amt_one _ (47 + k) ((by decide +kernel : ∀ k : Fin 16, (Finset.Ico 0 63).filter (fun i => smI i = .dma (dS (84 + k.val))) = {47 + k.val}) ⟨k, hk⟩)).trans (by unfold dueAmt; rw [if_neg (by omega), if_neg (by omega)])

theorem creds_of (c : Dev nD) : Pipeline.launchCred (fun d => due d 0) c ⊢ (creds c : sProp 𝕄) := by
  unfold Pipeline.launchCred
  rw [bigSep_univ_at _ (SemLoc.reg barS), launch_at c (.reg barS) 16 amt_bar]
  have hsub : (Finset.univ : Finset (Fin 94)).image (fun k => (SemLoc.dma (dS (6 + k.val)) : SemLoc sig)) ⊆ Finset.univ.erase (SemLoc.reg barS) := by
    intro s hs
    obtain ⟨k, -, rfl⟩ := Finset.mem_image.mp hs
    exact Finset.mem_erase.mpr ⟨(fun h => by cases h), Finset.mem_univ _⟩
  refine ent_trans (both_mono .rfl (ent_trans (bigSep_subset hsub) (Entails.of_eq ((bigSep_image_of_injOn (fun x _ y _ h => sem_inj h) _).trans
    (sems_eq fun n => (cred (tallyOn ((c : Thread nD τ), SemLoc.dma (dS n)) (launchCredit (Pipeline.owing fun d => due d 0) 0 ((c : Thread nD τ), SemLoc.dma (dS n)))) : sProp 𝕄)))))) ?_
  have e (a N : ℕ) (S : Finset ℕ) (h : ∀ k ∈ S, (∑ i ∈ (Finset.Ico 0 63).filter (fun i => smI i = .dma (dS (a + k))), dueAmt i) = N) :
      (bigSep S fun k => cred (tallyOn ((c : Thread nD τ), SemLoc.dma (dS (a + k))) (launchCredit (Pipeline.owing fun d => due d 0) 0 ((c : Thread nD τ), SemLoc.dma (dS (a + k))))) : sProp 𝕄)
      ⊢ bigSep S fun k => cred (tallyAt (dCell c (a + k)) () N) := Entails.of_eq (bigSep_congr fun k hk => by rw [launch_at c _ _ (h k hk)])
  rw [launch_at c _ _ amt_7]
  unfold creds
  iintro ⟨A, -, B, -, C, -, D, -, E⟩
  isplitl [A]; · iexact A
  isplitl [B]; · iexact B
  isplitl [C]; · iapply (e 23 NB _ fun k hk => amt_23 k (Finset.mem_range.mp hk)) $$ C
  isplitl [D]; · iapply (e 53 NB _ fun k hk => amt_53 k (Finset.mem_range.mp hk)) $$ D
  iapply (e 84 NB _ fun k hk => amt_84 k (Finset.mem_range.mp hk)) $$ E

end Cert.KI

end
-- ==== Proof.Deal.lean ====
/-
What the launch deals: the invariants, and every device's places, tokens and units.
-/
module

public import proofs.«01_k».proof.Proof.Region
public import proofs.«01_k».proof.Proof.Launch
public import Idealize.ShloMosaic.Harness.Basic

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

def u₀ : UU :=
  (initOf (Pipeline.cells (Pipeline.pin (pcfgs (F := F)) adm) cellOf_inj) (Pipeline.launchToks (Pipeline.pin (pcfgs (F := F)) adm) cellOf_inj),
    launchOf barCells scCells tokens)

/-- A resource held by one device. -/
def onDev (c₀ : Dev nD) (X : sProp (MT nD τ sig Unit (Elt F) ℕ UU ℕ)) (c : Dev nD) : sProp 𝕄 := if c = c₀ then X else iprop(emp)
theorem onDev_all (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp Idealize.SL.BI.sep_emp

def Gx : Dev nD → sProp 𝕄 := onDev 0 (BI.own (ER (launchOf barCells scCells tokens)))

/-! ## What the launch deals -/

/-- What every device may consult. -/
def records (κ : GSem nD τ sig → ℕ) : sProp 𝕄 :=
  iprop((bigSep (barCells ∪ scCells) fun g => cellInv ER (Rd (ops m)) (κ g) g) ∗ bigSep barCells fun g => reached ER g 0)
instance records_persistent (κ : GSem nD τ sig → ℕ) : BI.Persistent (records m κ) := by unfold records; infer_instance

theorem recs_invs (κ : GSem nD τ sig → ℕ) : (bigSep (barCells ∪ scCells) fun g => (cellInv ER (Rd (ops m)) (κ g) g : sProp 𝕄)) = invs (ops m) κ := by
  unfold invs
  rw [bigSep_union apart, bigSep_map, bigSep_map]
  rfl
theorem reached_bar (c : Dev nD) : (bigSep barCells fun g => (reached ER g 0 : sProp 𝕄)) ⊢ reached ER (barCell c) 0 :=
  bigSep_elim (Finset.mem_map_of_mem barEmb (Finset.mem_univ c))
theorem reached_all (c : Dev nD) : (bigSep barCells fun g => (reached ER g 0 : sProp 𝕄)) ⊢ bigSep (Finset.range 16) fun d => reached ER (barCell (tgt c d)) 0 := by
  have h : iprop((bigSep barCells fun g => (reached ER g 0 : sProp 𝕄)) ∗ bigSep (Finset.range 16) fun _ => (BI.emp : sProp 𝕄))
      ⊢ bigSep (Finset.range 16) fun d => (reached ER (barCell (tgt c d)) 0 : sProp 𝕄) :=
    bigSep_with_persistent fun d _ => ent_trans (both_mono (reached_bar (tgt c d)) .rfl) Laws.sep_emp.1
  rw [BI.bigSep_emp_const] at h
  exact ent_trans Laws.sep_emp.2 h

/-- What is one device's own. -/
def linear (c : Dev nD) : sProp 𝕄 :=
  iprop(atPos ER (barCell c) 0 ∅ 0 ∗ (bigSep Finset.univ fun k : Fin 94 => openTok ER (dCell c (6 + k.val)))
    ∗ (bigSep (Finset.range 16) fun d => dutyTok ER (barCell (tgt c d)) 0 d) ∗ dtk c)

theorem dealt_of (κ : GSem nD τ sig → ℕ) (c : Dev nD) : iprop(records m κ ∗ linear c ∗ creds c) ⊢ dealt m c := by
  unfold records linear dealt rights
  rw [recs_invs]
  iintro ⟨⟨#HI, #HR⟩, ⟨Ha, Ho, Ht, Hd⟩, Hc⟩
  iexists κ
  isplitr; · iexact HI
  isplitl [Ha]; · iexact Ha
  isplitl [Ho]; · iexact Ho
  isplitr [Hc]
  · isplitl [Ht]; · iexact Ht
    isplitr [Hd]; · iapply (reached_all (F := F) c); iexact HR
    iexact Hd
  iexact Hc

/-- The rest states around the region. -/
def E (k : Fin 2) (c : Dev nD) : sProp 𝕄 :=
  if k = 0 then iprop((∃ r, prngReg c r) ∗ dealt m c ∗ ∃ W, owes (c : Thread nD τ) (due c 0) W)
  else iprop(semVal (barCell c) 0 ∗ ∃ W, owes (c : Thread nD τ) (0 : CellTallies nD τ sig Unit) W)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V3 m (outs m) c) ∗ semVal (barCell c) 0)

def bundle (c : Dev nD) : sProp 𝕄 :=
  iprop(StableHlo.held (c : Thread nD τ) (Pipeline.ucRefs τ sig) (V0 m c) ∗ creds c ∗ owes (c : Thread nD τ) (due c 0) ∅ ∗ ∃ r, prngReg c r)

theorem T₀_of (κ : GSem nD τ sig → ℕ) (c : Dev nD) : iprop(records m κ ∗ (linear c ∗ bundle m c)) ⊢ T₀ m c := by
  unfold bundle T₀ E
  rw [if_pos rfl]
  iintro ⟨#HR, Hl, Hh, Hc, HO, Hp⟩
  isplitl [Hh]; · iexact Hh
  isplitl [Hp]; · iexact Hp
  isplitr [HO]
  · iapply (dealt_of m κ c)
    isplitr; · iexact HR
    isplitl [Hl]; · iexact Hl
    iexact Hc
  · iexists ∅; iexact HO

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch holdings, the barrier's counter and the launch element apart. -/
theorem own_part (c : Dev nD) : iprop(unscopedBufs c (fun b => m ((c : Thread nD τ).loc b)) ∗ unscopedSems0 c
      ∗ owes (c : Thread nD τ) (due c 0) ∅ ∗ Pipeline.launchCred (fun d => due d 0) c ∗ prngReg c (ρ c) ∗ Gx c)
    ⊢ (iprop(bundle m c ∗ (semVal (barCell c) 0 ∗ Gx c)) : sProp 𝕄) := by
  rw [show unscopedBufs c (fun b => m ((c : Thread nD τ).loc b)) = StableHlo.held (c : Thread nD τ) (Pipeline.ucRefs τ sig) (V0 m c) from
    Pipeline.unscopedBufs_held c (V0 m c), unscoped_sems]
  unfold bundle
  iintro ⟨Hh, Hus, HO, Hcr, Hp, HG⟩
  ihave Hc := (creds_of (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem over_bars (Φ : GSem nD τ sig → sProp (MT nD τ sig Unit (Elt F) ℕ UU ℕ)) : bigSep barCells Φ = bigSep Finset.univ fun c : Dev nD => Φ (barCell c) :=
  bigSep_map (s := Finset.univ) barEmb (Φ := Φ)
theorem over_sems (Φ : GSem nD τ sig → sProp (MT nD τ sig Unit (Elt F) ℕ UU ℕ)) :
    bigSep scCells Φ = bigSep Finset.univ fun c : Dev nD => bigSep Finset.univ fun k : Fin 94 => Φ (dCell c (6 + k.val)) :=
  (bigSep_map (s := Finset.univ) scEmb (Φ := Φ)).trans (bigSep_univ_prod _)

/-- The launch element opened, over any cells and tokens. -/
theorem fund_of (S Sd : Finset (GSem nD τ sig)) (T : Finset (GSem nD τ sig × ℕ × ℕ)) (h : Disjoint S Sd) :
    iprop((bigSep S fun g => (semVal g 0 : sProp 𝕄)) ∗ BI.own (ER (launchOf S Sd T)))
    ⊢ (|={Set.univ}=> iprop(∃ κ : GSem nD τ sig → ℕ, ((bigSep (S ∪ Sd) fun g => cellInv ER (Rd (ops m)) (κ g) g) ∗ bigSep S fun g => reached ER g 0)
      ∗ (bigSep S fun g => atPos ER g 0 ∅ 0) ∗ (bigSep Sd fun g => openTok ER g) ∗ bigSep T fun x => dutyTok ER x.1 x.2.1 x.2.2) : sProp 𝕄) := by
  iintro ⟨Hv, Hu⟩
  imod (Rounds.fund_launch ER (Rd (ops m)) h (fun g _ h => h) T) $$ [Hv Hu] with ⟨%κ, -, #Hinv, #Hr, Hat, Hopen, Htok⟩
  · isplitl [Hv] <;> iassumption
  imodintro
  iexists κ
  isplitr
  · isplitr; · iexact Hinv
    iexact Hr
  isplitl [Hat]; · iexact Hat
  isplitl [Hopen]; · iexact Hopen
  iexact Htok

theorem linear_of : iprop((bigSep barCells fun g => atPos ER g 0 ∅ 0) ∗ (bigSep scCells fun g => openTok ER g) ∗ bigSep tokens fun x => dutyTok ER x.1 x.2.1 x.2.2)
    ⊢ (bigSep Finset.univ linear : sProp 𝕄) := by
  rw [toks_dealt, over_bars, over_sems]
  unfold linear
  iintro ⟨Hat, Hopen, Htok⟩
  iapply Smoke.bigSep_pair; isplitl [Hat]; · iexact Hat
  iapply Smoke.bigSep_pair; isplitl [Hopen]; · iexact Hopen
  iexact Htok

theorem fund : iprop((bigSep barCells fun g => (semVal g 0 : sProp 𝕄)) ∗ BI.own (ER (launchOf barCells scCells tokens)))
    ⊢ (|={Set.univ}=> iprop(∃ κ, records m κ ∗ bigSep Finset.univ linear) : sProp 𝕄) := by
  have h := fund_of m barCells scCells tokens apart
  have hl := linear_of (F := F)
  unfold records
  iintro H
  imod h $$ H with ⟨%κ, HR, HL⟩
  imodintro
  iexists κ
  isplitl [HR]; · iexact HR
  iapply hl $$ HL

theorem fund_here : iprop((bigSep Finset.univ fun c : Dev nD => (semVal (barCell c) 0 : sProp 𝕄)) ∗ bigSep Finset.univ (Gx (F := F)))
    ⊢ (|={Set.univ}=> iprop(∃ κ, records m κ ∗ bigSep Finset.univ linear) : sProp 𝕄) := by
  unfold Gx
  rw [onDev_all, ← over_bars fun g => (semVal g 0 : sProp 𝕄)]
  exact fund m

theorem deal : iprop((∃ κ, records m κ ∗ bigSep Finset.univ linear) ∗ bigSep Finset.univ (bundle m)) ⊢ (bigSep Finset.univ (T₀ m) : sProp 𝕄) := by
  iintro ⟨⟨%κ, #HR, HL⟩, HB⟩
  iapply (bigSep_with_persistent (R := records m κ) (Φ := fun c => iprop(linear c ∗ bundle m c)) fun c _ => T₀_of m κ c)
  isplitr; · iexact HR
  iapply Smoke.bigSep_pair
  isplitl [HL] <;> iassumption

theorem init :
    iprop((bigSep Finset.univ fun c : Dev nD => iprop(unscopedBufs c (fun b => m ((c : Thread nD τ).loc b)) ∗ unscopedSems0 c
          ∗ owes (c : Thread nD τ) (due c 0) ∅ ∗ Pipeline.launchCred (fun d => due d 0) c ∗ prngReg c (ρ c) ∗ Gx c)) ∗ levAts L lv)
      ⊢ (|={Set.univ}=> bigSep Finset.univ (T₀ m) : sProp 𝕄) := by
  have h := bigSep_mono (s := (Finset.univ : Finset (Dev nD))) fun c _ => own_part m ρ c
  refine ent_trans (both_mono h .rfl) ?_
  iintro ⟨H', -⟩
  ihave H2 := Smoke.bigSep_unpair $$ H'; icases H2 with ⟨HB, H3⟩
  ihave H4 := Smoke.bigSep_unpair $$ H3; icases H4 with ⟨Hv, HG⟩
  imod (fund_here m) $$ [Hv HG] with HF
  · isplitl [Hv] <;> iassumption
  imodintro
  iapply (deal m)
  isplitl [HF] <;> iassumption

end Cert.KI

end
-- ==== Proof.Run.lean ====
/-
The run of the whole program: every device ends with its arguments as launched, its result named, and every counter at zero.
-/
module

public import proofs.«01_k».proof.Proof.Deal
public import Idealize.ShloMosaic.Harness.Basic

@[expose] public section

noncomputable section

namespace Cert.KI

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region, in its place -/

theorem arr_sub : Pipeline.arrRefs spec0 ⊆ Pipeline.ucRefs τ sig := by decide

theorem split_held (c : Dev nD) (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) others V) :=
  StableHlo.held_sub_split (c : Thread nD τ) arr_sub V

theorem to_region (c : Dev nD) : iprop(StableHlo.held (c : Thread nD τ) (Pipeline.ucRefs τ sig) (V1 m c) ∗ E m 0 c) ⊢ (reg0 m).pre c := by
  show _ ⊢ iprop(StableHlo.held (c.tc : Thread nD τ) (Pipeline.arrRefs spec0) (V1 m c) ∗ (∃ r, prngReg c r)
    ∗ (StableHlo.held (c.tc : Thread nD τ) others (V1 m c) ∗ emp) ∗ dealt m c ∗ ∃ Wd, owes (c : Thread nD τ) (0 + due c 0) Wd)
  rw [split_held, zero_add]
  unfold E
  rw [if_pos rfl]
  iintro ⟨⟨HA, HB⟩, Hp, Hd, HO⟩
  isplitl [HA]; · iexact HA
  isplitl [Hp]; · iexact Hp
  isplitl [HB]
  · isplitl [HB]; · iexact HB
    iempintro
  isplitl [Hd]; · iexact Hd
  iexact HO

theorem from_region (c : Dev nD) : (reg0 m).post c ⊢ iprop(StableHlo.held (c : Thread nD τ) (Pipeline.ucRefs τ sig) (V2 m (outs m) c) ∗ E m 1 c) := by
  show iprop(StableHlo.held (c.tc : Thread nD τ) (Pipeline.arrRefs spec0) (V2 m (outs m) c) ∗ (∃ r, prngReg c r)
    ∗ (StableHlo.held (c.tc : Thread nD τ) others (V2 m (outs m) c) ∗ emp) ∗ done0 c ∗ ∃ Wd, owes (c : Thread nD τ) (0 : CellTallies nD τ sig Unit) Wd) ⊢ _
  rw [split_held]
  unfold E
  rw [if_neg (by decide)]
  iintro ⟨HA, -, ⟨HB, -⟩, Hd, HO⟩
  isplitl [HA HB]
  · isplitl [HA]; · iexact HA
    iexact HB
  isplitl [Hd]; · iexact Hd
  iexact HO

theorem to_end (c : Dev nD) : iprop(StableHlo.held (c : Thread nD τ) (Pipeline.ucRefs τ sig) (V3 m (outs m) c) ∗ E m 1 c)
    ⊢ iprop(Tₙ m c ∗ ∃ W, owes (c.tc : Thread nD τ) (0 : CellTallies nD τ sig Unit) W) := by
  unfold E Tₙ
  rw [if_neg (by decide)]
  iintro ⟨Hh, Hb, HO⟩
  isplitr [HO]
  · isplitl [Hh]; · iexact Hh
    iexact Hb
  iexact HO

/-! ## The run -/

theorem only_bar : ∀ sm : SemLoc sig, sm.isScoped .tc = false → sm = .reg barS := by decide

/-- What a final state holds of one device. -/
def Ends (c : Dev nD) (s : MemSt nD τ sig (Elt F)) : Prop :=
  s.mem ((c.tc : Thread nD τ).loc main_v21) = V3 m (outs m) c main_v21
  ∧ (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

theorem read_end (c : Dev nD) (s' : Phys nD τ sig (Elt F)) : iprop(Tₙ m c ∗ SI s')
    ⊢ (|={Set.univ}=> iprop(⌜Ends m c s'.mem ∧ s'.mem.sem (barCell c) = 0⌝ ∗ SI s') : sProp 𝕄) := by
  dsimp only [Tₙ]
  unfold StableHlo.held
  iintro ⟨⟨Hh, Hb0⟩, HSI⟩
  icombine HSI Hb0 gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    refine ⟨⟨h (Proc.devRef .tc main_v21) (Finset.mem_filter.mpr ⟨StableHlo.devRef_mem_tcRefs main_v21, by decide⟩), ?_⟩, by simpa using hb⟩
    exact ⟨(h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c),
      (h (Proc.devRef .tc main_arg4) (Finset.mem_filter.mpr ⟨StableHlo.devRef_mem_tcRefs main_arg4, by decide⟩)).trans (V3_main_arg4 m (outs m) c)⟩
  · iexact HSI

set_option backward.isDefEq.respectTransparency.types false in
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (Gen.segs m (outs m) 𝒱₀ L lv (E m) () (pdats m) (reg0 m))
    (fun c Q => by
      rewrite [main_chain c, Seg.run_eq_chain,
        show (Gen.segs m (outs m) 𝒱₀ L lv (E m) () (pdats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [Gen.segs, Seg.pipes_host, Seg.pipes_region, Seg.pipes_nil]; decide)
    (O₀ := fun d => due d 0) (hL := L_of_ne) (G := Gx) (u₀ := u₀ (F := F))
    (hu₀ := by
      unfold u₀ Gx
      iintro Hu
      ihave H := (ownU_pair _ _) $$ Hu
      icases H with ⟨HP, HX⟩
      imodintro
      isplitl [HP]; · iexact HP
      rw [onDev_all]; iexact HX)
    (T₀ := T₀ m) (Tₙ := Tₙ m)
    (hch := fun c => ⟨.rfl, to_region m c, from_region m c, to_end m c⟩)
    (hinit := init m ρ)
    (QY := fun c s => Ends m c s ∧ s.sem (barCell c) = 0)
    (hfin := read_end m)
    (hQ := fun s h hs => ⟨fun c => (h c).1,
      sem_eq_zero hs fun c sm hsm => by
        obtain rfl := only_bar sm hsm
        exact (h c).2⟩)

end Cert.KI

end
-- ==== Proof.Frames.lean ====
/-
The frames: the kernel as printed, the kernel read over the extended reals, and the reference.
-/
module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.KI

open Idealize.ShloMosaic Idealize.ShloMosaic.TcCoe Idealize.SL.Sem

theorem main_same {F : FTy → Type} [FloatOps F] : Cert.Kernel.main (F := F) = Cert.KernelIdeal.main (F := F) := rfl
theorem body_same {F : FTy → Type} [FloatOps F] : @Cert.Kernel.cc0_body F _ _ = @Cert.KernelIdeal.cc0_body F _ _ := rfl
theorem bodies_same {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  obtain rfl : l = 0 := Fin.ext (Nat.lt_one_iff.mp l.isLt)
  funext x
  obtain ⟨t, s⟩ := x
  rfl
theorem defs_same {F : FTy → Type} [FloatOps F] : Cert.Kernel.defs (F := F) = Cert.KernelIdeal.defs (F := F) := by
  unfold Cert.Kernel.defs Cert.KernelIdeal.defs
  rw [bodies_same]; rfl

theorem frame_ideal : Cert.quiescent_KernelIdeal (hKernelIdeal := Cert.KernelIdeal.Gen.facts) := fun m g _ =>
  (θ_run _ _ _).mono (fun _ h => ⟨fun c => (h.1 c).2, h.2⟩) (run_main (F := Ideal) m g)

theorem frame_printed : Cert.quiescent_Kernel (hKernel := Cert.Kernel.Gen.facts) := fun m g _ => by
  have h := run_main (F := Bits) m g
  rw [← main_same, ← defs_same] at h
  exact (θ_run _ _ _).mono (fun _ h => ⟨fun c => (h.1 c).2, h.2⟩) h

theorem no_sems : ∀ s : SemLoc Cert.ReferenceIdeal.sig, False := by decide

theorem frame_reference : Cert.quiescent_ReferenceIdeal (hReferenceIdeal := Cert.ReferenceIdeal.Gen.facts) := fun m g _ =>
  (θ_run _ _ _).mono (fun _ h => ⟨fun c => (h c).2, funext fun s => (no_sems s.2).elim⟩) (Cert.ReferenceIdeal.Value.run (F := Ideal) m g)

end Cert.KI

end
-- ==== Proof.Soft.lean ====
/-
The softmax of one row of scores, and the sums that are cut into devices.

The kernel divides the exponentials of the scores by their sum; the reference first takes the row's maximum off every
score.  Over real scores the two agree.
-/
module

public import proofs.«01_k».proof.Proof.Geo
public import Idealize.ShloMosaic.Lib.Pointwise

@[expose] public section

noncomputable section

namespace Cert.KI

open Idealize.ShloMosaic Cert.KernelIdeal

theorem sum_real {ι : Type} (s : Finset ι) (r : ι → ℝ) : ∑ k ∈ s, (r k : EReal) = ((∑ k ∈ s, r k : ℝ) : EReal) := by
  classical
  induction s using Finset.induction_on with
  | empty => simp
  | insert a s h ih => rw [Finset.sum_insert h, Finset.sum_insert h, ih, EReal.coe_add]

/-- Taking a real number off every score changes no weight. -/
theorem soft_shift {n : ℕ} (r : Fin n → ℝ) (m : ℝ) (k : Fin n) :
    Ideal.div (Ideal.exp ((r k : EReal) - (m : EReal))) (∑ j, Ideal.exp ((r j : EReal) - (m : EReal)))
      = Ideal.div (Ideal.exp (r k : EReal)) (∑ j, Ideal.exp (r j : EReal)) := by
  have e1 : ∀ j, Ideal.exp ((r j : EReal) - (m : EReal)) = ((Real.exp (r j - m) : ℝ) : EReal) := fun j => by
    rw [← EReal.coe_sub, Ideal.exp_coe]
  have e2 : ∀ j, Ideal.exp (r j : EReal) = ((Real.exp (r j) : ℝ) : EReal) := fun j => Ideal.exp_coe _
  simp only [e1, e2, sum_real]
  have pos : ∀ f : Fin n → ℝ, 0 < ∑ j, Real.exp (f j) := fun f =>
    Finset.sum_pos (fun j _ => Real.exp_pos _) ⟨k, Finset.mem_univ _⟩
  rw [Ideal.div_coe (pos fun j => r j - m).ne', Ideal.div_coe (pos r).ne', ← EReal.coe_mul, ← EReal.coe_mul]
  have hs : ∑ j, Real.exp (r j - m) = (∑ j, Real.exp (r j)) / Real.exp m := by
    rw [Finset.sum_div]; exact Finset.sum_congr rfl fun j _ => Real.exp_sub _ _
  rw [hs, Real.exp_sub]
  have h1 := (pos r).ne'
  have h2 := (Real.exp_pos m).ne'
  congr 1
  field_simp

/-- The largest of finitely many real scores is a real number. -/
theorem max_real {n : ℕ} (r : Fin (n + 1) → ℝ) : ∃ m : ℝ, Finset.univ.fold max ⊥ (fun k => (r k : EReal)) = (m : EReal) := by
  obtain ⟨i, _, hi⟩ := Finset.exists_mem_eq_sup Finset.univ ⟨0, Finset.mem_univ _⟩ (fun k => (r k : EReal))
  exact ⟨r i, hi⟩

/-- A contraction of real numbers is a real number. -/
theorem dot_real {n : ℕ} (a b : Fin n → EReal) (ha : ∀ k, ∃ r : ℝ, a k = r) (hb : ∀ k, ∃ r : ℝ, b k = r) :
    ∃ r : ℝ, ∑ k, a k * b k = (r : EReal) := by
  choose x hx using ha
  choose y hy using hb
  refine ⟨∑ k, x k * y k, ?_⟩
  rw [← sum_real]
  exact Finset.sum_congr rfl fun k _ => by rw [hx, hy, EReal.coe_mul]

/-- The two halves of a group's devices, the groups counted from the group of `c`, are all devices. -/
def around (c : Dev nD) (e : Fin 16 × Fin 2) : Dev nD := if e.2 = 0 then nb c e.1.val else pr (nb c e.1.val)
set_option maxRecDepth 8192 in
theorem around_inj : ∀ c : Dev nD, Function.Injective (around c) := by decide +kernel
theorem around_bij (c : Dev nD) : Function.Bijective (around c) :=
  (Fintype.bijective_iff_injective_and_card _).mpr ⟨around_inj c, rfl⟩

theorem sum_around (c : Dev nD) (g : Dev nD → EReal) : ∑ e : Fin 16, (g (nb c e.val) + g (pr (nb c e.val))) = ∑ d : Dev nD, g d := by
  rw [← (around_bij c).sum_comp g, Fintype.sum_prod_type]
  refine Finset.sum_congr rfl fun e _ => ?_
  rw [Fin.sum_univ_two]; rfl

/-- Sixteen terms, the first and the others from the last down. -/
theorem sum_down (f : ℕ → EReal) : f 0 + f 15 + f 14 + f 13 + f 12 + f 11 + f 10 + f 9 + f 8 + f 7 + f 6 + f 5 + f 4 + f 3 + f 2 + f 1
    = ∑ e : Fin 16, f e.val := by
  simp only [Fin.sum_univ_succ, Fin.sum_univ_zero, Fin.val_zero, Fin.val_succ, Nat.reduceAdd, add_zero]
  ac_rfl

/-- Column `j` of device `c`, among all columns. -/
def col (c : Fin 32) (j : Fin 512) : Fin 16384 := ⟨512 * c.val + j.val, by omega⟩

/-- The 16384 columns, 512 per device. -/
theorem sum_columns (f : Fin 16384 → EReal) : ∑ c : Fin 32, ∑ j : Fin 512, f (col c j) = ∑ J : Fin 16384, f J := by
  rw [← Fintype.sum_prod_type' (f := fun (c : Fin 32) (j : Fin 512) => f (col c j))]
  refine Fintype.sum_equiv (finProdFinEquiv (m := 32) (n := 512)) _ _ fun x => congrArg f (Fin.ext ?_)
  show 512 * x.1.val + x.2.val = x.2.val + 512 * x.1.val
  omega

end Cert.KI

end
-- ==== Proof.ValueK.lean ====
/-
The kernel's values over the extended reals, read at an index.

`outG` is attention followed by the output projection, over whole arrays; every device's result is `outG`.
-/
module

public import proofs.«01_k».proof.Proof.Soft

@[expose] public section

noncomputable section

namespace Cert.KI

open Idealize.ShloMosaic Idealize.ShloMosaic.TcCoe
open Cert.KernelIdeal Cert.KernelIdeal.Gen

/-! ## Attention over whole arrays -/

/-- The block of 64 positions that position `i` lies in, as a word. -/
def blk (i : Fin 512) : BitVec 32 := BitVec.ofNat 32 (i.val / 64)
/-- Whether position `k` may be attended to from position `i`. -/
def msk (i k : Fin 512) : BitVec 1 := IntOp.cmpi .sle (blk k) (blk i)

/-- The score of position `k` seen from position `r`. -/
def score (Q K : Fin 512 → Fin 64 → EReal) (r k : Fin 512) : EReal :=
  Scalar.select (msk r k) ((∑ t, Q r t * K k t) * Ideal.ofBits .f32 0x3E000000#32) (Ideal.ofBits .f32 0xCE6E6B28#32)
/-- One head of attention. -/
def att (Q K V : Fin 512 → Fin 64 → EReal) (r : Fin 512) (t : Fin 64) : EReal :=
  ∑ k, Ideal.div (Ideal.exp (score Q K r k)) (∑ k', Ideal.exp (score Q K r k')) * V k t

/-- The five whole arrays. -/
structure Arrs where
  x : (⟨3, ![2, 512, 768]⟩ : Shape).Idx → EReal
  wq : (⟨2, ![768, 16384]⟩ : Shape).Idx → EReal
  k : (⟨4, ![2, 512, 256, 64]⟩ : Shape).Idx → EReal
  v : (⟨4, ![2, 512, 256, 64]⟩ : Shape).Idx → EReal
  wo : (⟨2, ![16384, 768]⟩ : Shape).Idx → EReal

variable (A : Arrs)

/-- The queries of head `H`. -/
def qG (b : Fin 2) (H : Fin 256) (r : Fin 512) (t : Fin 64) : EReal :=
  ∑ a : Fin 768, A.x (ix3 b r a) * A.wq (ix2 a ⟨64 * H.val + t.val, by omega⟩)
/-- Head `H` of the context. -/
def headG (b : Fin 2) (H : Fin 256) (r : Fin 512) (t : Fin 64) : EReal :=
  att (qG A b H) (fun k t => A.k (ix4 b k H t)) (fun k t => A.v (ix4 b k H t)) r t
/-- Column `J` of the context. -/
def ctxG (b : Fin 2) (r : Fin 512) (J : Fin 16384) : EReal :=
  headG A b ⟨J.val / 64, by omega⟩ r ⟨J.val % 64, by omega⟩
/-- The result. -/
def outG (b : Fin 2) (r : Fin 512) (d : Fin 768) : EReal := ∑ J : Fin 16384, ctxG A b r J * A.wo (ix2 J d)

/-- A device's operands are its parts of the whole arrays. -/
structure Part (c : Dev nD) (i : Inp Ideal) : Prop where
  x : ∀ b r a, i.x (ix3 b r a) = A.x (ix3 b r a)
  wq : ∀ a j, i.wq (ix2 a j) = A.wq (ix2 a (col c j))
  k : ∀ (b : Fin 2) (r : Fin 512) (h : Fin 8) (t : Fin 64), i.k (ix4 b r h t) = A.k (ix4 b r ⟨8 * c.val + h.val, by have := c.isLt; change c.val < 32 at this; omega⟩ t)
  v : ∀ (b : Fin 2) (r : Fin 512) (h : Fin 8) (t : Fin 64), i.v (ix4 b r h t) = A.v (ix4 b r ⟨8 * c.val + h.val, by have := c.isLt; change c.val < 32 at this; omega⟩ t)
  wo : ∀ j d, i.wo (ix2 j d) = A.wo (ix2 (col c j) d)

/-! ## The payloads -/

theorem pay1_at (i k : Fin 512) : k0_pay1 (ix2 i k) = blk i := by
  pointwise [k0_pay1]
  clear k
  revert i
  decide +kernel

theorem maskV_at (i k : Fin 512) : maskV (ix2 i k) = msk i k := by
  unfold maskV
  pointwise [k0_pay4, k0_pay3, k0_pay2]
  rw [pay1_at]
  unfold msk
  refine congrArg (fun w => IntOp.cmpi .sle w (blk i)) ?_
  clear i
  revert k
  decide +kernel

theorem pay5_at (x : Vec Ideal S1x512x768 .bf16) (w : Vec Ideal S768x512 .bf16) (r j : Fin 512) :
    k0_pay5 x w (ix2 r j) = ∑ a : Fin 768, x (ix3 0 r a) * w (ix2 a j) := by
  pointwise [k0_pay5]

theorem pay14_at (q : FVec Ideal S512x64 .bf16) (k v : Vec Ideal S1x512x1x64 .bf16) (r : Fin 512) (t : Fin 64) :
    k0_pay14 maskV q k v (ix2 r t)
      = att (fun r t => q (ix2 r t)) (fun r t => k (ix4 0 r 0 t)) (fun r t => v (ix4 0 r 0 t)) r t := by
  pointwise [k0_pay14]
  simp only [maskV_at]
  rfl

theorem pay23_at (x : Vec Ideal S512x512 .bf16) (w : Vec Ideal S512x768 .bf16) (r : Fin 512) (d : Fin 768) :
    k0_pay23 x w (ix2 r d) = ∑ j : Fin 512, x (ix2 r j) * w (ix2 j d) := by
  pointwise [k0_pay23]

theorem pay44_at (x y : Vec Ideal S512x768 .bf16) (r : Fin 512) (d : Fin 768) :
    k0_pay44 x y (ix2 r d) = x (ix2 r d) + y (ix2 r d) := by
  pointwise [k0_pay44]

/-! ## One device's share -/

theorem xAt_at (i : Inp Ideal) (b : Fin 2) (r : Fin 512) (a : Fin 768) : xAt i b (ix3 0 r a) = i.x (ix3 b r a) := by
  show i.x _ = i.x _
  refine congrArg i.x (funext fun n => ?_)
  match n with
  | 0 => exact Fin.ext (by show b.val + 1 * 0 = b.val; omega)
  | 1 => exact Fin.ext (by show 0 + 1 * r.val = r.val; omega)
  | 2 => exact Fin.ext (by show 0 + 1 * a.val = a.val; omega)
theorem kAt_at (i : Inp Ideal) (b : Fin 2) (h : ℕ) (r : Fin 512) (t : Fin 64) :
    kAt i b h (ix4 0 r 0 t) = i.k (ix4 b r ⟨h % 8, Nat.mod_lt _ (by decide)⟩ t) := by
  show i.k _ = i.k _
  refine congrArg i.k (funext fun n => ?_)
  match n with
  | 0 => exact Fin.ext (by show b.val + 1 * 0 = b.val; omega)
  | 1 => exact Fin.ext (by show 0 + 1 * r.val = r.val; omega)
  | 2 => exact Fin.ext (by show h % 8 + 1 * 0 = h % 8; omega)
  | 3 => exact Fin.ext (by show 0 + 1 * t.val = t.val; omega)
theorem vAt_at (i : Inp Ideal) (b : Fin 2) (h : ℕ) (r : Fin 512) (t : Fin 64) :
    vAt i b h (ix4 0 r 0 t) = i.v (ix4 b r ⟨h % 8, Nat.mod_lt _ (by decide)⟩ t) := by
  show i.v _ = i.v _
  refine congrArg i.v (funext fun n => ?_)
  match n with
  | 0 => exact Fin.ext (by show b.val + 1 * 0 = b.val; omega)
  | 1 => exact Fin.ext (by show 0 + 1 * r.val = r.val; omega)
  | 2 => exact Fin.ext (by show h % 8 + 1 * 0 = h % 8; omega)
  | 3 => exact Fin.ext (by show 0 + 1 * t.val = t.val; omega)
theorem slice_at (q : FVec Ideal S512x512 .bf16) (h : ℕ) (r : Fin 512) (t : Fin 64) :
    extractStridedSlice S512x64 ![0, 64 * (h % 8)] q (slicesQ h) (ix2 r t) = q (ix2 r ⟨64 * (h % 8) + t.val, by omega⟩) := by
  show q _ = q _
  refine congrArg q (funext fun n => ?_)
  match n with
  | 0 => exact Fin.ext (by show 0 + r.val = r.val; omega)
  | 1 => exact Fin.ext rfl

variable {A} {c : Dev nD} {i : Inp Ideal}

theorem qAt_at (p : Part A c i) (b : Fin 2) (r j : Fin 512) :
    qAt i b (ix2 r j) = ∑ a : Fin 768, A.x (ix3 b r a) * A.wq (ix2 a (col c j)) := by
  unfold qAt
  rw [pay5_at]
  exact Finset.sum_congr rfl fun a _ => by rw [xAt_at, p.x, p.wq]

theorem hd_at (p : Part A c i) (b : Fin 2) (h : ℕ) (hh : h < 8) (r : Fin 512) (t : Fin 64) :
    hd i b h (ix2 r t) = headG A b ⟨8 * c.val + h, by have := c.isLt; change c.val < 32 at this; omega⟩ r t := by
  have h8 : h % 8 = h := Nat.mod_eq_of_lt hh
  unfold hd headG
  rw [pay14_at]
  congr 1
  · funext r t
    rw [slice_at, qAt_at p]
    unfold qG col
    refine Finset.sum_congr rfl fun a _ => ?_
    congr 3
    exact Fin.ext (by show 512 * c.val + (64 * (h % 8) + t.val) = 64 * (8 * c.val + h) + t.val; omega)
  · funext r t
    rw [kAt_at, p.k]
    simp only [h8]
  · funext r t
    rw [vAt_at, p.v]
    simp only [h8]

theorem cat_at (p : Part A c i) (b : Fin 2) (r j : Fin 512) : cat i b (ix2 r j) = ctxG A b r (col c j) := by
  have hc := c.isLt
  change c.val < 32 at hc
  show hd i b (j.val / 64) (ix2 r ⟨j.val % 64, _⟩) = _
  rw [hd_at p b _ (by omega)]
  unfold ctxG col
  congr 1
  · exact Fin.ext (by show 8 * c.val + j.val / 64 = (512 * c.val + j.val) / 64; omega)
  · exact Fin.ext (by show j.val % 64 = (512 * c.val + j.val) % 64; omega)

theorem P_at (p : Part A c i) (b : Fin 2) (r : Fin 512) (d : Fin 768) :
    P i b (ix2 r d) = ∑ j : Fin 512, ctxG A b r (col c j) * A.wo (ix2 (col c j) d) := by
  unfold P
  rw [pay23_at]
  exact Finset.sum_congr rfl fun j _ => by rw [cat_at p, p.wo]

/-! ## The sum over the devices -/

variable {I : Dev nD → Inp Ideal}

theorem T_at (c : Dev nD) (q : Fin 32) (d : Fin 768) :
    T I c (ix2 q d) = ∑ e : Fin 16, M I (nb c e.val) (ix2 ⟨(32 * grp c + q.val) % 512, Nat.mod_lt _ (by decide)⟩ d) := by
  have h0 : nb c 0 = c := by revert c; decide
  unfold T
  pointwise [k0_pay48, k0_pay47, k0_pay46, k0_pay45]
  refine Eq.trans ?_ (sum_down fun e => M I (nb c e) (ix2 ⟨(32 * grp c + q.val) % 512, Nat.mod_lt _ (by decide)⟩ d))
  rw [h0]
  rfl

theorem ghAll_at (p : ∀ c, Part A c (I c)) (c : Dev nD) (r : Fin 512) (d : Fin 768) :
    ghAll I c (ix2 r d) = outG A (par c) r d := by
  show T I (mate c (r.val / 32)) (ix2 ⟨r.val % 32, _⟩ d) = _
  rw [T_at]
  have hg : grp (mate c (r.val / 32)) = r.val / 32 := by
    show (2 * ((r.val / 32) % 16) + c.val % 2) / 2 = r.val / 32; omega
  have hp : ∀ e, par (nb (mate c (r.val / 32)) e) = par c := fun e => by
    rw [par_nb]; exact Fin.ext (by show (2 * _ + c.val % 2) % 2 = c.val % 2; omega)
  have hr : (⟨(32 * grp (mate c (r.val / 32)) + r.val % 32) % 512, Nat.mod_lt _ (by decide)⟩ : Fin 512) = r :=
    Fin.ext (by rw [hg]; show (32 * (r.val / 32) + r.val % 32) % 512 = r.val; omega)
  have hM : ∀ e : Fin 16, M I (nb (mate c (r.val / 32)) e.val) (ix2 r d)
      = P (I (nb (mate c (r.val / 32)) e.val)) (par c) (ix2 r d) + P (I (pr (nb (mate c (r.val / 32)) e.val))) (par c) (ix2 r d) := fun e => by
    unfold M
    rw [pay44_at, hp]
  show ∑ e : Fin 16, M I (nb (mate c (r.val / 32)) e.val) (ix2 ⟨(32 * grp (mate c (r.val / 32)) + r.val % 32) % 512, _⟩ d) = _
  rw [hr, Finset.sum_congr rfl fun e _ => hM e, sum_around (mate c (r.val / 32)) fun c' => P (I c') (par c) (ix2 r d)]
  unfold outG
  rw [← sum_columns]
  exact Finset.sum_congr rfl fun c' _ => P_at (p c') _ _ _

theorem outAll_at (p : ∀ c, Part A c (I c)) (c : Dev nD) (r : Fin 1024) (d : Fin 768) :
    outAll I c (ix2 r d) = outG A ⟨r.val / 512, by omega⟩ ⟨r.val % 512, by omega⟩ d := by
  show (if r.val / 512 = (par c).val then ghAll I c (ix2 ⟨r.val % 512, _⟩ d) else ghAll I (pr c) (ix2 ⟨r.val % 512, _⟩ d)) = _
  have hp2 := (par c).isLt
  split
  · rename_i h
    rw [ghAll_at p]
    congr 1
    exact Fin.ext h.symm
  · rename_i h
    rw [ghAll_at p, par_pr]
    congr 1
    refine (Fin.ext ?_)
    show (1 - par c : Fin 2).val = r.val / 512
    have : ∀ q : Fin 2, (1 - q : Fin 2).val = 1 - q.val := by decide
    rw [this]
    omega

end Cert.KI

end
-- ==== Proof.Host.lean ====
/-
What a device's operands are of its arguments: its columns of the query weights, its rows of the output weights, and
the activations, keys and values as they are.
-/
module

public import proofs.«01_k».proof.Proof.Region
public import proofs.«01_k».proof.Proof.ValueK
public import Idealize.ShloMosaic.Lib.WordCmp
public import Idealize.ShloMosaic.Lib.Pointwise

@[expose] public section

noncomputable section

namespace Cert.KI

open Idealize.ShloMosaic Idealize.ShloMosaic.TcCoe Idealize.ShloMosaic.StableHlo
open Cert.KernelIdeal Cert.KernelIdeal.Gen

variable (m : (ℓ : Loc nD τ sig) → Buf (Elt Ideal) ℓ)

/-- The first column of a device, as the program computes it. -/
def start (c : Dev nD) : BitVec 32 :=
  let w := IntOp.muli (IntOp.remui .host (IntOp.divui .host (Dev.word c) 1#32) 32#32) 512#32
  Scalar.select (IntOp.cmpi .slt w 0#32) (IntOp.addi w 16384#32) w
theorem start_val : ∀ c : Dev nD, (start c).toInt = 512 * c.val := by decide +kernel

theorem V1_x (c : Dev nD) : V1 m c main_v17 = m ((c.tc : Thread nD τ).loc main_arg0) := by
  show StableHlo.after (hostOps0 c) (V0 m c) _ = _
  simp only [hostOps0]
  after_results_simp
  rfl
theorem V1_k (c : Dev nD) : V1 m c main_v18 = m ((c.tc : Thread nD τ).loc main_arg2) := by
  show StableHlo.after (hostOps0 c) (V0 m c) _ = _
  simp only [hostOps0]
  after_results_simp
  rfl
theorem V1_v (c : Dev nD) : V1 m c main_v19 = m ((c.tc : Thread nD τ).loc main_arg3) := by
  show StableHlo.after (hostOps0 c) (V0 m c) _ = _
  simp only [hostOps0]
  after_results_simp
  rfl

theorem cols_fit : ∀ c : Dev nD, S768x16384.Slices ![0, 512 * c.val] S768x512 := by decide +kernel
theorem rows_fit : ∀ c : Dev nD, S16384x768.Slices ![512 * c.val, 0] S512x768 := by decide +kernel

theorem slice_cols (x : FVec Ideal S768x16384 .f32) (f : Fin 2 → Int) (c : Dev nD) (h0 : f 0 = 0) (h1 : f 1 = 512 * c.val) (a : Fin 768) (j : Fin 512) :
    Host.dynamicSlice S768x512 x f sliceFits_S768x16384_S768x512 (ix2 a j) = x (ix2 a (col c j)) := by
  rw [WordCmp.dynamicSlice_eq_extract S768x512 x f _ ![0, 512 * c.val] (cols_fit c) (fun i => by fin_cases i <;> simp [h0, h1])]
  pointwise
  rfl
theorem slice_rows (x : FVec Ideal S16384x768 .f32) (f : Fin 2 → Int) (c : Dev nD) (h0 : f 0 = 512 * c.val) (h1 : f 1 = 0) (j : Fin 512) (d : Fin 768) :
    Host.dynamicSlice S512x768 x f sliceFits_S16384x768_S512x768 (ix2 j d) = x (ix2 (col c j) d) := by
  rw [WordCmp.dynamicSlice_eq_extract S512x768 x f _ ![512 * c.val, 0] (rows_fit c) (fun i => by fin_cases i <;> simp [h0, h1])]
  pointwise
  rfl

theorem V1_wq (c : Dev nD) (a : Fin 768) (j : Fin 512) :
    V1 m c main_v10 (ix2 a j) = m ((c.tc : Thread nD τ).loc main_arg1) (ix2 a (col c j)) := by
  show StableHlo.after (hostOps0 c) (V0 m c) _ _ = _
  simp only [hostOps0]
  after_results_simp
  refine slice_cols _ _ c ?_ ?_ a j
  · simp only [Matrix.cons_val_zero]
    after_results_simp
    rfl
  · simp only [Matrix.cons_val_one, Matrix.cons_val_fin_one]
    after_results_simp
    exact start_val c

theorem read_zero (h) (W : (b : DevRef τ sig) → b.ty.Contents (Elt Ideal)) :
    (nullary (τ := τ) (Val := Elt Ideal) main_c_8 (constantI S_ 32 0#32) h).result W (Proc.tc.devRef main_c_8) = constantI S_ 32 0#32 := by
  after_results_simp

theorem V1_wo (c : Dev nD) (j : Fin 512) (d : Fin 768) :
    V1 m c main_v16 (ix2 j d) = m ((c.tc : Thread nD τ).loc main_arg4) (ix2 (col c j) d) := by
  show StableHlo.after (hostOps0 c) (V0 m c) _ _ = _
  simp only [hostOps0]
  after_results_simp
  refine slice_rows _ _ c ?_ ?_ j d
  · simp only [Matrix.cons_val_zero]
    after_results_simp
    exact start_val c
  · exact congrArg (fun f : IVec S_ 32 => (f (Shape.Idx.first h_S_)).toInt) (read_zero _ _)

/-- What a device is handed, when its arguments are its part of `A`. -/
theorem part_ops (A : Arrs) (c : Dev nD)
    (h0 : m ((c.tc : Thread nD τ).loc main_arg0) = A.x) (h1 : m ((c.tc : Thread nD τ).loc main_arg1) = A.wq) (h4 : m ((c.tc : Thread nD τ).loc main_arg4) = A.wo)
    (h2 : ∀ (b : Fin 2) (r : Fin 512) (h : Fin 8) (t : Fin 64),
      m ((c.tc : Thread nD τ).loc main_arg2) (ix4 b r h t) = A.k (ix4 b r ⟨8 * c.val + h.val, by have : c.val < 32 := c.isLt; omega⟩ t))
    (h3 : ∀ (b : Fin 2) (r : Fin 512) (h : Fin 8) (t : Fin 64),
      m ((c.tc : Thread nD τ).loc main_arg3) (ix4 b r h t) = A.v (ix4 b r ⟨8 * c.val + h.val, by have : c.val < 32 := c.isLt; omega⟩ t)) :
    Part A c (ops m c) where
  x b r a := by show V1 m c main_v17 _ = _; rw [V1_x, h0]
  wq a j := by show V1 m c main_v10 _ = _; rw [V1_wq, h1]
  k b r h t := by show V1 m c main_v18 _ = _; rw [V1_k]; exact h2 b r h t
  v b r h t := by show V1 m c main_v19 _ = _; rw [V1_v]; exact h3 b r h t
  wo j d := by show V1 m c main_v16 _ = _; rw [V1_wo, h4]

theorem cast_rows (y : FVec Ideal S1024x768 .f32) (b : Fin 2) (r : Fin 512) (d : Fin 768) :
    shapeCast S2x512x768 y shapeCasts_S1024x768_S2x512x768 (ix3 b r d) = y (ix2 ⟨512 * b.val + r.val, by omega⟩ d) := by
  pointwise
  simp only [Nat.mul_comm b.val 512]

/-- The program's result is the kernel's, its rows dealt to the two batches. -/
theorem V3_at (c : Dev nD) (b : Fin 2) (r : Fin 512) (d : Fin 768) :
    V3 m (outs m) c main_v21 (ix3 b r d) = outAll (ops m) c (ix2 ⟨512 * b.val + r.val, by omega⟩ d) := by
  rw [← V2_out m c]
  show StableHlo.after hostOps1 (V2 m (outs m) c) _ _ = _
  simp only [hostOps1]
  after_results_simp
  generalize V2 m (outs m) c (Proc.tc.devRef main_v20) = y
  exact cast_rows y b r d

end Cert.KI

end
-- ==== Proof.ValueR.lean ====
/-
The reference's value over the extended reals, read at an index.
-/
module

public import proofs.«01_k».proof.Proof.Gen.ReferenceIdeal.Run
public import proofs.«01_k».proof.Proof.ValueK

@[expose] public section

noncomputable section

namespace Cert.KI.Ref

open Idealize.ShloMosaic Idealize.ShloMosaic.TcCoe
open Cert.ReferenceIdeal Cert.ReferenceIdeal.Gen

variable {F : FTy → Type} [FloatOps F]

/-- The positions divided by 64. -/
def flR : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))
/-- The block-causal mask. -/
def maskR : IVec S512x512 1 :=
  cmpi .sle (broadcastInDim S512x512 ![0, 1] bcast_S1x512_S512x512_0_1 (broadcastInDim S1x512 ![1] bcast_S512_S1x512_1 flR))
    (broadcastInDim S512x512 ![0, 1] bcast_S512x1_S512x512_0_1 (broadcastInDim S512x1 ![0] bcast_S512_S512x1_0 flR))
/-- The masked scores. -/
def scR (x : FVec F S2x512x768 .f32) (wq : FVec F S768x16384 .f32) (k : FVec F S2x512x256x64 .f32) : FVec F S2x256x512x512 .f32 :=
  select (broadcastInDim S2x256x512x512 ![0, 1, 2, 3] bcast_S1x1x512x512_S2x256x512x512_0_1_2_3 (broadcastInDim S1x1x512x512 ![2, 3] bcast_S512x512_S1x1x512x512_2_3 maskR))
    (mulf (Host.dotGeneral dot_S2x512x256x64_S2x512x256x64_S2x256x512x512_3_3_1_1_02_02 none
        (shapeCast S2x512x256x64 (Host.dotGeneral dot_S2x512x768_S768x16384_S2x512x16384_2_0_01_1_n_n none x wq) shapeCasts_S2x512x16384_S2x512x256x64) k)
      (broadcastInDim S2x256x512x512 ![] bcast_S_S2x256x512x512 (constant S_ .f32 0x3E000000#32)))
    (broadcastInDim S2x256x512x512 ![] bcast_S_S2x256x512x512 (id (constant S_ .f32 0xCE6E6B28#32)))
/-- The largest score of each row. -/
def topR (s : FVec F S2x256x512x512 .f32) : FVec F S2x256x512 .f32 :=
  Host.reduce FloatOps.maximumf s (constant S_ .f32 0xFF800000#32) reducesTo_S2x256x512x512_S2x256x512_d3 h_S_
/-- The exponentials. -/
def expR (s : FVec F S2x256x512x512 .f32) : FVec F S2x256x512x512 .f32 :=
  Host.exp (subf s (broadcastInDim S2x256x512x512 ![0, 1, 2, 3] bcast_S2x256x512x1_S2x256x512x512_0_1_2_3
    (broadcastInDim S2x256x512x1 ![0, 1, 2] bcast_S2x256x512_S2x256x512x1_0_1_2 (topR s))))
/-- Whether a row has a position left. -/
def keepR : IVec S512 1 := Host.reduce IntOp.ori maskR (constantI S_ 1 0#1) reducesTo_S512x512_S512_d1 h_S_
/-- The weights. -/
def wR (e : FVec F S2x256x512x512 .f32) : FVec F S2x256x512x512 .f32 :=
  select (broadcastInDim S2x256x512x512 ![0, 1, 2, 3] bcast_S1x1x512x1_S2x256x512x512_0_1_2_3 (broadcastInDim S1x1x512x1 ![2] bcast_S512_S1x1x512x1_2 keepR))
    (Host.divf e (broadcastInDim S2x256x512x512 ![0, 1, 2, 3] bcast_S2x256x512x1_S2x256x512x512_0_1_2_3
      (select (broadcastInDim S2x256x512x1 ![0, 1, 2, 3] bcast_S1x1x512x1_S2x256x512x1_0_1_2_3 (broadcastInDim S1x1x512x1 ![2] bcast_S512_S1x1x512x1_2 keepR))
        (broadcastInDim S2x256x512x1 ![0, 1, 2] bcast_S2x256x512_S2x256x512x1_0_1_2 (Host.reduceAdd e (constant S_ .f32 0x00000000#32) reducesTo_S2x256x512x512_S2x256x512_d3 h_S_))
        (broadcastInDim S2x256x512x1 ![] bcast_S_S2x256x512x1 (id (constant S_ .f32 0x3F800000#32))))))
    (broadcastInDim S2x256x512x512 ![] bcast_S_S2x256x512x512 (id (constant S_ .f32 0x00000000#32)))
/-- The context, and its projection. -/
def endR (v : FVec F S2x512x256x64 .f32) (w : FVec F S2x256x512x512 .f32) (wo : FVec F S16384x768 .f32) : FVec F S2x512x768 .f32 :=
  Host.dotGeneral dot_S2x512x16384_S16384x768_S2x512x768_2_0_01_1_n_n none
    (shapeCast S2x512x16384 (transpose S2x512x256x64 [0, 3, 1, 2] (Host.dotGeneral dot_S2x512x256x64_S2x256x512x512_S2x256x64x512_1_3_3_2_02_01 none v w)
      transposes_S2x256x64x512_S2x512x256x64_0_3_1_2) shapeCasts_S2x512x256x64_S2x512x16384) wo

theorem res_eq (m : (ℓ : Loc nD τ sig) → Buf (Elt F) ℓ) (c : Dev nD) : Cert.ReferenceIdeal.Value.res_main_v33 m c
    = endR (m ((c.tc : Thread nD τ).loc main_arg3))
        (wR (expR (scR (m ((c.tc : Thread nD τ).loc main_arg0)) (m ((c.tc : Thread nD τ).loc main_arg1)) (m ((c.tc : Thread nD τ).loc main_arg2)))))
        (m ((c.tc : Thread nD τ).loc main_arg4)) := by
  unfold Cert.ReferenceIdeal.Value.res_main_v33 endR wR expR topR keepR scR maskR flR
  rfl

/-! ## At an index -/

theorem flR_at (i : Fin 512) : flR (ix1 i) = blk i := by
  pointwise [flR]
  revert i
  decide +kernel

theorem maskR_at (i k : Fin 512) : maskR (ix2 i k) = msk i k := by
  pointwise [maskR]
  rw [flR_at, flR_at]; rfl

theorem real_eighth : ∃ r : ℝ, Ideal.ofBits .f32 0x3E000000#32 = (r : EReal) := by
  simp [Ideal.ofBits, Ideal.ieee]
  exact ⟨_, rfl⟩
theorem real_low : ∃ r : ℝ, Ideal.ofBits .f32 0xCE6E6B28#32 = (r : EReal) := by
  simp [Ideal.ofBits, Ideal.ieee]
  exact ⟨_, rfl⟩
theorem bits_bot : Ideal.ofBits .f32 0xFF800000#32 = ⊥ := by simp [Ideal.ofBits, Ideal.ieee]

theorem scR_at (x : FVec Ideal S2x512x768 .f32) (wq : FVec Ideal S768x16384 .f32) (k : FVec Ideal S2x512x256x64 .f32)
    (v : FVec Ideal S2x512x256x64 .f32) (wo : FVec Ideal S16384x768 .f32) (b : Fin 2) (H : Fin 256) (i j : Fin 512) :
    scR x wq k (ix4 b H i j) = score (qG ⟨x, wq, k, v, wo⟩ b H) (fun j t => k (ix4 b j H t)) i j := by
  pointwise [scR]
  rw [maskR_at]
  unfold score qG
  simp only [Nat.mul_comm H.val 64]
  rfl

theorem topR_at (s : FVec Ideal S2x256x512x512 .f32) (b : Fin 2) (H : Fin 256) (i : Fin 512) :
    topR s (ix3 b H i) = Finset.univ.fold max ⊥ fun j => s (ix4 b H i j) := by
  pointwise [topR]
  rw [bits_bot]
theorem expR_at (s : FVec Ideal S2x256x512x512 .f32) (b : Fin 2) (H : Fin 256) (i j : Fin 512) :
    expR s (ix4 b H i j) = Ideal.exp (s (ix4 b H i j) - topR s (ix3 b H i)) := by
  pointwise [expR]

theorem msk_first : ∀ i : Fin 512, msk i 0 = 1#1 := by decide +kernel
theorem or_one : ∀ w : BitVec 1, IntOp.ori 1#1 w = 1#1 := by decide

/-- Every row has a position left: the first one. -/
theorem keepR_at (i : Fin 512) : keepR (ix1 i) = 1#1 := by
  pointwise [keepR]
  rw [← Finset.insert_erase (Finset.mem_univ (0 : Fin 512)), Finset.fold_insert (Finset.notMem_erase _ _), maskR_at, msk_first, or_one]

theorem wR_at (e : FVec Ideal S2x256x512x512 .f32) (b : Fin 2) (H : Fin 256) (i j : Fin 512) :
    wR e (ix4 b H i j) = Ideal.div (e (ix4 b H i j)) (∑ j', e (ix4 b H i j')) := by
  pointwise [wR]
  rw [keepR_at]
  rfl

/-- Real scores have the same weights with or without the row's maximum taken off. -/
theorem weights_at (s : FVec Ideal S2x256x512x512 .f32) (b : Fin 2) (H : Fin 256) (i : Fin 512) (hs : ∀ j, ∃ r : ℝ, s (ix4 b H i j) = r) (j : Fin 512) :
    wR (expR s) (ix4 b H i j) = Ideal.div (Ideal.exp (s (ix4 b H i j))) (∑ j', Ideal.exp (s (ix4 b H i j'))) := by
  choose r hr using hs
  obtain ⟨M, hM⟩ := max_real r
  have ht : topR s (ix3 b H i) = (M : EReal) := by
    rw [topR_at, ← hM]
    exact congrArg (fun f => Finset.univ.fold max ⊥ f) (funext hr)
  rw [wR_at]
  simp only [expR_at, ht, hr]
  exact soft_shift r M j

theorem endR_at (v : FVec Ideal S2x512x256x64 .f32) (w : FVec Ideal S2x256x512x512 .f32) (wo : FVec Ideal S16384x768 .f32) (b : Fin 2) (r : Fin 512) (d : Fin 768) :
    endR v w wo (ix3 b r d) = ∑ J : Fin 16384, (∑ k : Fin 512, w (ix4 b ⟨J.val / 64, by omega⟩ r k) * v (ix4 b k ⟨J.val / 64, by omega⟩ ⟨J.val % 64, by omega⟩)) * wo (ix2 J d) := by
  pointwise [endR]
  simp only [mul_comm (v _)]

theorem score_real (Q K : Fin 512 → Fin 64 → EReal) (r k : Fin 512) (hQ : ∀ t, ∃ x : ℝ, Q r t = x) (hK : ∀ t, ∃ x : ℝ, K k t = x) :
    ∃ x : ℝ, score Q K r k = x := by
  obtain ⟨a, ha⟩ := dot_real _ _ hQ hK
  obtain ⟨e, he⟩ := real_eighth
  obtain ⟨l, hl⟩ := real_low
  unfold score
  rw [ha, he, hl]
  unfold Scalar.select
  split
  · exact ⟨a * e, (EReal.coe_mul _ _).symm⟩
  · exact ⟨l, rfl⟩

/-- The reference's result, where the activations, the query weights and the keys are real. -/
theorem ref_at (x : FVec Ideal S2x512x768 .f32) (wq : FVec Ideal S768x16384 .f32) (k v : FVec Ideal S2x512x256x64 .f32) (wo : FVec Ideal S16384x768 .f32)
    (hx : ∀ j, ∃ r : ℝ, x j = r) (hq : ∀ j, ∃ r : ℝ, wq j = r) (hk : ∀ j, ∃ r : ℝ, k j = r) (b : Fin 2) (r : Fin 512) (d : Fin 768) :
    endR v (wR (expR (scR x wq k))) wo (ix3 b r d) = outG ⟨x, wq, k, v, wo⟩ b r d := by
  have hs : ∀ H j, ∃ y : ℝ, scR x wq k (ix4 b H r j) = y := fun H j => by
    rw [scR_at x wq k v wo]
    exact score_real _ _ _ _ (fun t => dot_real _ _ (fun a => hx _) fun a => hq _) fun t => hk _
  have hw : ∀ H j, wR (expR (scR x wq k)) (ix4 b H r j) =
      Ideal.div (Ideal.exp (score (qG ⟨x, wq, k, v, wo⟩ b H) (fun j t => k (ix4 b j H t)) r j))
        (∑ j', Ideal.exp (score (qG ⟨x, wq, k, v, wo⟩ b H) (fun j t => k (ix4 b j H t)) r j')) := fun H j => by
    rw [weights_at _ _ _ _ (hs _)]
    simp only [scR_at x wq k v wo]
  rw [endR_at]
  simp only [hw]
  unfold outG ctxG headG att
  rfl

end Cert.KI.Ref

end
-- ==== Proof.Value.lean ====
/-
The value claim: where the activations, the query weights and the keys are real numbers, every device ends with the
reference's result.
-/
module

public import proofs.«01_k».proof.Proof.Frames
public import proofs.«01_k».proof.Proof.Host
public import proofs.«01_k».proof.Proof.ValueR
public import Idealize.ShloMosaic.Lib.LayoutAt

@[expose] public section

noncomputable section

namespace Cert.KI

open Idealize.ShloMosaic Idealize.ShloMosaic.TcCoe Idealize.SL.Sem
open Cert.KernelIdeal Cert.KernelIdeal.Gen

theorem facts_kernel : Cert.Pre_finite_KernelIdeal.Facts := ⟨by decide, by decide, by decide⟩
theorem facts_reference : Cert.Pre_finite_ReferenceIdeal.Facts := ⟨by decide, by decide, by decide⟩

theorem bits_top : Ideal.ofBits .f32 0x7F800000#32 = ⊤ := by simp [Ideal.ofBits, Ideal.ieee]

/-- An extended real whose absolute value is below `+∞` is a real number. -/
theorem real_of (a : EReal) (h : Ideal.cmp .olt (max a (-a)) (Ideal.ofBits .f32 0x7F800000#32) = 1#1) : ∃ r : ℝ, a = r := by
  rw [bits_top] at h
  have hl : max a (-a) < ⊤ := by
    by_contra hn
    simp [Ideal.cmp, hn] at h
  rw [max_lt_iff] at hl
  induction a with
  | bot => exact absurd hl.2 (by simp)
  | top => exact absurd hl.1 (by simp)
  | coe r => exact ⟨r, rfl⟩

/-- What the precondition says of one array. -/
theorem real_array {s : Shape} (h : (⟨0, ![]⟩ : Shape).BroadcastsInDim s ![]) (x : FVec Ideal s .f32)
    (e : cmpf .olt (Host.absf x) (broadcastInDim s ![] h (constant ⟨0, ![]⟩ .f32 0x7F800000#32)) = fun _ => 1#1) (j : s.Idx) : ∃ r : ℝ, x j = r :=
  real_of (x j) (congrFun e j)

/-- A device's block of the keys or the values, at an index. -/
theorem block_at (v : (⟨4, ![2, 512, 256, 64]⟩ : Shape).Idx → EReal) (c : Dev nD) (b : Fin 2) (r : Fin 512) (h : Fin 8) (t : Fin 64) :
    Layout.block ⟨4, ![2, 512, 8, 64]⟩ ⟨4, ![2, 512, 256, 64]⟩ 2 32 c v (by decide) (ix4 b r h t)
      = v (ix4 b r ⟨8 * c.val + h.val, by have : c.val < 32 := c.isLt; omega⟩ t) := by
  refine congrArg v (funext fun i => Fin.ext ?_)
  match i with
  | ⟨0, _⟩ => rfl
  | ⟨1, _⟩ => rfl
  | ⟨2, _⟩ =>
    show c.val * 8 + h.val = 8 * c.val + h.val
    omega
  | ⟨3, _⟩ => rfl

/-- Keys that are real on every device are real. -/
theorem real_blocks (v : (⟨4, ![2, 512, 256, 64]⟩ : Shape).Idx → EReal)
    (h : ∀ (c : Dev nD) (j : (⟨4, ![2, 512, 8, 64]⟩ : Shape).Idx), ∃ r : ℝ, Layout.block ⟨4, ![2, 512, 8, 64]⟩ ⟨4, ![2, 512, 256, 64]⟩ 2 32 c v (by decide) j = r)
    (j : (⟨4, ![2, 512, 256, 64]⟩ : Shape).Idx) : ∃ r : ℝ, v j = r := by
  have h2 : (j 2).val < 256 := (j 2).isLt
  obtain ⟨r, hr⟩ := h ⟨(j 2).val / 8, by show _ < 32; omega⟩ (ix4 (j 0) (j 1) ⟨(j 2).val % 8, by omega⟩ (j 3))
  refine ⟨r, (congrArg v (eq_ix4 j)).trans (Eq.trans ?_ ((block_at v ⟨(j 2).val / 8, by show _ < 32; omega⟩ (j 0) (j 1) ⟨(j 2).val % 8, by omega⟩ (j 3)).symm.trans hr))⟩
  refine congrArg (fun n : Fin 256 => v (ix4 (j 0) (j 1) n (j 3))) (Fin.ext ?_)
  show (j 2).val = 8 * ((j 2).val / 8) + (j 2).val % 8
  omega

theorem same_result (A : Arrs) (y z : (⟨3, ![2, 512, 768]⟩ : Shape).Idx → EReal)
    (hy : ∀ (b : Fin 2) (r : Fin 512) (d : Fin 768), y (ix3 b r d) = outG A b r d)
    (hz : ∀ (b : Fin 2) (r : Fin 512) (d : Fin 768), z (ix3 b r d) = outG A b r d) : y = z := by
  funext j
  rw [eq_ix3 j]
  exact (hy _ _ _).trans (hz _ _ _).symm

/-- The kernel's result on a device, of the whole arrays. -/
theorem kernel_at (m : (ℓ : Loc nD τ sig) → Buf (Elt Ideal) ℓ) (A : Arrs) (p : ∀ c, Part A c (ops m c)) (c : Dev nD) (b : Fin 2) (r : Fin 512) (d : Fin 768) :
    V3 m (outs m) c main_v21 (ix3 b r d) = outG A b r d := by
  have h1 : (512 * b.val + r.val) / 512 = b.val := by omega
  have h2 : (512 * b.val + r.val) % 512 = r.val := by omega
  rw [V3_at, outAll_at p]
  exact congrArg₂ (fun (b : Fin 2) (r : Fin 512) => outG A b r d) (Fin.ext h1) (Fin.ext h2)

/-- Every device ends with the reference's result. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := facts_kernel) := by
  intro m g m' g' pre arg
  let A : Arrs := ⟨m' (((0 : Dev Cert.ReferenceIdeal.nD).tc : Thread Cert.ReferenceIdeal.nD Cert.ReferenceIdeal.τ).loc Cert.ReferenceIdeal.main_arg0),
    m' (((0 : Dev Cert.ReferenceIdeal.nD).tc : Thread Cert.ReferenceIdeal.nD Cert.ReferenceIdeal.τ).loc Cert.ReferenceIdeal.main_arg1),
    m' (((0 : Dev Cert.ReferenceIdeal.nD).tc : Thread Cert.ReferenceIdeal.nD Cert.ReferenceIdeal.τ).loc Cert.ReferenceIdeal.main_arg2),
    m' (((0 : Dev Cert.ReferenceIdeal.nD).tc : Thread Cert.ReferenceIdeal.nD Cert.ReferenceIdeal.τ).loc Cert.ReferenceIdeal.main_arg3),
    m' (((0 : Dev Cert.ReferenceIdeal.nD).tc : Thread Cert.ReferenceIdeal.nD Cert.ReferenceIdeal.τ).loc Cert.ReferenceIdeal.main_arg4)⟩
  have hp : ∀ c, Part A c (ops m c) := fun c => part_ops m A c (arg c).1 (arg c).2.1 (arg c).2.2.2.2
    (fun b r h t => by rw [(arg c).2.2.1]; exact block_at _ c b r h t)
    (fun b r h t => by rw [(arg c).2.2.2.1]; exact block_at _ c b r h t)
  have hx : ∀ j, ∃ r : ℝ, A.x j = r := fun j => by
    have h := real_array _ _ (pre 0).1 j
    rwa [(arg 0).1] at h
  have hq : ∀ j, ∃ r : ℝ, A.wq j = r := fun j => by
    have h := real_array _ _ (pre 0).2.1 j
    rwa [(arg 0).2.1] at h
  have hk : ∀ j, ∃ r : ℝ, A.k j = r := real_blocks A.k fun c j => by
    have h := real_array _ _ (pre c).2.2 j
    rwa [(arg c).2.2.1] at h
  have hv : ∀ c, V3 m (outs m) c main_v21 = Cert.ReferenceIdeal.Value.res_main_v33 m' 0 := fun c =>
    same_result A _ _ (kernel_at m A hp c) fun b r d =>
      (congrFun (Ref.res_eq m' 0) (ix3 b r d)).trans (Ref.ref_at A.x A.wq A.k A.v A.wo hx hq hk b r d)
  exact ⟨Cert.ReferenceIdeal.Value.res_main_v33 m' 0,
    (θ_run _ _ _).mono (fun _ h c => ⟨(h.1 c).1.trans (hv c), (h.1 c).2⟩) (run_main (F := Ideal) m g),
    (θ_run _ _ _).mono (fun _ h => h 0) (Cert.ReferenceIdeal.Value.run (F := Ideal) m' g')⟩

end Cert.KI

end
-- ==== Proof.lean ====
module

public import proofs.«01_k».proof.Defs
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.KI.facts_kernel, Cert.KI.facts_reference,
  Cert.KI.frame_printed, Cert.KI.frame_ideal, fun m g _ => Cert.KI.frame_ideal m g trivial,
  Cert.KI.frame_reference, fun m g _ => Cert.KI.frame_reference m g trivial, trivial, Cert.KI.value⟩

end Cert.Proof

end
